-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![2048, 4096]⟩ ⟨2, ![8192, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S8192x4096 : Shape := ⟨2, ![8192, 4096]⟩
abbrev S2048x4096 : Shape := ⟨2, ![2048, 4096]⟩
abbrev S4x2048x2048 : Shape := ⟨3, ![4, 2048, 2048]⟩
abbrev S2x256x2048 : Shape := ⟨3, ![2, 256, 2048]⟩
abbrev S2048x2048 : Shape := ⟨2, ![2048, 2048]⟩
abbrev S2x2048x512 : Shape := ⟨3, ![2, 2048, 512]⟩
abbrev S2 : Shape := ⟨1, ![2]⟩
abbrev S_ : Shape := ⟨0, ![]⟩
abbrev S4 : Shape := ⟨1, ![4]⟩
abbrev S5 : Shape := ⟨1, ![5]⟩
abbrev S1 : Shape := ⟨1, ![1]⟩
abbrev S1x256x2048 : Shape := ⟨3, ![1, 256, 2048]⟩
abbrev S256x2048 : Shape := ⟨2, ![256, 2048]⟩
abbrev S1x2048x2048 : Shape := ⟨3, ![1, 2048, 2048]⟩
abbrev S1x2048x512 : Shape := ⟨3, ![1, 2048, 512]⟩
abbrev S2048x512 : Shape := ⟨2, ![2048, 512]⟩
abbrev S1x1024x2048 : Shape := ⟨3, ![1, 1024, 2048]⟩
abbrev S1024x2048 : Shape := ⟨2, ![1024, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S2048x4096, .f32⟩
  | .hbm, ⟨3, _⟩ => ⟨S8192x2048, .bf16⟩
  | .hbm, ⟨4, _⟩ => ⟨S4x2048x2048, .bf16⟩
  | .local _ .vmem, ⟨0, _⟩ => ⟨S2048x4096, .f32⟩
  | .local _ .vmem, ⟨1, _⟩ => ⟨S2x256x2048, .f32⟩
  | .local _ .vmem, ⟨2, _⟩ => ⟨S2x256x2048, .bf16⟩
  | .local _ .vmem, ⟨3, _⟩ => ⟨S2048x2048, .bf16⟩
  | .local _ .vmem, ⟨4, _⟩ => ⟨S2x2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v37 : BitVec 32 := Scalar.addi v2 c1_i32_18
  let c4_i32_19 : BitVec 32 := 4#32
  let c0_i32_20 : BitVec 32 := 0#32
  let v38 : BitVec 1 := Scalar.cmpi .eq c4_i32_19 c0_i32_20
  let c1_i32_21 : BitVec 32 := 1#32
  let v39 : BitVec 32 := Scalar.select v38 c1_i32_21 c4_i32_19
  let v40 : BitVec 32 := Scalar.remsi v37 v39
  let c0_i32_23 : BitVec 32 := 0#32
  let v42 : BitVec 1 := Scalar.cmpi .slt v40 c0_i32_23
  let c0_i32_24 : BitVec 32 := 0#32
  let v43 : BitVec 1 := Scalar.cmpi .slt v39 c0_i32_24
  let v44 : BitVec 1 := Scalar.xori v42 v43
  let c0_i32_22 : BitVec 32 := 0#32
  let v41 : BitVec 1 := Scalar.cmpi .ne v40 c0_i32_22
  let v45 : BitVec 1 := Scalar.andi v44 v41
  let v46 : BitVec 32 := Scalar.addi v40 v39
  let v47 : BitVec 32 := Scalar.select v45 v46 v40
  let c1_i32_26 : BitVec 32 := 1#32
  let v48 : BitVec 32 := Scalar.muli v47 c1_i32_26
  let v49 : BitVec 32 := Scalar.addi c0_i32_27 v48
  v49.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_28 : BitVec 32 := 2#32
  let v50 : BitVec 32 := Scalar.addi v2 c2_i32_28
  let c4_i32_29 : BitVec 32 := 4#32
  let c0_i32_30 : BitVec 32 := 0#32
  let v51 : BitVec 1 := Scalar.cmpi .eq c4_i32_29 c0_i32_30
  let c1_i32_31 : BitVec 32 := 1#32
  let v52 : BitVec 32 := Scalar.select v51 c1_i32_31 c4_i32_29
  let v53 : BitVec 32 := Scalar.remsi v50 v52
  let c0_i32_33 : BitVec 32 := 0#32
  let v55 : BitVec 1 := Scalar.cmpi .slt v53 c0_i32_33
  let c0_i32_34 : BitVec 32 := 0#32
  let v56 : BitVec 1 := Scalar.cmpi .slt v52 c0_i32_34
  let v57 : BitVec 1 := Scalar.xori v55 v56
  let c0_i32_32 : BitVec 32 := 0#32
  let v54 : BitVec 1 := Scalar.cmpi .ne v53 c0_i32_32
  let v58 : BitVec 1 := Scalar.andi v57 v54
  let v59 : BitVec 32 := Scalar.addi v53 v52
  let v60 : BitVec 32 := Scalar.select v58 v59 v53
  let c1_i32_36 : BitVec 32 := 1#32
  let v61 : BitVec 32 := Scalar.muli v60 c1_i32_36
  let v62 : BitVec 32 := Scalar.addi c0_i32_37 v61
  v62.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_38 : BitVec 32 := 3#32
  let v63 : BitVec 32 := Scalar.addi v2 c3_i32_38
  let c4_i32_39 : BitVec 32 := 4#32
  let c0_i32_40 : BitVec 32 := 0#32
  let v64 : BitVec 1 := Scalar.cmpi .eq c4_i32_39 c0_i32_40
  let c1_i32_41 : BitVec 32 := 1#32
  let v65 : BitVec 32 := Scalar.select v64 c1_i32_41 c4_i32_39
  let v66 : BitVec 32 := Scalar.remsi v63 v65
  let c0_i32_43 : BitVec 32 := 0#32
  let v68 : BitVec 1 := Scalar.cmpi .slt v66 c0_i32_43
  let c0_i32_44 : BitVec 32 := 0#32
  let v69 : BitVec 1 := Scalar.cmpi .slt v65 c0_i32_44
  let v70 : BitVec 1 := Scalar.xori v68 v69
  let c0_i32_42 : BitVec 32 := 0#32
  let v67 : BitVec 1 := Scalar.cmpi .ne v66 c0_i32_42
  let v71 : BitVec 1 := Scalar.andi v70 v67
  let v72 : BitVec 32 := Scalar.addi v66 v65
  let v73 : BitVec 32 := Scalar.select v71 v72 v66
  let c1_i32_46 : BitVec 32 := 1#32
  let v74 : BitVec 32 := Scalar.muli v73 c1_i32_46
  let v75 : BitVec 32 := Scalar.addi c0_i32_47 v74
  v75.toNat
def k0_off1 (d0 : Dev nD) (c1_i32_0 : BitVec 32) (c0_i32_49 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c2048_i32 : BitVec 32 := 2048#32
  let v76 : BitVec 32 := Scalar.muli v13 c2048_i32
  let v77 : BitVec 32 := Scalar.addi v76 c0_i32_49
  let c0_i32_54 : BitVec 32 := 0#32
  ![v77.toNat, 0]
def k0_off1_at (r : Fin 9) : BitVec 32 × BitVec 32 :=
  if r.val < 4 then
    if r.val < 2 then
      if r.val < 1 then
        (1#32, 0#32)
      else
        (1#32, 1536#32)
    else
      if r.val < 3 then
        (1#32, 1792#32)
      else
        (3#32, 0#32)
  else
    if r.val < 6 then
      if r.val < 5 then
        (3#32, 1536#32)
      else
        (3#32, 1792#32)
    else
      if r.val < 7 then
        (2#32, 0#32)
      else
        if r.val < 8 then
          (2#32, 1536#32)
        else
          (2#32, 1792#32)
@[reducible] def k0_t1_loop : Scf.Loop 32 :=
  let c0_i32_55 : BitVec 32 := 0#32
  let c8_i32 : BitVec 32 := 8#32
  let v83 : BitVec 32 := Scalar.addi c0_i32_55 c8_i32
  let c1_i32_56 : BitVec 32 := 1#32
  ⟨c0_i32_55, v83, c1_i32_56⟩
def k0_cond1 (k0_t1 : Fin k0_t1_loop.trips) : BitVec 1 :=
  let c0_i32_55 : BitVec 32 := 0#32
  let c1_i32_56 : BitVec 32 := 1#32
  let arg15 : BitVec 32 := Scf.iv c0_i32_55 c1_i32_56 k0_t1
  let c1_i32_318 : BitVec 32 := 1#32
  let v327 : BitVec 32 := Scalar.addi arg15 c1_i32_318
  let c8_i32_319 : BitVec 32 := 8#32
  let v328 : BitVec 1 := Scalar.cmpi .slt v327 c8_i32_319
  let v329 : BitVec 32 := Scalar.extui v328
  let c0_i32_320 : BitVec 32 := 0#32
  let v330 : BitVec 1 := Scalar.cmpi .ne v329 c0_i32_320
  v330

def k0_off2 (k0_t1 : Fin k0_t1_loop.trips) : Fin 1 → Nat :=
  let c1_i32_337 : BitVec 32 := 1#32
  let c0_i32_55 : BitVec 32 := 0#32
  let c1_i32_56 : BitVec 32 := 1#32
  let arg15 : BitVec 32 := Scf.iv c0_i32_55 c1_i32_56 k0_t1
  let c2_i32_317 : BitVec 32 := 2#32
  let v326 : BitVec 32 := Scalar.remsi arg15 c2_i32_317
  let v359 : BitVec 32 := Scalar.subi c1_i32_337 v326
  ![v359.toNat]
def k0_off3 (k0_t1 : Fin k0_t1_loop.trips) : Fin 3 → Nat :=
  let c1_i32_337 : BitVec 32 := 1#32
  let c0_i32_55 : BitVec 32 := 0#32
  let c1_i32_56 : BitVec 32 := 1#32
  let arg15 : BitVec 32 := Scf.iv c0_i32_55 c1_i32_56 k0_t1
  let c2_i32_317 : BitVec 32 := 2#32
  let v326 : BitVec 32 := Scalar.remsi arg15 c2_i32_317
  let v359 : BitVec 32 := Scalar.subi c1_i32_337 v326
  let c0_i32_340 : BitVec 32 := 0#32
  let c0_i32_341 : BitVec 32 := 0#32
  ![v359.toNat, 0, 0]
def k0_off4 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c2048_i32_338 : BitVec 32 := 2048#32
  let v360 : BitVec 32 := Scalar.muli v13 c2048_i32_338
  let c0_i32_55 : BitVec 32 := 0#32
  let c1_i32_56 : BitVec 32 := 1#32
  let arg15 : BitVec 32 := Scf.iv c0_i32_55 c1_i32_56 k0_t1
  let c1_i32_336 : BitVec 32 := 1#32
  let v358 : BitVec 32 := Scalar.addi arg15 c1_i32_336
  let c256_i32_339 : BitVec 32 := 256#32
  let v361 : BitVec 32 := Scalar.muli v358 c256_i32_339
  let v362 : BitVec 32 := Scalar.addi v360 v361
  let c0_i32_342 : BitVec 32 := 0#32
  ![v362.toNat, 0]
def k0_off5 (k0_t1 : Fin k0_t1_loop.trips) : Fin 1 → Nat :=
  let c0_i32_55 : BitVec 32 := 0#32
  let c1_i32_56 : BitVec 32 := 1#32
  let arg15 : BitVec 32 := Scf.iv c0_i32_55 c1_i32_56 k0_t1
  let c2_i32_317 : BitVec 32 := 2#32
  let v326 : BitVec 32 := Scalar.remsi arg15 c2_i32_317
  ![v326.toNat]
def k0_off6 (k0_t1 : Fin k0_t1_loop.trips) : Fin 3 → Nat :=
  let c0_i32_55 : BitVec 32 := 0#32
  let c1_i32_56 : BitVec 32 := 1#32
  let arg15 : BitVec 32 := Scf.iv c0_i32_55 c1_i32_56 k0_t1
  let c2_i32_317 : BitVec 32 := 2#32
  let v326 : BitVec 32 := Scalar.remsi arg15 c2_i32_317
  let c0_i32_322 : BitVec 32 := 0#32
  let c0_i32_323 : BitVec 32 := 0#32
  ![v326.toNat, 0, 0]
def k0_off7 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c2048_i32_321 : BitVec 32 := 2048#32
  let v331 : BitVec 32 := Scalar.muli v13 c2048_i32_321
  let c0_i32_55 : BitVec 32 := 0#32
  let c1_i32_56 : BitVec 32 := 1#32
  let arg15 : BitVec 32 := Scf.iv c0_i32_55 c1_i32_56 k0_t1
  let c256_i32 : BitVec 32 := 256#32
  let v332 : BitVec 32 := Scalar.muli arg15 c256_i32
  let v333 : BitVec 32 := Scalar.addi v331 v332
  let c0_i32_324 : BitVec 32 := 0#32
  ![v333.toNat, 0]
def k0_cond2 (k0_t1 : Fin k0_t1_loop.trips) : BitVec 1 :=
  let c0_i32_55 : BitVec 32 := 0#32
  let c1_i32_56 : BitVec 32 := 1#32
  let arg15 : BitVec 32 := Scf.iv c0_i32_55 c1_i32_56 k0_t1
  let c2_i32_325 : BitVec 32 := 2#32
  let v339 : BitVec 1 := Scalar.cmpi .sge arg15 c2_i32_325
  let v340 : BitVec 32 := Scalar.extui v339
  let c0_i32_326 : BitVec 32 := 0#32
  let v341 : BitVec 1 := Scalar.cmpi .ne v340 c0_i32_326
  v341

def k0_off8 (k0_t1 : Fin k0_t1_loop.trips) : Fin 1 → Nat :=
  let c0_i32_55 : BitVec 32 := 0#32
  let c1_i32_56 : BitVec 32 := 1#32
  let arg15 : BitVec 32 := Scf.iv c0_i32_55 c1_i32_56 k0_t1
  let c2_i32_317 : BitVec 32 := 2#32
  let v326 : BitVec 32 := Scalar.remsi arg15 c2_i32_317
  ![v326.toNat]
def k0_off9 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c2048_i32_337 : BitVec 32 := 2048#32
  let v359 : BitVec 32 := Scalar.muli v13 c2048_i32_337
  let c0_i32_55 : BitVec 32 := 0#32
  let c1_i32_56 : BitVec 32 := 1#32
  let arg15 : BitVec 32 := Scf.iv c0_i32_55 c1_i32_56 k0_t1
  let c2_i32_336 : BitVec 32 := 2#32
  let v358 : BitVec 32 := Scalar.subi arg15 c2_i32_336
  let c256_i32_338 : BitVec 32 := 256#32
  let v360 : BitVec 32 := Scalar.muli v358 c256_i32_338
  let v361 : BitVec 32 := Scalar.addi v359 v360
  let c0_i32_339 : BitVec 32 := 0#32
  ![v361.toNat, 0]
def k0_off10 (k0_t1 : Fin k0_t1_loop.trips) : Fin 3 → Nat :=
  let c0_i32_55 : BitVec 32 := 0#32
  let c1_i32_56 : BitVec 32 := 1#32
  let arg15 : BitVec 32 := Scf.iv c0_i32_55 c1_i32_56 k0_t1
  let c2_i32_317 : BitVec 32 := 2#32
  let v326 : BitVec 32 := Scalar.remsi arg15 c2_i32_317
  let c0_i32_340 : BitVec 32 := 0#32
  let c0_i32_341 : BitVec 32 := 0#32
  ![v326.toNat, 0, 0]
def k0_off11 (k0_t1 : Fin k0_t1_loop.trips) : Fin 3 → Nat :=
  let c0_i32_55 : BitVec 32 := 0#32
  let c1_i32_56 : BitVec 32 := 1#32
  let arg15 : BitVec 32 := Scf.iv c0_i32_55 c1_i32_56 k0_t1
  let c2_i32_317 : BitVec 32 := 2#32
  let v326 : BitVec 32 := Scalar.remsi arg15 c2_i32_317
  let v342 : Index := Scalar.indexCast v326
  let c0_327 : Index := 0#32
  let c0_328 : Index := 0#32
  ![v342.toNat, 0, 0]
def k0_off12 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_75 : BitVec 32 := 0#32
  let c0_i32_76 : BitVec 32 := 0#32
  ![v2.toNat, 0, 0]
def k0_off14 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c2048_i32_70 : BitVec 32 := 2048#32
  let v98 : BitVec 32 := Scalar.muli v13 c2048_i32_70
  let c0_i32_71 : BitVec 32 := 0#32
  let v99 : BitVec 32 := Scalar.addi v98 c0_i32_71
  let c0_i32_77 : BitVec 32 := 0#32
  ![v99.toNat, 0]
def k0_dev4 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_73 : BitVec 32 := 1#32
  let v100 : BitVec 32 := Scalar.muli v13 c1_i32_73
  let v101 : BitVec 32 := Scalar.addi c0_i32_74 v100
  v101.toNat
@[reducible] def k0_t2_loop : Scf.Loop 32 :=
  let c0_i32_85 : BitVec 32 := 0#32
  let c8_i32_86 : BitVec 32 := 8#32
  let v116 : BitVec 32 := Scalar.addi c0_i32_85 c8_i32_86
  let c1_i32_87 : BitVec 32 := 1#32
  ⟨c0_i32_85, v116, c1_i32_87⟩
def k0_cond3 (k0_t2 : Fin k0_t2_loop.trips) : BitVec 1 :=
  let c0_i32_85 : BitVec 32 := 0#32
  let c1_i32_87 : BitVec 32 := 1#32
  let arg15 : BitVec 32 := Scf.iv c0_i32_85 c1_i32_87 k0_t2
  let c1_i32_318 : BitVec 32 := 1#32
  let v327 : BitVec 32 := Scalar.addi arg15 c1_i32_318
  let c8_i32_319 : BitVec 32 := 8#32
  let v328 : BitVec 1 := Scalar.cmpi .slt v327 c8_i32_319
  let v329 : BitVec 32 := Scalar.extui v328
  let c0_i32_320 : BitVec 32 := 0#32
  let v330 : BitVec 1 := Scalar.cmpi .ne v329 c0_i32_320
  v330

def k0_off15 (k0_t2 : Fin k0_t2_loop.trips) : Fin 1 → Nat :=
  let c1_i32_337 : BitVec 32 := 1#32
  let c0_i32_85 : BitVec 32 := 0#32
  let c1_i32_87 : BitVec 32 := 1#32
  let arg15 : BitVec 32 := Scf.iv c0_i32_85 c1_i32_87 k0_t2
  let c2_i32_317 : BitVec 32 := 2#32
  let v326 : BitVec 32 := Scalar.remsi arg15 c2_i32_317
  let v359 : BitVec 32 := Scalar.subi c1_i32_337 v326
  ![v359.toNat]
def k0_off16 (k0_t2 : Fin k0_t2_loop.trips) : Fin 3 → Nat :=
  let c1_i32_337 : BitVec 32 := 1#32
  let c0_i32_85 : BitVec 32 := 0#32
  let c1_i32_87 : BitVec 32 := 1#32
  let arg15 : BitVec 32 := Scf.iv c0_i32_85 c1_i32_87 k0_t2
  let c2_i32_317 : BitVec 32 := 2#32
  let v326 : BitVec 32 := Scalar.remsi arg15 c2_i32_317
  let v359 : BitVec 32 := Scalar.subi c1_i32_337 v326
  let c0_i32_340 : BitVec 32 := 0#32
  let c0_i32_341 : BitVec 32 := 0#32
  ![v359.toNat, 0, 0]
def k0_off17 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c2048_i32_338 : BitVec 32 := 2048#32
  let v360 : BitVec 32 := Scalar.muli v35 c2048_i32_338
  let c0_i32_85 : BitVec 32 := 0#32
  let c1_i32_87 : BitVec 32 := 1#32
  let arg15 : BitVec 32 := Scf.iv c0_i32_85 c1_i32_87 k0_t2
  let c1_i32_336 : BitVec 32 := 1#32
  let v358 : BitVec 32 := Scalar.addi arg15 c1_i32_336
  let c256_i32_339 : BitVec 32 := 256#32
  let v361 : BitVec 32 := Scalar.muli v358 c256_i32_339
  let v362 : BitVec 32 := Scalar.addi v360 v361
  let c0_i32_342 : BitVec 32 := 0#32
  ![v362.toNat, 0]
def k0_off18 (k0_t2 : Fin k0_t2_loop.trips) : Fin 1 → Nat :=
  let c0_i32_85 : BitVec 32 := 0#32
  let c1_i32_87 : BitVec 32 := 1#32
  let arg15 : BitVec 32 := Scf.iv c0_i32_85 c1_i32_87 k0_t2
  let c2_i32_317 : BitVec 32 := 2#32
  let v326 : BitVec 32 := Scalar.remsi arg15 c2_i32_317
  ![v326.toNat]
def k0_off19 (k0_t2 : Fin k0_t2_loop.trips) : Fin 3 → Nat :=
  let c0_i32_85 : BitVec 32 := 0#32
  let c1_i32_87 : BitVec 32 := 1#32
  let arg15 : BitVec 32 := Scf.iv c0_i32_85 c1_i32_87 k0_t2
  let c2_i32_317 : BitVec 32 := 2#32
  let v326 : BitVec 32 := Scalar.remsi arg15 c2_i32_317
  let c0_i32_322 : BitVec 32 := 0#32
  let c0_i32_323 : BitVec 32 := 0#32
  ![v326.toNat, 0, 0]
def k0_off20 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c2048_i32_321 : BitVec 32 := 2048#32
  let v331 : BitVec 32 := Scalar.muli v35 c2048_i32_321
  let c0_i32_85 : BitVec 32 := 0#32
  let c1_i32_87 : BitVec 32 := 1#32
  let arg15 : BitVec 32 := Scf.iv c0_i32_85 c1_i32_87 k0_t2
  let c256_i32 : BitVec 32 := 256#32
  let v332 : BitVec 32 := Scalar.muli arg15 c256_i32
  let v333 : BitVec 32 := Scalar.addi v331 v332
  let c0_i32_324 : BitVec 32 := 0#32
  ![v333.toNat, 0]
def k0_cond4 (k0_t2 : Fin k0_t2_loop.trips) : BitVec 1 :=
  let c0_i32_85 : BitVec 32 := 0#32
  let c1_i32_87 : BitVec 32 := 1#32
  let arg15 : BitVec 32 := Scf.iv c0_i32_85 c1_i32_87 k0_t2
  let c2_i32_325 : BitVec 32 := 2#32
  let v339 : BitVec 1 := Scalar.cmpi .sge arg15 c2_i32_325
  let v340 : BitVec 32 := Scalar.extui v339
  let c0_i32_326 : BitVec 32 := 0#32
  let v341 : BitVec 1 := Scalar.cmpi .ne v340 c0_i32_326
  v341

def k0_off21 (k0_t2 : Fin k0_t2_loop.trips) : Fin 1 → Nat :=
  let c0_i32_85 : BitVec 32 := 0#32
  let c1_i32_87 : BitVec 32 := 1#32
  let arg15 : BitVec 32 := Scf.iv c0_i32_85 c1_i32_87 k0_t2
  let c2_i32_317 : BitVec 32 := 2#32
  let v326 : BitVec 32 := Scalar.remsi arg15 c2_i32_317
  ![v326.toNat]
def k0_off22 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c2048_i32_337 : BitVec 32 := 2048#32
  let v359 : BitVec 32 := Scalar.muli v35 c2048_i32_337
  let c0_i32_85 : BitVec 32 := 0#32
  let c1_i32_87 : BitVec 32 := 1#32
  let arg15 : BitVec 32 := Scf.iv c0_i32_85 c1_i32_87 k0_t2
  let c2_i32_336 : BitVec 32 := 2#32
  let v358 : BitVec 32 := Scalar.subi arg15 c2_i32_336
  let c256_i32_338 : BitVec 32 := 256#32
  let v360 : BitVec 32 := Scalar.muli v358 c256_i32_338
  let v361 : BitVec 32 := Scalar.addi v359 v360
  let c0_i32_339 : BitVec 32 := 0#32
  ![v361.toNat, 0]
def k0_off23 (k0_t2 : Fin k0_t2_loop.trips) : Fin 3 → Nat :=
  let c0_i32_85 : BitVec 32 := 0#32
  let c1_i32_87 : BitVec 32 := 1#32
  let arg15 : BitVec 32 := Scf.iv c0_i32_85 c1_i32_87 k0_t2
  let c2_i32_317 : BitVec 32 := 2#32
  let v326 : BitVec 32 := Scalar.remsi arg15 c2_i32_317
  let c0_i32_340 : BitVec 32 := 0#32
  let c0_i32_341 : BitVec 32 := 0#32
  ![v326.toNat, 0, 0]
def k0_off24 (k0_t2 : Fin k0_t2_loop.trips) : Fin 3 → Nat :=
  let c0_i32_85 : BitVec 32 := 0#32
  let c1_i32_87 : BitVec 32 := 1#32
  let arg15 : BitVec 32 := Scf.iv c0_i32_85 c1_i32_87 k0_t2
  let c2_i32_317 : BitVec 32 := 2#32
  let v326 : BitVec 32 := Scalar.remsi arg15 c2_i32_317
  let v342 : Index := Scalar.indexCast v326
  let c0_327 : Index := 0#32
  let c0_328 : Index := 0#32
  ![v342.toNat, 0, 0]
def k0_dev5 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_106 : BitVec 32 := 1#32
  let v133 : BitVec 32 := Scalar.muli v35 c1_i32_106
  let v134 : BitVec 32 := Scalar.addi c0_i32_107 v133
  v134.toNat
@[reducible] def k0_t3_loop : Scf.Loop 32 :=
  let c0_i32_118 : BitVec 32 := 0#32
  let c8_i32_119 : BitVec 32 := 8#32
  let v149 : BitVec 32 := Scalar.addi c0_i32_118 c8_i32_119
  let c1_i32_120 : BitVec 32 := 1#32
  ⟨c0_i32_118, v149, c1_i32_120⟩
def k0_cond5 (k0_t3 : Fin k0_t3_loop.trips) : BitVec 1 :=
  let c0_i32_118 : BitVec 32 := 0#32
  let c1_i32_120 : BitVec 32 := 1#32
  let arg15 : BitVec 32 := Scf.iv c0_i32_118 c1_i32_120 k0_t3
  let c1_i32_318 : BitVec 32 := 1#32
  let v327 : BitVec 32 := Scalar.addi arg15 c1_i32_318
  let c8_i32_319 : BitVec 32 := 8#32
  let v328 : BitVec 1 := Scalar.cmpi .slt v327 c8_i32_319
  let v329 : BitVec 32 := Scalar.extui v328
  let c0_i32_320 : BitVec 32 := 0#32
  let v330 : BitVec 1 := Scalar.cmpi .ne v329 c0_i32_320
  v330

def k0_off25 (k0_t3 : Fin k0_t3_loop.trips) : Fin 1 → Nat :=
  let c1_i32_337 : BitVec 32 := 1#32
  let c0_i32_118 : BitVec 32 := 0#32
  let c1_i32_120 : BitVec 32 := 1#32
  let arg15 : BitVec 32 := Scf.iv c0_i32_118 c1_i32_120 k0_t3
  let c2_i32_317 : BitVec 32 := 2#32
  let v326 : BitVec 32 := Scalar.remsi arg15 c2_i32_317
  let v359 : BitVec 32 := Scalar.subi c1_i32_337 v326
  ![v359.toNat]
def k0_off26 (k0_t3 : Fin k0_t3_loop.trips) : Fin 3 → Nat :=
  let c1_i32_337 : BitVec 32 := 1#32
  let c0_i32_118 : BitVec 32 := 0#32
  let c1_i32_120 : BitVec 32 := 1#32
  let arg15 : BitVec 32 := Scf.iv c0_i32_118 c1_i32_120 k0_t3
  let c2_i32_317 : BitVec 32 := 2#32
  let v326 : BitVec 32 := Scalar.remsi arg15 c2_i32_317
  let v359 : BitVec 32 := Scalar.subi c1_i32_337 v326
  let c0_i32_340 : BitVec 32 := 0#32
  let c0_i32_341 : BitVec 32 := 0#32
  ![v359.toNat, 0, 0]
def k0_off27 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c2048_i32_338 : BitVec 32 := 2048#32
  let v360 : BitVec 32 := Scalar.muli v24 c2048_i32_338
  let c0_i32_118 : BitVec 32 := 0#32
  let c1_i32_120 : BitVec 32 := 1#32
  let arg15 : BitVec 32 := Scf.iv c0_i32_118 c1_i32_120 k0_t3
  let c1_i32_336 : BitVec 32 := 1#32
  let v358 : BitVec 32 := Scalar.addi arg15 c1_i32_336
  let c256_i32_339 : BitVec 32 := 256#32
  let v361 : BitVec 32 := Scalar.muli v358 c256_i32_339
  let v362 : BitVec 32 := Scalar.addi v360 v361
  let c0_i32_342 : BitVec 32 := 0#32
  ![v362.toNat, 0]
def k0_off28 (k0_t3 : Fin k0_t3_loop.trips) : Fin 1 → Nat :=
  let c0_i32_118 : BitVec 32 := 0#32
  let c1_i32_120 : BitVec 32 := 1#32
  let arg15 : BitVec 32 := Scf.iv c0_i32_118 c1_i32_120 k0_t3
  let c2_i32_317 : BitVec 32 := 2#32
  let v326 : BitVec 32 := Scalar.remsi arg15 c2_i32_317
  ![v326.toNat]
def k0_off29 (k0_t3 : Fin k0_t3_loop.trips) : Fin 3 → Nat :=
  let c0_i32_118 : BitVec 32 := 0#32
  let c1_i32_120 : BitVec 32 := 1#32
  let arg15 : BitVec 32 := Scf.iv c0_i32_118 c1_i32_120 k0_t3
  let c2_i32_317 : BitVec 32 := 2#32
  let v326 : BitVec 32 := Scalar.remsi arg15 c2_i32_317
  let c0_i32_322 : BitVec 32 := 0#32
  let c0_i32_323 : BitVec 32 := 0#32
  ![v326.toNat, 0, 0]
def k0_off30 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c2048_i32_321 : BitVec 32 := 2048#32
  let v331 : BitVec 32 := Scalar.muli v24 c2048_i32_321
  let c0_i32_118 : BitVec 32 := 0#32
  let c1_i32_120 : BitVec 32 := 1#32
  let arg15 : BitVec 32 := Scf.iv c0_i32_118 c1_i32_120 k0_t3
  let c256_i32 : BitVec 32 := 256#32
  let v332 : BitVec 32 := Scalar.muli arg15 c256_i32
  let v333 : BitVec 32 := Scalar.addi v331 v332
  let c0_i32_324 : BitVec 32 := 0#32
  ![v333.toNat, 0]
def k0_cond6 (k0_t3 : Fin k0_t3_loop.trips) : BitVec 1 :=
  let c0_i32_118 : BitVec 32 := 0#32
  let c1_i32_120 : BitVec 32 := 1#32
  let arg15 : BitVec 32 := Scf.iv c0_i32_118 c1_i32_120 k0_t3
  let c2_i32_325 : BitVec 32 := 2#32
  let v339 : BitVec 1 := Scalar.cmpi .sge arg15 c2_i32_325
  let v340 : BitVec 32 := Scalar.extui v339
  let c0_i32_326 : BitVec 32 := 0#32
  let v341 : BitVec 1 := Scalar.cmpi .ne v340 c0_i32_326
  v341

def k0_off31 (k0_t3 : Fin k0_t3_loop.trips) : Fin 1 → Nat :=
  let c0_i32_118 : BitVec 32 := 0#32
  let c1_i32_120 : BitVec 32 := 1#32
  let arg15 : BitVec 32 := Scf.iv c0_i32_118 c1_i32_120 k0_t3
  let c2_i32_317 : BitVec 32 := 2#32
  let v326 : BitVec 32 := Scalar.remsi arg15 c2_i32_317
  ![v326.toNat]
def k0_off32 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c2048_i32_337 : BitVec 32 := 2048#32
  let v359 : BitVec 32 := Scalar.muli v24 c2048_i32_337
  let c0_i32_118 : BitVec 32 := 0#32
  let c1_i32_120 : BitVec 32 := 1#32
  let arg15 : BitVec 32 := Scf.iv c0_i32_118 c1_i32_120 k0_t3
  let c2_i32_336 : BitVec 32 := 2#32
  let v358 : BitVec 32 := Scalar.subi arg15 c2_i32_336
  let c256_i32_338 : BitVec 32 := 256#32
  let v360 : BitVec 32 := Scalar.muli v358 c256_i32_338
  let v361 : BitVec 32 := Scalar.addi v359 v360
  let c0_i32_339 : BitVec 32 := 0#32
  ![v361.toNat, 0]
def k0_off33 (k0_t3 : Fin k0_t3_loop.trips) : Fin 3 → Nat :=
  let c0_i32_118 : BitVec 32 := 0#32
  let c1_i32_120 : BitVec 32 := 1#32
  let arg15 : BitVec 32 := Scf.iv c0_i32_118 c1_i32_120 k0_t3
  let c2_i32_317 : BitVec 32 := 2#32
  let v326 : BitVec 32 := Scalar.remsi arg15 c2_i32_317
  let c0_i32_340 : BitVec 32 := 0#32
  let c0_i32_341 : BitVec 32 := 0#32
  ![v326.toNat, 0, 0]
def k0_off34 (k0_t3 : Fin k0_t3_loop.trips) : Fin 3 → Nat :=
  let c0_i32_118 : BitVec 32 := 0#32
  let c1_i32_120 : BitVec 32 := 1#32
  let arg15 : BitVec 32 := Scf.iv c0_i32_118 c1_i32_120 k0_t3
  let c2_i32_317 : BitVec 32 := 2#32
  let v326 : BitVec 32 := Scalar.remsi arg15 c2_i32_317
  let v342 : Index := Scalar.indexCast v326
  let c0_327 : Index := 0#32
  let c0_328 : Index := 0#32
  ![v342.toNat, 0, 0]
def k0_off35 (d0 : Dev nD) (c0_i32_137 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_136 : BitVec 32 := 2048#32
  let v164 : BitVec 32 := Scalar.muli v2 c2048_i32_136
  let v165 : BitVec 32 := Scalar.addi v164 c0_i32_137
  let c0_i32_142 : BitVec 32 := 0#32
  ![v165.toNat, 0]
def k0_off35_at (r : Fin 3) : BitVec 32 :=
  if r.val < 1 then
    0#32
  else
    if r.val < 2 then
      1536#32
    else
      1792#32
@[reducible] def k0_t4_loop : Scf.Loop 32 :=
  let c0_i32_143 : BitVec 32 := 0#32
  let c8_i32_144 : BitVec 32 := 8#32
  let v171 : BitVec 32 := Scalar.addi c0_i32_143 c8_i32_144
  let c1_i32_145 : BitVec 32 := 1#32
  ⟨c0_i32_143, v171, c1_i32_145⟩
def k0_cond7 (k0_t4 : Fin k0_t4_loop.trips) : BitVec 1 :=
  let c0_i32_143 : BitVec 32 := 0#32
  let c1_i32_145 : BitVec 32 := 1#32
  let arg15 : BitVec 32 := Scf.iv c0_i32_143 c1_i32_145 k0_t4
  let c1_i32_318 : BitVec 32 := 1#32
  let v327 : BitVec 32 := Scalar.addi arg15 c1_i32_318
  let c8_i32_319 : BitVec 32 := 8#32
  let v328 : BitVec 1 := Scalar.cmpi .slt v327 c8_i32_319
  let v329 : BitVec 32 := Scalar.extui v328
  let c0_i32_320 : BitVec 32 := 0#32
  let v330 : BitVec 1 := Scalar.cmpi .ne v329 c0_i32_320
  v330

def k0_off36 (k0_t4 : Fin k0_t4_loop.trips) : Fin 1 → Nat :=
  let c1_i32_337 : BitVec 32 := 1#32
  let c0_i32_143 : BitVec 32 := 0#32
  let c1_i32_145 : BitVec 32 := 1#32
  let arg15 : BitVec 32 := Scf.iv c0_i32_143 c1_i32_145 k0_t4
  let c2_i32_317 : BitVec 32 := 2#32
  let v326 : BitVec 32 := Scalar.remsi arg15 c2_i32_317
  let v359 : BitVec 32 := Scalar.subi c1_i32_337 v326
  ![v359.toNat]
def k0_off37 (k0_t4 : Fin k0_t4_loop.trips) : Fin 3 → Nat :=
  let c1_i32_337 : BitVec 32 := 1#32
  let c0_i32_143 : BitVec 32 := 0#32
  let c1_i32_145 : BitVec 32 := 1#32
  let arg15 : BitVec 32 := Scf.iv c0_i32_143 c1_i32_145 k0_t4
  let c2_i32_317 : BitVec 32 := 2#32
  let v326 : BitVec 32 := Scalar.remsi arg15 c2_i32_317
  let v359 : BitVec 32 := Scalar.subi c1_i32_337 v326
  let c0_i32_340 : BitVec 32 := 0#32
  let c0_i32_341 : BitVec 32 := 0#32
  ![v359.toNat, 0, 0]
def k0_off38 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_338 : BitVec 32 := 2048#32
  let v360 : BitVec 32 := Scalar.muli v2 c2048_i32_338
  let c0_i32_143 : BitVec 32 := 0#32
  let c1_i32_145 : BitVec 32 := 1#32
  let arg15 : BitVec 32 := Scf.iv c0_i32_143 c1_i32_145 k0_t4
  let c1_i32_336 : BitVec 32 := 1#32
  let v358 : BitVec 32 := Scalar.addi arg15 c1_i32_336
  let c256_i32_339 : BitVec 32 := 256#32
  let v361 : BitVec 32 := Scalar.muli v358 c256_i32_339
  let v362 : BitVec 32 := Scalar.addi v360 v361
  let c0_i32_342 : BitVec 32 := 0#32
  ![v362.toNat, 0]
def k0_off39 (k0_t4 : Fin k0_t4_loop.trips) : Fin 1 → Nat :=
  let c0_i32_143 : BitVec 32 := 0#32
  let c1_i32_145 : BitVec 32 := 1#32
  let arg15 : BitVec 32 := Scf.iv c0_i32_143 c1_i32_145 k0_t4
  let c2_i32_317 : BitVec 32 := 2#32
  let v326 : BitVec 32 := Scalar.remsi arg15 c2_i32_317
  ![v326.toNat]
def k0_off40 (k0_t4 : Fin k0_t4_loop.trips) : Fin 3 → Nat :=
  let c0_i32_143 : BitVec 32 := 0#32
  let c1_i32_145 : BitVec 32 := 1#32
  let arg15 : BitVec 32 := Scf.iv c0_i32_143 c1_i32_145 k0_t4
  let c2_i32_317 : BitVec 32 := 2#32
  let v326 : BitVec 32 := Scalar.remsi arg15 c2_i32_317
  let c0_i32_322 : BitVec 32 := 0#32
  let c0_i32_323 : BitVec 32 := 0#32
  ![v326.toNat, 0, 0]
def k0_off41 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_321 : BitVec 32 := 2048#32
  let v331 : BitVec 32 := Scalar.muli v2 c2048_i32_321
  let c0_i32_143 : BitVec 32 := 0#32
  let c1_i32_145 : BitVec 32 := 1#32
  let arg15 : BitVec 32 := Scf.iv c0_i32_143 c1_i32_145 k0_t4
  let c256_i32 : BitVec 32 := 256#32
  let v332 : BitVec 32 := Scalar.muli arg15 c256_i32
  let v333 : BitVec 32 := Scalar.addi v331 v332
  let c0_i32_324 : BitVec 32 := 0#32
  ![v333.toNat, 0]
def k0_cond8 (k0_t4 : Fin k0_t4_loop.trips) : BitVec 1 :=
  let c0_i32_143 : BitVec 32 := 0#32
  let c1_i32_145 : BitVec 32 := 1#32
  let arg15 : BitVec 32 := Scf.iv c0_i32_143 c1_i32_145 k0_t4
  let c2_i32_325 : BitVec 32 := 2#32
  let v339 : BitVec 1 := Scalar.cmpi .sge arg15 c2_i32_325
  let v340 : BitVec 32 := Scalar.extui v339
  let c0_i32_326 : BitVec 32 := 0#32
  let v341 : BitVec 1 := Scalar.cmpi .ne v340 c0_i32_326
  v341

def k0_off42 (k0_t4 : Fin k0_t4_loop.trips) : Fin 1 → Nat :=
  let c0_i32_143 : BitVec 32 := 0#32
  let c1_i32_145 : BitVec 32 := 1#32
  let arg15 : BitVec 32 := Scf.iv c0_i32_143 c1_i32_145 k0_t4
  let c2_i32_317 : BitVec 32 := 2#32
  let v326 : BitVec 32 := Scalar.remsi arg15 c2_i32_317
  ![v326.toNat]
def k0_off43 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_337 : BitVec 32 := 2048#32
  let v359 : BitVec 32 := Scalar.muli v2 c2048_i32_337
  let c0_i32_143 : BitVec 32 := 0#32
  let c1_i32_145 : BitVec 32 := 1#32
  let arg15 : BitVec 32 := Scf.iv c0_i32_143 c1_i32_145 k0_t4
  let c2_i32_336 : BitVec 32 := 2#32
  let v358 : BitVec 32 := Scalar.subi arg15 c2_i32_336
  let c256_i32_338 : BitVec 32 := 256#32
  let v360 : BitVec 32 := Scalar.muli v358 c256_i32_338
  let v361 : BitVec 32 := Scalar.addi v359 v360
  let c0_i32_339 : BitVec 32 := 0#32
  ![v361.toNat, 0]
def k0_off44 (k0_t4 : Fin k0_t4_loop.trips) : Fin 3 → Nat :=
  let c0_i32_143 : BitVec 32 := 0#32
  let c1_i32_145 : BitVec 32 := 1#32
  let arg15 : BitVec 32 := Scf.iv c0_i32_143 c1_i32_145 k0_t4
  let c2_i32_317 : BitVec 32 := 2#32
  let v326 : BitVec 32 := Scalar.remsi arg15 c2_i32_317
  let c0_i32_340 : BitVec 32 := 0#32
  let c0_i32_341 : BitVec 32 := 0#32
  ![v326.toNat, 0, 0]
def k0_off45 (k0_t4 : Fin k0_t4_loop.trips) : Fin 3 → Nat :=
  let c0_i32_143 : BitVec 32 := 0#32
  let c1_i32_145 : BitVec 32 := 1#32
  let arg15 : BitVec 32 := Scf.iv c0_i32_143 c1_i32_145 k0_t4
  let c2_i32_317 : BitVec 32 := 2#32
  let v326 : BitVec 32 := Scalar.remsi arg15 c2_i32_317
  let v342 : Index := Scalar.indexCast v326
  let c0_327 : Index := 0#32
  let c0_328 : Index := 0#32
  ![v342.toNat, 0, 0]
def k0_off46 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_162 : BitVec 32 := 2048#32
  let v188 : BitVec 32 := Scalar.muli v2 c2048_i32_162
  let c0_i32_165 : BitVec 32 := 0#32
  ![v188.toNat, 0]
def k0_off47 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_166 : BitVec 32 := 2048#32
  let v191 : BitVec 32 := Scalar.muli v2 c2048_i32_166
  let c0_i32_171 : BitVec 32 := 0#32
  ![v191.toNat, 0]
@[reducible] def k0_t5_loop : Scf.Loop 32 :=
  let c0_i32_175 : BitVec 32 := 0#32
  let c8_i32_176 : BitVec 32 := 8#32
  let v199 : BitVec 32 := Scalar.addi c0_i32_175 c8_i32_176
  let c1_i32_177 : BitVec 32 := 1#32
  ⟨c0_i32_175, v199, c1_i32_177⟩
def k0_cond9 (k0_t5 : Fin k0_t5_loop.trips) : BitVec 1 :=
  let c0_i32_175 : BitVec 32 := 0#32
  let c1_i32_177 : BitVec 32 := 1#32
  let arg15 : BitVec 32 := Scf.iv c0_i32_175 c1_i32_177 k0_t5
  let c1_i32_318 : BitVec 32 := 1#32
  let v327 : BitVec 32 := Scalar.addi arg15 c1_i32_318
  let c8_i32_319 : BitVec 32 := 8#32
  let v328 : BitVec 1 := Scalar.cmpi .slt v327 c8_i32_319
  let v329 : BitVec 32 := Scalar.extui v328
  let c0_i32_320 : BitVec 32 := 0#32
  let v330 : BitVec 1 := Scalar.cmpi .ne v329 c0_i32_320
  v330

def k0_off48 (k0_t5 : Fin k0_t5_loop.trips) : Fin 1 → Nat :=
  let c1_i32_333 : BitVec 32 := 1#32
  let c0_i32_175 : BitVec 32 := 0#32
  let c1_i32_177 : BitVec 32 := 1#32
  let arg15 : BitVec 32 := Scf.iv c0_i32_175 c1_i32_177 k0_t5
  let c2_i32_317 : BitVec 32 := 2#32
  let v326 : BitVec 32 := Scalar.remsi arg15 c2_i32_317
  let v352 : BitVec 32 := Scalar.subi c1_i32_333 v326
  ![v352.toNat]
def k0_off49 (k0_t5 : Fin k0_t5_loop.trips) : Fin 3 → Nat :=
  let c1_i32_333 : BitVec 32 := 1#32
  let c0_i32_175 : BitVec 32 := 0#32
  let c1_i32_177 : BitVec 32 := 1#32
  let arg15 : BitVec 32 := Scf.iv c0_i32_175 c1_i32_177 k0_t5
  let c2_i32_317 : BitVec 32 := 2#32
  let v326 : BitVec 32 := Scalar.remsi arg15 c2_i32_317
  let v352 : BitVec 32 := Scalar.subi c1_i32_333 v326
  let c0_i32_336 : BitVec 32 := 0#32
  let c0_i32_337 : BitVec 32 := 0#32
  ![v352.toNat, 0, 0]
def k0_off50 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_334 : BitVec 32 := 2048#32
  let v353 : BitVec 32 := Scalar.muli v2 c2048_i32_334
  let c0_i32_175 : BitVec 32 := 0#32
  let c1_i32_177 : BitVec 32 := 1#32
  let arg15 : BitVec 32 := Scf.iv c0_i32_175 c1_i32_177 k0_t5
  let c1_i32_332 : BitVec 32 := 1#32
  let v351 : BitVec 32 := Scalar.addi arg15 c1_i32_332
  let c512_i32_335 : BitVec 32 := 512#32
  let v354 : BitVec 32 := Scalar.muli v351 c512_i32_335
  ![v353.toNat, v354.toNat]
def k0_off51 (k0_t5 : Fin k0_t5_loop.trips) : Fin 1 → Nat :=
  let c0_i32_175 : BitVec 32 := 0#32
  let c1_i32_177 : BitVec 32 := 1#32
  let arg15 : BitVec 32 := Scf.iv c0_i32_175 c1_i32_177 k0_t5
  let c2_i32_317 : BitVec 32 := 2#32
  let v326 : BitVec 32 := Scalar.remsi arg15 c2_i32_317
  ![v326.toNat]
def k0_off52 (k0_t5 : Fin k0_t5_loop.trips) : Fin 3 → Nat :=
  let c0_i32_175 : BitVec 32 := 0#32
  let c1_i32_177 : BitVec 32 := 1#32
  let arg15 : BitVec 32 := Scf.iv c0_i32_175 c1_i32_177 k0_t5
  let c2_i32_317 : BitVec 32 := 2#32
  let v326 : BitVec 32 := Scalar.remsi arg15 c2_i32_317
  let c0_i32_322 : BitVec 32 := 0#32
  let c0_i32_323 : BitVec 32 := 0#32
  ![v326.toNat, 0, 0]
def k0_off53 (d0 : Dev nD) (k0_t5 : Fin k0_t5_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_321 : BitVec 32 := 2048#32
  let v331 : BitVec 32 := Scalar.muli v2 c2048_i32_321
  let c0_i32_175 : BitVec 32 := 0#32
  let c1_i32_177 : BitVec 32 := 1#32
  let arg15 : BitVec 32 := Scf.iv c0_i32_175 c1_i32_177 k0_t5
  let c512_i32 : BitVec 32 := 512#32
  let v332 : BitVec 32 := Scalar.muli arg15 c512_i32
  ![v331.toNat, v332.toNat]
def k0_off54 (k0_t5 : Fin k0_t5_loop.trips) : Fin 3 → Nat :=
  let c0_i32_175 : BitVec 32 := 0#32
  let c1_i32_177 : BitVec 32 := 1#32
  let arg15 : BitVec 32 := Scf.iv c0_i32_175 c1_i32_177 k0_t5
  let c2_i32_317 : BitVec 32 := 2#32
  let v326 : BitVec 32 := Scalar.remsi arg15 c2_i32_317
  let v338 : Index := Scalar.indexCast v326
  let c0_324 : Index := 0#32
  let c0_325 : Index := 0#32
  ![v338.toNat, 0, 0]
def k0_off55 (k0_t5 : Fin k0_t5_loop.trips) : Fin 2 → Nat :=
  let c0_327 : Index := 0#32
  let c0_i32_175 : BitVec 32 := 0#32
  let c1_i32_177 : BitVec 32 := 1#32
  let arg15 : BitVec 32 := Scf.iv c0_i32_175 c1_i32_177 k0_t5
  let c512_i32_326 : BitVec 32 := 512#32
  let v342 : BitVec 32 := Scalar.muli arg15 c512_i32_326
  let v343 : Index := Scalar.indexCast v342
  ![0, v343.toNat]
def k0_off56 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_194 : BitVec 32 := 0#32
  let c0_i32_195 : BitVec 32 := 0#32
  ![v2.toNat, 0, 0]
def k0_off57 (d0 : Dev nD) (c0_i32_190 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c2048_i32_189 : BitVec 32 := 2048#32
  let v210 : BitVec 32 := Scalar.muli v24 c2048_i32_189
  let v211 : BitVec 32 := Scalar.addi v210 c0_i32_190
  let c0_i32_196 : BitVec 32 := 0#32
  ![v211.toNat, 0]
def k0_dev6 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_192 : BitVec 32 := 1#32
  let v212 : BitVec 32 := Scalar.muli v24 c1_i32_192
  let v213 : BitVec 32 := Scalar.addi c0_i32_193 v212
  v213.toNat
def k0_off58 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_202 : BitVec 32 := 1024#32
  let c0_i32_203 : BitVec 32 := 0#32
  ![v2.toNat, 1024, 0]
def k0_dev7 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_200 : BitVec 32 := 1#32
  let v223 : BitVec 32 := Scalar.muli v24 c1_i32_200
  let v224 : BitVec 32 := Scalar.addi c0_i32_201 v223
  v224.toNat
def k0_off59 (d0 : Dev nD) (c3_i32 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  ![v35.toNat]
def k0_off60 (d0 : Dev nD) (c3_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c0_i32_208 : BitVec 32 := 0#32
  let c0_i32_209 : BitVec 32 := 0#32
  ![v35.toNat, 0, 0]
def k0_off61 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c2048_i32_216 : BitVec 32 := 2048#32
  let v243 : BitVec 32 := Scalar.muli v35 c2048_i32_216
  let c0_i32_221 : BitVec 32 := 0#32
  ![v243.toNat, 0]
@[reducible] def k0_t6_loop : Scf.Loop 32 :=
  let c0_i32_226 : BitVec 32 := 0#32
  let c8_i32_227 : BitVec 32 := 8#32
  let v252 : BitVec 32 := Scalar.addi c0_i32_226 c8_i32_227
  let c1_i32_228 : BitVec 32 := 1#32
  ⟨c0_i32_226, v252, c1_i32_228⟩
def k0_cond10 (k0_t6 : Fin k0_t6_loop.trips) : BitVec 1 :=
  let c0_i32_226 : BitVec 32 := 0#32
  let c1_i32_228 : BitVec 32 := 1#32
  let arg15 : BitVec 32 := Scf.iv c0_i32_226 c1_i32_228 k0_t6
  let c1_i32_318 : BitVec 32 := 1#32
  let v327 : BitVec 32 := Scalar.addi arg15 c1_i32_318
  let c8_i32_319 : BitVec 32 := 8#32
  let v328 : BitVec 1 := Scalar.cmpi .slt v327 c8_i32_319
  let v329 : BitVec 32 := Scalar.extui v328
  let c0_i32_320 : BitVec 32 := 0#32
  let v330 : BitVec 1 := Scalar.cmpi .ne v329 c0_i32_320
  v330

def k0_off62 (k0_t6 : Fin k0_t6_loop.trips) : Fin 1 → Nat :=
  let c1_i32_333 : BitVec 32 := 1#32
  let c0_i32_226 : BitVec 32 := 0#32
  let c1_i32_228 : BitVec 32 := 1#32
  let arg15 : BitVec 32 := Scf.iv c0_i32_226 c1_i32_228 k0_t6
  let c2_i32_317 : BitVec 32 := 2#32
  let v326 : BitVec 32 := Scalar.remsi arg15 c2_i32_317
  let v352 : BitVec 32 := Scalar.subi c1_i32_333 v326
  ![v352.toNat]
def k0_off63 (k0_t6 : Fin k0_t6_loop.trips) : Fin 3 → Nat :=
  let c1_i32_333 : BitVec 32 := 1#32
  let c0_i32_226 : BitVec 32 := 0#32
  let c1_i32_228 : BitVec 32 := 1#32
  let arg15 : BitVec 32 := Scf.iv c0_i32_226 c1_i32_228 k0_t6
  let c2_i32_317 : BitVec 32 := 2#32
  let v326 : BitVec 32 := Scalar.remsi arg15 c2_i32_317
  let v352 : BitVec 32 := Scalar.subi c1_i32_333 v326
  let c0_i32_336 : BitVec 32 := 0#32
  let c0_i32_337 : BitVec 32 := 0#32
  ![v352.toNat, 0, 0]
def k0_off64 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c2048_i32_334 : BitVec 32 := 2048#32
  let v353 : BitVec 32 := Scalar.muli v35 c2048_i32_334
  let c0_i32_226 : BitVec 32 := 0#32
  let c1_i32_228 : BitVec 32 := 1#32
  let arg15 : BitVec 32 := Scf.iv c0_i32_226 c1_i32_228 k0_t6
  let c1_i32_332 : BitVec 32 := 1#32
  let v351 : BitVec 32 := Scalar.addi arg15 c1_i32_332
  let c512_i32_335 : BitVec 32 := 512#32
  let v354 : BitVec 32 := Scalar.muli v351 c512_i32_335
  ![v353.toNat, v354.toNat]
def k0_off65 (k0_t6 : Fin k0_t6_loop.trips) : Fin 1 → Nat :=
  let c0_i32_226 : BitVec 32 := 0#32
  let c1_i32_228 : BitVec 32 := 1#32
  let arg15 : BitVec 32 := Scf.iv c0_i32_226 c1_i32_228 k0_t6
  let c2_i32_317 : BitVec 32 := 2#32
  let v326 : BitVec 32 := Scalar.remsi arg15 c2_i32_317
  ![v326.toNat]
def k0_off66 (k0_t6 : Fin k0_t6_loop.trips) : Fin 3 → Nat :=
  let c0_i32_226 : BitVec 32 := 0#32
  let c1_i32_228 : BitVec 32 := 1#32
  let arg15 : BitVec 32 := Scf.iv c0_i32_226 c1_i32_228 k0_t6
  let c2_i32_317 : BitVec 32 := 2#32
  let v326 : BitVec 32 := Scalar.remsi arg15 c2_i32_317
  let c0_i32_322 : BitVec 32 := 0#32
  let c0_i32_323 : BitVec 32 := 0#32
  ![v326.toNat, 0, 0]
def k0_off67 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v25 : BitVec 32 := Scalar.addi v2 c3_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c2048_i32_321 : BitVec 32 := 2048#32
  let v331 : BitVec 32 := Scalar.muli v35 c2048_i32_321
  let c0_i32_226 : BitVec 32 := 0#32
  let c1_i32_228 : BitVec 32 := 1#32
  let arg15 : BitVec 32 := Scf.iv c0_i32_226 c1_i32_228 k0_t6
  let c512_i32 : BitVec 32 := 512#32
  let v332 : BitVec 32 := Scalar.muli arg15 c512_i32
  ![v331.toNat, v332.toNat]
def k0_off68 (k0_t6 : Fin k0_t6_loop.trips) : Fin 3 → Nat :=
  let c0_i32_226 : BitVec 32 := 0#32
  let c1_i32_228 : BitVec 32 := 1#32
  let arg15 : BitVec 32 := Scf.iv c0_i32_226 c1_i32_228 k0_t6
  let c2_i32_317 : BitVec 32 := 2#32
  let v326 : BitVec 32 := Scalar.remsi arg15 c2_i32_317
  let v338 : Index := Scalar.indexCast v326
  let c0_324 : Index := 0#32
  let c0_325 : Index := 0#32
  ![v338.toNat, 0, 0]
def k0_off69 (k0_t6 : Fin k0_t6_loop.trips) : Fin 2 → Nat :=
  let c0_327 : Index := 0#32
  let c0_i32_226 : BitVec 32 := 0#32
  let c1_i32_228 : BitVec 32 := 1#32
  let arg15 : BitVec 32 := Scf.iv c0_i32_226 c1_i32_228 k0_t6
  let c512_i32_326 : BitVec 32 := 512#32
  let v342 : BitVec 32 := Scalar.muli arg15 c512_i32_326
  let v343 : Index := Scalar.indexCast v342
  ![0, v343.toNat]
@[reducible] def k0_t7_loop : Scf.Loop 32 :=
  let c0_i32_251 : BitVec 32 := 0#32
  let c8_i32_252 : BitVec 32 := 8#32
  let v273 : BitVec 32 := Scalar.addi c0_i32_251 c8_i32_252
  let c1_i32_253 : BitVec 32 := 1#32
  ⟨c0_i32_251, v273, c1_i32_253⟩
def k0_cond11 (k0_t7 : Fin k0_t7_loop.trips) : BitVec 1 :=
  let c0_i32_251 : BitVec 32 := 0#32
  let c1_i32_253 : BitVec 32 := 1#32
  let arg15 : BitVec 32 := Scf.iv c0_i32_251 c1_i32_253 k0_t7
  let c1_i32_318 : BitVec 32 := 1#32
  let v327 : BitVec 32 := Scalar.addi arg15 c1_i32_318
  let c8_i32_319 : BitVec 32 := 8#32
  let v328 : BitVec 1 := Scalar.cmpi .slt v327 c8_i32_319
  let v329 : BitVec 32 := Scalar.extui v328
  let c0_i32_320 : BitVec 32 := 0#32
  let v330 : BitVec 1 := Scalar.cmpi .ne v329 c0_i32_320
  v330

def k0_off70 (k0_t7 : Fin k0_t7_loop.trips) : Fin 1 → Nat :=
  let c1_i32_333 : BitVec 32 := 1#32
  let c0_i32_251 : BitVec 32 := 0#32
  let c1_i32_253 : BitVec 32 := 1#32
  let arg15 : BitVec 32 := Scf.iv c0_i32_251 c1_i32_253 k0_t7
  let c2_i32_317 : BitVec 32 := 2#32
  let v326 : BitVec 32 := Scalar.remsi arg15 c2_i32_317
  let v352 : BitVec 32 := Scalar.subi c1_i32_333 v326
  ![v352.toNat]
def k0_off71 (k0_t7 : Fin k0_t7_loop.trips) : Fin 3 → Nat :=
  let c1_i32_333 : BitVec 32 := 1#32
  let c0_i32_251 : BitVec 32 := 0#32
  let c1_i32_253 : BitVec 32 := 1#32
  let arg15 : BitVec 32 := Scf.iv c0_i32_251 c1_i32_253 k0_t7
  let c2_i32_317 : BitVec 32 := 2#32
  let v326 : BitVec 32 := Scalar.remsi arg15 c2_i32_317
  let v352 : BitVec 32 := Scalar.subi c1_i32_333 v326
  let c0_i32_336 : BitVec 32 := 0#32
  let c0_i32_337 : BitVec 32 := 0#32
  ![v352.toNat, 0, 0]
def k0_off72 (d0 : Dev nD) (k0_t7 : Fin k0_t7_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c2048_i32_334 : BitVec 32 := 2048#32
  let v353 : BitVec 32 := Scalar.muli v13 c2048_i32_334
  let c0_i32_251 : BitVec 32 := 0#32
  let c1_i32_253 : BitVec 32 := 1#32
  let arg15 : BitVec 32 := Scf.iv c0_i32_251 c1_i32_253 k0_t7
  let c1_i32_332 : BitVec 32 := 1#32
  let v351 : BitVec 32 := Scalar.addi arg15 c1_i32_332
  let c512_i32_335 : BitVec 32 := 512#32
  let v354 : BitVec 32 := Scalar.muli v351 c512_i32_335
  ![v353.toNat, v354.toNat]
def k0_off73 (k0_t7 : Fin k0_t7_loop.trips) : Fin 1 → Nat :=
  let c0_i32_251 : BitVec 32 := 0#32
  let c1_i32_253 : BitVec 32 := 1#32
  let arg15 : BitVec 32 := Scf.iv c0_i32_251 c1_i32_253 k0_t7
  let c2_i32_317 : BitVec 32 := 2#32
  let v326 : BitVec 32 := Scalar.remsi arg15 c2_i32_317
  ![v326.toNat]
def k0_off74 (k0_t7 : Fin k0_t7_loop.trips) : Fin 3 → Nat :=
  let c0_i32_251 : BitVec 32 := 0#32
  let c1_i32_253 : BitVec 32 := 1#32
  let arg15 : BitVec 32 := Scf.iv c0_i32_251 c1_i32_253 k0_t7
  let c2_i32_317 : BitVec 32 := 2#32
  let v326 : BitVec 32 := Scalar.remsi arg15 c2_i32_317
  let c0_i32_322 : BitVec 32 := 0#32
  let c0_i32_323 : BitVec 32 := 0#32
  ![v326.toNat, 0, 0]
def k0_off75 (d0 : Dev nD) (k0_t7 : Fin k0_t7_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c2048_i32_321 : BitVec 32 := 2048#32
  let v331 : BitVec 32 := Scalar.muli v13 c2048_i32_321
  let c0_i32_251 : BitVec 32 := 0#32
  let c1_i32_253 : BitVec 32 := 1#32
  let arg15 : BitVec 32 := Scf.iv c0_i32_251 c1_i32_253 k0_t7
  let c512_i32 : BitVec 32 := 512#32
  let v332 : BitVec 32 := Scalar.muli arg15 c512_i32
  ![v331.toNat, v332.toNat]
def k0_off76 (k0_t7 : Fin k0_t7_loop.trips) : Fin 3 → Nat :=
  let c0_i32_251 : BitVec 32 := 0#32
  let c1_i32_253 : BitVec 32 := 1#32
  let arg15 : BitVec 32 := Scf.iv c0_i32_251 c1_i32_253 k0_t7
  let c2_i32_317 : BitVec 32 := 2#32
  let v326 : BitVec 32 := Scalar.remsi arg15 c2_i32_317
  let v338 : Index := Scalar.indexCast v326
  let c0_324 : Index := 0#32
  let c0_325 : Index := 0#32
  ![v338.toNat, 0, 0]
def k0_off77 (k0_t7 : Fin k0_t7_loop.trips) : Fin 2 → Nat :=
  let c0_327 : Index := 0#32
  let c0_i32_251 : BitVec 32 := 0#32
  let c1_i32_253 : BitVec 32 := 1#32
  let arg15 : BitVec 32 := Scf.iv c0_i32_251 c1_i32_253 k0_t7
  let c512_i32_326 : BitVec 32 := 512#32
  let v342 : BitVec 32 := Scalar.muli arg15 c512_i32_326
  let v343 : Index := Scalar.indexCast v342
  ![0, v343.toNat]
def k0_off78 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c0_i32_258 : BitVec 32 := 0#32
  let c0_i32_259 : BitVec 32 := 0#32
  ![v24.toNat, 0, 0]
@[reducible] def k0_t8_loop : Scf.Loop 32 :=
  let c0_i32_276 : BitVec 32 := 0#32
  let c8_i32_277 : BitVec 32 := 8#32
  let v294 : BitVec 32 := Scalar.addi c0_i32_276 c8_i32_277
  let c1_i32_278 : BitVec 32 := 1#32
  ⟨c0_i32_276, v294, c1_i32_278⟩
def k0_cond12 (k0_t8 : Fin k0_t8_loop.trips) : BitVec 1 :=
  let c0_i32_276 : BitVec 32 := 0#32
  let c1_i32_278 : BitVec 32 := 1#32
  let arg15 : BitVec 32 := Scf.iv c0_i32_276 c1_i32_278 k0_t8
  let c1_i32_318 : BitVec 32 := 1#32
  let v327 : BitVec 32 := Scalar.addi arg15 c1_i32_318
  let c8_i32_319 : BitVec 32 := 8#32
  let v328 : BitVec 1 := Scalar.cmpi .slt v327 c8_i32_319
  let v329 : BitVec 32 := Scalar.extui v328
  let c0_i32_320 : BitVec 32 := 0#32
  let v330 : BitVec 1 := Scalar.cmpi .ne v329 c0_i32_320
  v330

def k0_off79 (k0_t8 : Fin k0_t8_loop.trips) : Fin 1 → Nat :=
  let c1_i32_333 : BitVec 32 := 1#32
  let c0_i32_276 : BitVec 32 := 0#32
  let c1_i32_278 : BitVec 32 := 1#32
  let arg15 : BitVec 32 := Scf.iv c0_i32_276 c1_i32_278 k0_t8
  let c2_i32_317 : BitVec 32 := 2#32
  let v326 : BitVec 32 := Scalar.remsi arg15 c2_i32_317
  let v352 : BitVec 32 := Scalar.subi c1_i32_333 v326
  ![v352.toNat]
def k0_off80 (k0_t8 : Fin k0_t8_loop.trips) : Fin 3 → Nat :=
  let c1_i32_333 : BitVec 32 := 1#32
  let c0_i32_276 : BitVec 32 := 0#32
  let c1_i32_278 : BitVec 32 := 1#32
  let arg15 : BitVec 32 := Scf.iv c0_i32_276 c1_i32_278 k0_t8
  let c2_i32_317 : BitVec 32 := 2#32
  let v326 : BitVec 32 := Scalar.remsi arg15 c2_i32_317
  let v352 : BitVec 32 := Scalar.subi c1_i32_333 v326
  let c0_i32_336 : BitVec 32 := 0#32
  let c0_i32_337 : BitVec 32 := 0#32
  ![v352.toNat, 0, 0]
def k0_off81 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c2048_i32_334 : BitVec 32 := 2048#32
  let v353 : BitVec 32 := Scalar.muli v24 c2048_i32_334
  let c0_i32_276 : BitVec 32 := 0#32
  let c1_i32_278 : BitVec 32 := 1#32
  let arg15 : BitVec 32 := Scf.iv c0_i32_276 c1_i32_278 k0_t8
  let c1_i32_332 : BitVec 32 := 1#32
  let v351 : BitVec 32 := Scalar.addi arg15 c1_i32_332
  let c512_i32_335 : BitVec 32 := 512#32
  let v354 : BitVec 32 := Scalar.muli v351 c512_i32_335
  ![v353.toNat, v354.toNat]
def k0_off82 (k0_t8 : Fin k0_t8_loop.trips) : Fin 1 → Nat :=
  let c0_i32_276 : BitVec 32 := 0#32
  let c1_i32_278 : BitVec 32 := 1#32
  let arg15 : BitVec 32 := Scf.iv c0_i32_276 c1_i32_278 k0_t8
  let c2_i32_317 : BitVec 32 := 2#32
  let v326 : BitVec 32 := Scalar.remsi arg15 c2_i32_317
  ![v326.toNat]
def k0_off83 (k0_t8 : Fin k0_t8_loop.trips) : Fin 3 → Nat :=
  let c0_i32_276 : BitVec 32 := 0#32
  let c1_i32_278 : BitVec 32 := 1#32
  let arg15 : BitVec 32 := Scf.iv c0_i32_276 c1_i32_278 k0_t8
  let c2_i32_317 : BitVec 32 := 2#32
  let v326 : BitVec 32 := Scalar.remsi arg15 c2_i32_317
  let c0_i32_322 : BitVec 32 := 0#32
  let c0_i32_323 : BitVec 32 := 0#32
  ![v326.toNat, 0, 0]
def k0_off84 (d0 : Dev nD) (k0_t8 : Fin k0_t8_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c2048_i32_321 : BitVec 32 := 2048#32
  let v331 : BitVec 32 := Scalar.muli v24 c2048_i32_321
  let c0_i32_276 : BitVec 32 := 0#32
  let c1_i32_278 : BitVec 32 := 1#32
  let arg15 : BitVec 32 := Scf.iv c0_i32_276 c1_i32_278 k0_t8
  let c512_i32 : BitVec 32 := 512#32
  let v332 : BitVec 32 := Scalar.muli arg15 c512_i32
  ![v331.toNat, v332.toNat]
def k0_off85 (k0_t8 : Fin k0_t8_loop.trips) : Fin 3 → Nat :=
  let c0_i32_276 : BitVec 32 := 0#32
  let c1_i32_278 : BitVec 32 := 1#32
  let arg15 : BitVec 32 := Scf.iv c0_i32_276 c1_i32_278 k0_t8
  let c2_i32_317 : BitVec 32 := 2#32
  let v326 : BitVec 32 := Scalar.remsi arg15 c2_i32_317
  let v338 : Index := Scalar.indexCast v326
  let c0_324 : Index := 0#32
  let c0_325 : Index := 0#32
  ![v338.toNat, 0, 0]
def k0_off86 (k0_t8 : Fin k0_t8_loop.trips) : Fin 2 → Nat :=
  let c0_327 : Index := 0#32
  let c0_i32_276 : BitVec 32 := 0#32
  let c1_i32_278 : BitVec 32 := 1#32
  let arg15 : BitVec 32 := Scf.iv c0_i32_276 c1_i32_278 k0_t8
  let c512_i32_326 : BitVec 32 := 512#32
  let v342 : BitVec 32 := Scalar.muli arg15 c512_i32_326
  let v343 : Index := Scalar.indexCast v342
  ![0, v343.toNat]
def k0_off87 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1024_i32_284 : BitVec 32 := 1024#32
  let c0_i32_285 : BitVec 32 := 0#32
  ![v24.toNat, 1024, 0]
@[reducible] def k0_t9_loop : Scf.Loop 32 :=
  let c0_i32_302 : BitVec 32 := 0#32
  let c8_i32_303 : BitVec 32 := 8#32
  let v315 : BitVec 32 := Scalar.addi c0_i32_302 c8_i32_303
  let c1_i32_304 : BitVec 32 := 1#32
  ⟨c0_i32_302, v315, c1_i32_304⟩
def k0_cond13 (k0_t9 : Fin k0_t9_loop.trips) : BitVec 1 :=
  let c0_i32_302 : BitVec 32 := 0#32
  let c1_i32_304 : BitVec 32 := 1#32
  let arg15 : BitVec 32 := Scf.iv c0_i32_302 c1_i32_304 k0_t9
  let c1_i32_318 : BitVec 32 := 1#32
  let v327 : BitVec 32 := Scalar.addi arg15 c1_i32_318
  let c8_i32_319 : BitVec 32 := 8#32
  let v328 : BitVec 1 := Scalar.cmpi .slt v327 c8_i32_319
  let v329 : BitVec 32 := Scalar.extui v328
  let c0_i32_320 : BitVec 32 := 0#32
  let v330 : BitVec 1 := Scalar.cmpi .ne v329 c0_i32_320
  v330

def k0_off88 (k0_t9 : Fin k0_t9_loop.trips) : Fin 1 → Nat :=
  let c1_i32_332 : BitVec 32 := 1#32
  let c0_i32_302 : BitVec 32 := 0#32
  let c1_i32_304 : BitVec 32 := 1#32
  let arg15 : BitVec 32 := Scf.iv c0_i32_302 c1_i32_304 k0_t9
  let c2_i32_317 : BitVec 32 := 2#32
  let v326 : BitVec 32 := Scalar.remsi arg15 c2_i32_317
  let v352 : BitVec 32 := Scalar.subi c1_i32_332 v326
  ![v352.toNat]
def k0_off89 (k0_t9 : Fin k0_t9_loop.trips) : Fin 3 → Nat :=
  let c1_i32_332 : BitVec 32 := 1#32
  let c0_i32_302 : BitVec 32 := 0#32
  let c1_i32_304 : BitVec 32 := 1#32
  let arg15 : BitVec 32 := Scf.iv c0_i32_302 c1_i32_304 k0_t9
  let c2_i32_317 : BitVec 32 := 2#32
  let v326 : BitVec 32 := Scalar.remsi arg15 c2_i32_317
  let v352 : BitVec 32 := Scalar.subi c1_i32_332 v326
  let c0_i32_335 : BitVec 32 := 0#32
  let c0_i32_336 : BitVec 32 := 0#32
  ![v352.toNat, 0, 0]
def k0_off90 (d0 : Dev nD) (k0_t9 : Fin k0_t9_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c2048_i32_333 : BitVec 32 := 2048#32
  let v353 : BitVec 32 := Scalar.muli v24 c2048_i32_333
  let c0_i32_302 : BitVec 32 := 0#32
  let c1_i32_304 : BitVec 32 := 1#32
  let arg15 : BitVec 32 := Scf.iv c0_i32_302 c1_i32_304 k0_t9
  let c1_i32_331 : BitVec 32 := 1#32
  let v351 : BitVec 32 := Scalar.addi arg15 c1_i32_331
  let c512_i32_334 : BitVec 32 := 512#32
  let v354 : BitVec 32 := Scalar.muli v351 c512_i32_334
  ![v353.toNat, v354.toNat]
def k0_off91 (k0_t9 : Fin k0_t9_loop.trips) : Fin 1 → Nat :=
  let c0_i32_302 : BitVec 32 := 0#32
  let c1_i32_304 : BitVec 32 := 1#32
  let arg15 : BitVec 32 := Scf.iv c0_i32_302 c1_i32_304 k0_t9
  let c2_i32_317 : BitVec 32 := 2#32
  let v326 : BitVec 32 := Scalar.remsi arg15 c2_i32_317
  ![v326.toNat]
def k0_off92 (k0_t9 : Fin k0_t9_loop.trips) : Fin 3 → Nat :=
  let c0_i32_302 : BitVec 32 := 0#32
  let c1_i32_304 : BitVec 32 := 1#32
  let arg15 : BitVec 32 := Scf.iv c0_i32_302 c1_i32_304 k0_t9
  let c2_i32_317 : BitVec 32 := 2#32
  let v326 : BitVec 32 := Scalar.remsi arg15 c2_i32_317
  let c0_i32_322 : BitVec 32 := 0#32
  let c0_i32_323 : BitVec 32 := 0#32
  ![v326.toNat, 0, 0]
def k0_off93 (d0 : Dev nD) (k0_t9 : Fin k0_t9_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 32 := Scalar.addi v2 c2_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c2048_i32_321 : BitVec 32 := 2048#32
  let v331 : BitVec 32 := Scalar.muli v24 c2048_i32_321
  let c0_i32_302 : BitVec 32 := 0#32
  let c1_i32_304 : BitVec 32 := 1#32
  let arg15 : BitVec 32 := Scf.iv c0_i32_302 c1_i32_304 k0_t9
  let c512_i32 : BitVec 32 := 512#32
  let v332 : BitVec 32 := Scalar.muli arg15 c512_i32
  ![v331.toNat, v332.toNat]
def k0_off94 (k0_t9 : Fin k0_t9_loop.trips) : Fin 3 → Nat :=
  let c0_i32_302 : BitVec 32 := 0#32
  let c1_i32_304 : BitVec 32 := 1#32
  let arg15 : BitVec 32 := Scf.iv c0_i32_302 c1_i32_304 k0_t9
  let c2_i32_317 : BitVec 32 := 2#32
  let v326 : BitVec 32 := Scalar.remsi arg15 c2_i32_317
  let v338 : Index := Scalar.indexCast v326
  let c0_324 : Index := 0#32
  let c0_325 : Index := 0#32
  ![v338.toNat, 0, 0]
def k0_off95 (k0_t9 : Fin k0_t9_loop.trips) : Fin 2 → Nat :=
  let c1024 : Index := 1024#32
  let c0_i32_302 : BitVec 32 := 0#32
  let c1_i32_304 : BitVec 32 := 1#32
  let arg15 : BitVec 32 := Scf.iv c0_i32_302 c1_i32_304 k0_t9
  let c512_i32_326 : BitVec 32 := 512#32
  let v342 : BitVec 32 := Scalar.muli arg15 c512_i32_326
  let v343 : Index := Scalar.indexCast v342
  ![1024, v343.toNat]
abbrev stage0_0 : Fin 1 → Memref sig .tc .vmem S2048x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Rules.lean ====
/- Local copies stated by the elements they move.

   A local copy is started on a source held at any share and on a destination region held at any
   contents, and names in advance the contents `g` its destination is going to have: what has to be
   checked is only that the source reads, element by element, as `g` does through the destination.
   The rest of the source stays with the caller. -/
module

public import Idealize.ShloMosaic.Lib.Pipeline.Kit
public import Idealize.ShloMosaic.Lib.Tactic
public import Idealize.ShloMosaic.Lib.Transfers
public import Idealize.ShloMosaic.Lib.ValueLayout
public import Idealize.ShloMosaic.Lib.Pipeline.Value

@[expose] public section

noncomputable section

namespace Cert.Copies

open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type}
variable {U : Type} [URA U] [CountersIn U] {Lvl : Type} [Preorder Lvl]

local notation "𝕄" => MT nD τ sig Ix Val ℕ U Lvl

variable {Λ : Labels} {defs : Defs nD τ sig Val Λ} {𝒱 : Variants} {c : Thread nD τ} {bd : Option 𝒱.V}
variable {α : Type} {sp sp' : Space} {s : Shape} {e : EltTy}

/-- A local copy in flight on DMA semaphore `q` of thread `c`, worth `N` units and handing over `D`. -/
abbrev Fly (c : Thread nD τ) (q : DmaSem sig) (ι : Ix) (N : ℕ) (D : sProp 𝕄) : sProp 𝕄 :=
  Transfers.Flight countersEmb c (.dma q) ι N D

/-- A local copy started: the destination's region `D` at any contents and the source's elements `S` at
    some share give the copy in flight, worth the destination's credit; it hands over `D` at the contents
    `g` the source was shown to carry there and the source as it was. -/
theorem copy_start {src : Memref sig c.2.kind sp s e} {dst : Memref sig c.2.kind sp' s e} {q q' : DmaSem sig}
    {hsrc : src.view.WordExact} {hdst : dst.view.WordExact} {hsem : DmaTarget.Typed (nD := nD) sp (.dma q) (.here dst)}
    {Q : α → sProp 𝕄} {k : PUnit → Prog (TpuEff nD τ sig Val Λ c.2) α} {sh : PosShare TreeShare}
    {S T : Finset (Idx (src.view.loc c))} {D : Finset (Idx (dst.view.loc c))}
    {f : Buf Val (src.view.loc c)} (g : Buf Val (dst.view.loc c)) (ι : Ix) (N : ℕ)
    (hq : q = q') (hN : dst.view.dmaCredit = N) (hpos : 0 < s.numel)
    (hS : src.view.set = S) (hST : S ⊆ T) (hD : dst.view.set = D)
    (hv : ∀ x, src.view.read Val f x = dst.view.read Val g x) :
    iprop((src.view.loc c ↦[T]{sh} f) ∗ (∃ g₀ : Buf Val (dst.view.loc c), dst.view.loc c ↦[D]{fullShare} g₀) ∗ semVal (c, SemLoc.dma q') 0)
      ⊢ iprop(((Fly (U := U) (Lvl := Lvl) c q' ι N iprop((dst.view.loc c ↦[D]{fullShare} g) ∗ (src.view.loc c ↦[S]{sh} f))
                ∗ (src.view.loc c ↦[T \ S]{sh} f))
              -∗ wp frame (wpE defs 𝒱 c bd) Set.univ (k ⟨⟩) Q)
          -∗ wp frame (wpE defs 𝒱 c bd) Set.univ (.op (.enqueueDma src (.here dst) (.dma q) hsrc hdst hsem) k) Q) := by
  subst hq; subst hS; subst hD
  iintro ⟨Hs, ⟨%g₀, Hd⟩, Hv⟩ Hk
  ihave Hs := (pointsTo_split_subset hST).1 $$ Hs
  icases Hs with ⟨Hs, Hrest⟩
  iapply (Transfers.wp_dmaLocal (src := src) (dst := dst) (sm := .dma q) countersEmb 𝒱 c bd ι N hN (hN ▸ View.dmaCredit_pos _ hpos) (Finset.Subset.refl _)) $$ [Hs Hd Hv]
  · isplitl [Hs]; · iexact Hs
    isplitl [Hd]; · iexact Hd
    iexact Hv
  iintro HF
  iapply Hk
  isplitl [HF]
  · iapply (Transfers.Flight_mono countersEmb c (D' := iprop((dst.view.loc c ↦[dst.view.set]{fullShare} g) ∗ (src.view.loc c ↦[src.view.set]{sh} f))) ?_) $$ HF
    refine sep_mono_left (Entails.of_eq (pointsTo_congr fun i hi => ?_))
    obtain ⟨x, -, rfl⟩ := Finset.mem_map.1 hi
    have hx : dst.view.read Val (dst.view.write Val g₀ (src.view.read Val f) Finset.univ) x = dst.view.read Val g x := by
      rw [View.read_write_univ]; exact hv x
    rw [View.read_apply, View.read_apply] at hx
    exact (cast_inj _).1 hx
  · iexact Hrest

/-- A local copy waited for: what it hands over, the semaphore back at zero. -/
theorem copy_wait {s' : Shape} {e' : EltTy} {κ' : Kind} {q q' : DmaSem sig}
    {srcw : Memref sig c.2.kind sp' s' e'} {dstw : Memref sig κ' sp s e} {hsrc : srcw.view.WordExact} {hdst : dstw.view.WordExact}
    {Q : α → sProp 𝕄} {k : PUnit → Prog (TpuEff nD τ sig Val Λ c.2) α} {ι : Ix} {N : ℕ} (hq : q = q') (hN : dstw.view.dmaCredit = N) {D P : sProp 𝕄}
    {O : CellTallies nD τ sig Ix} (hP : P ⊢ MayWait c (.dma q') ι O) :
    iprop(Fly (U := U) (Lvl := Lvl) c q' ι N D ∗ (∃ W, owes c O W) ∗ P)
      ⊢ iprop((iprop(D ∗ semVal (c, .dma q') 0 ∗ (∃ W, owes c O W)) -∗ wp frame (wpE defs 𝒱 c bd) Set.univ (k ⟨⟩) Q)
          -∗ wp frame (wpE defs 𝒱 c bd) Set.univ (.op (.waitDma2 q srcw dstw hsrc hdst) k) Q) := by
  subst hq
  iintro ⟨HF, ⟨%W, HO⟩, HP⟩ Hk
  iapply (Transfers.wp_waitLocalO countersEmb 𝒱 c bd ι hN) $$ [HF HO HP]
  · isplitl [HF]; · iexact HF
    isplitl [HO]; · iexact HO
    iapply hP $$ HP
  iintro ⟨HD, Hv, HO⟩
  iapply Hk
  isplitl [HD]; · iexact HD
  isplitl [Hv]; · iexact Hv
  iexists _; iexact HO

/-- Elements lent to a copy, put back beside the rest at the same contents. -/
theorem pts_rejoin {ℓ : Loc nD τ sig} {S T : Finset (Idx ℓ)} {sh : PosShare TreeShare} {f : Buf Val ℓ} (h : S ⊆ T) :
    iprop((ℓ ↦[S]{sh} f) ∗ (ℓ ↦[T \ S]{sh} f)) ⊢ (ℓ ↦[T]{sh} f : sProp 𝕄) :=
  (pointsTo_split_subset h).2

/-- Two disjoint regions at the same contents are their union, whichever way the union is written. -/
theorem pts_union {ℓ : Loc nD τ sig} {I J T : Finset (Idx ℓ)} {sh : PosShare TreeShare} {f : Buf Val ℓ}
    (hd : Disjoint I J) (hT : I ∪ J = T) :
    (ℓ ↦[T]{sh} f : sProp 𝕄) ⊣⊢ iprop((ℓ ↦[I]{sh} f) ∗ (ℓ ↦[J]{sh} f)) := by
  subst hT; exact pointsTo_union hd

/-- A load of elements held at some share: the program goes on at the value the caller names. -/
theorem load_at {cs : CoreSpace} {m : Memref sig c.2.kind cs s e} {r : Rect s} {hl : m.view.LoadsAt r}
    {Q : α → sProp 𝕄} {k : (r.shape.Idx → Val e) → Prog (TpuEff nD τ sig Val Λ c.2) α} {sh : PosShare TreeShare}
    {D : Finset (Idx ((m.access r).loc c))} {f : Buf Val ((m.access r).loc c)} (w : r.shape.Idx → Val e)
    (hD : (m.access r).set ⊆ D) (hv : ∀ x, (m.access r).read Val f x = w x) :
    ((m.access r).loc c ↦[D]{sh} f)
      ⊢ iprop((((m.access r).loc c ↦[D]{sh} f) -∗ wp frame (wpE defs 𝒱 c bd) Set.univ (k w) Q)
        -∗ wp frame (wpE defs 𝒱 c bd) Set.univ (.op (.load m r hl) k) Q) := by
  have hw : (m.access r).read Val f = w := funext hv
  subst hw
  exact wp_load_rect 𝒱 c bd Set.univ hD

/-- A load of elements whose contents nobody asks about: the program goes on whatever was read. -/
theorem load_any {cs : CoreSpace} {m : Memref sig c.2.kind cs s e} {r : Rect s} {hl : m.view.LoadsAt r}
    {Q : α → sProp 𝕄} {k : (r.shape.Idx → Val e) → Prog (TpuEff nD τ sig Val Λ c.2) α}
    {D : Finset (Idx ((m.access r).loc c))} (hD : (m.access r).set ⊆ D) :
    iprop(∃ f : Buf Val ((m.access r).loc c), (m.access r).loc c ↦[D]{fullShare} f)
      ⊢ iprop((∀ w, (∃ f : Buf Val ((m.access r).loc c), (m.access r).loc c ↦[D]{fullShare} f) -∗ wp frame (wpE defs 𝒱 c bd) Set.univ (k w) Q)
        -∗ wp frame (wpE defs 𝒱 c bd) Set.univ (.op (.load m r hl) k) Q) := by
  iintro ⟨%f, Hf⟩ Hk
  iapply (wp_load_rect 𝒱 c bd Set.univ hD) $$ Hf
  iintro Hf
  iapply Hk
  iexists f; iexact Hf

/-- A whole-region store: the region at any contents becomes the region at the contents `g` that read as
    what is stored. -/
theorem store_at {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {Q : α → sProp 𝕄} {k : PUnit → Prog (TpuEff nD τ sig Val Λ c.2) α}
    {D : Finset (Idx ((m.access r).loc c))} (g : Buf Val ((m.access r).loc c))
    (hD : (m.access r).set = D) (hv : ∀ x, w x = (m.access r).read Val g x) :
    iprop(∃ f : Buf Val ((m.access r).loc c), (m.access r).loc c ↦[D]{fullShare} f)
      ⊢ iprop((((m.access r).loc c ↦[D]{fullShare} g) -∗ wp frame (wpE defs 𝒱 c bd) Set.univ (k ⟨⟩) Q)
        -∗ wp frame (wpE defs 𝒱 c bd) Set.univ (.op (.store m r w Finset.univ hx hm) k) Q) := by
  subst hD
  iintro ⟨%f, Hf⟩ Hk
  iapply (wp_store 𝒱 c bd Set.univ (S := (m.access r).set) (View.setOn_univ (m.access r)).subset) $$ Hf
  iintro Hf
  iapply Hk
  have h : ((m.access r).loc c ↦[(m.access r).set]{fullShare} ((m.access r).write Val f w Finset.univ) : sProp 𝕄)
      = ((m.access r).loc c ↦[(m.access r).set]{fullShare} g) := pointsTo_congr fun i hi => by
    obtain ⟨x, -, rfl⟩ := Finset.mem_map.1 hi
    have hx : (m.access r).read Val ((m.access r).write Val f w Finset.univ) x = (m.access r).read Val g x := by
      rw [View.read_write_univ]; exact hv x
    rw [View.read_apply, View.read_apply] at hx
    exact (cast_inj _).1 hx
  iapply (Entails.of_eq h) $$ Hf

/-! ## Elements named by numbers -/

/-- The element of a matrix at row `a` and column `b`, both numbers (wrapped round when out of range, which
    no use of it is). -/
def at2 {A B : ℕ} {β : Type} [NeZero A] [NeZero B] (f : (⟨2, ![A, B]⟩ : Shape).Idx → β) (a b : ℕ) : β :=
  f (ix2 (⟨a % A, Nat.mod_lt _ (NeZero.pos A)⟩ : Fin A) (⟨b % B, Nat.mod_lt _ (NeZero.pos B)⟩ : Fin B))

theorem at2_eq {A B : ℕ} {β : Type} [NeZero A] [NeZero B] (f : (⟨2, ![A, B]⟩ : Shape).Idx → β)
    {a b : ℕ} (i : (⟨2, ![A, B]⟩ : Shape).Idx) (h0 : (i 0).val = a) (h1 : (i 1).val = b) : at2 f a b = f i := by
  subst h0; subst h1
  refine congrArg f (funext fun d => ?_)
  have h0 : (i 0).val < A := (i 0).isLt
  have h1 : (i 1).val < B := (i 1).isLt
  match d with
  | ⟨0, _⟩ => exact Fin.ext (Nat.mod_eq_of_lt h0)
  | ⟨1, _⟩ => exact Fin.ext (Nat.mod_eq_of_lt h1)

theorem at2_congr {A B : ℕ} {β : Type} [NeZero A] [NeZero B] (f : (⟨2, ![A, B]⟩ : Shape).Idx → β) {a b a' b' : ℕ}
    (ha : a = a') (hb : b = b') : at2 f a b = at2 f a' b' := by rw [ha, hb]

/-! ## Regions by ranges of leading coordinates -/

/-- Rows `lo … lo + n - 1` of a matrix. -/
def rowsOf {A B : ℕ} (lo n : ℕ) : Finset (⟨2, ![A, B]⟩ : Shape).Idx :=
  Finset.univ.filter fun i => lo ≤ (i 0).val ∧ (i 0).val < lo + n
/-- Rows `lo … lo + n - 1` and columns `l … l + k - 1` of a matrix. -/
def tileOf {A B : ℕ} (lo n l k : ℕ) : Finset (⟨2, ![A, B]⟩ : Shape).Idx :=
  Finset.univ.filter fun i => (lo ≤ (i 0).val ∧ (i 0).val < lo + n) ∧ (l ≤ (i 1).val ∧ (i 1).val < l + k)
/-- Rows `lo … lo + n - 1` of slot `s` of a stack of matrices. -/
def slabOf {A B C : ℕ} (s lo n : ℕ) : Finset (⟨3, ![A, B, C]⟩ : Shape).Idx :=
  Finset.univ.filter fun i => (i 0).val = s ∧ (lo ≤ (i 1).val ∧ (i 1).val < lo + n)
/-- Slot `s` of a stack of matrices. -/
def slotOf {A B C : ℕ} (s : ℕ) : Finset (⟨3, ![A, B, C]⟩ : Shape).Idx := Finset.univ.filter fun i => (i 0).val = s

section
variable {A B C : ℕ}

theorem mem_rowsOf {lo n : ℕ} {i : (⟨2, ![A, B]⟩ : Shape).Idx} : i ∈ rowsOf lo n ↔ lo ≤ (i 0).val ∧ (i 0).val < lo + n := by
  simp only [rowsOf, Finset.mem_filter, Finset.mem_univ, true_and]
theorem mem_tileOf {lo n l k : ℕ} {i : (⟨2, ![A, B]⟩ : Shape).Idx} :
    i ∈ tileOf lo n l k ↔ (lo ≤ (i 0).val ∧ (i 0).val < lo + n) ∧ (l ≤ (i 1).val ∧ (i 1).val < l + k) := by
  simp only [tileOf, Finset.mem_filter, Finset.mem_univ, true_and]
theorem mem_slabOf {s lo n : ℕ} {i : (⟨3, ![A, B, C]⟩ : Shape).Idx} :
    i ∈ slabOf s lo n ↔ (i 0).val = s ∧ (lo ≤ (i 1).val ∧ (i 1).val < lo + n) := by
  simp only [slabOf, Finset.mem_filter, Finset.mem_univ, true_and]
theorem mem_slotOf {s : ℕ} {i : (⟨3, ![A, B, C]⟩ : Shape).Idx} : i ∈ slotOf s ↔ (i 0).val = s := by
  simp only [slotOf, Finset.mem_filter, Finset.mem_univ, true_and]

theorem unit_tile {lo n l k : ℕ} {off size : Fin 2 → ℕ} {inb} (ho : off = ![lo, l]) (hs : size = ![n, k]) :
    (Rect.unit (s := ⟨2, ![A, B]⟩) off size inb).set = tileOf lo n l k := by
  subst ho; subst hs
  refine Finset.ext fun i => ?_
  rw [Rect.mem_set_unit, mem_tileOf]
  exact Fin.forall_fin_two

theorem unit_rows {lo n : ℕ} {off size : Fin 2 → ℕ} {inb} (ho : off = ![lo, 0]) (hs : size = ![n, B]) :
    (Rect.unit (s := ⟨2, ![A, B]⟩) off size inb).set = rowsOf lo n := by
  refine (unit_tile ho hs).trans (Finset.ext fun i => ?_)
  rw [mem_tileOf, mem_rowsOf]
  have := idx2_lt1 i
  omega

theorem unit_slab {s lo n : ℕ} {off size : Fin 3 → ℕ} {inb} (ho : off = ![s, lo, 0]) (hs : size = ![1, n, C]) :
    (Rect.unit (s := ⟨3, ![A, B, C]⟩) off size inb).set = slabOf s lo n := by
  subst ho; subst hs
  refine Finset.ext fun i => ?_
  rw [Rect.mem_set_unit, mem_slabOf]
  have h2 : (i 2).val < C := (i 2).isLt
  constructor
  · intro h
    have h0 : s ≤ (i 0).val ∧ (i 0).val < s + 1 := h 0
    have h1 : lo ≤ (i 1).val ∧ (i 1).val < lo + n := h 1
    omega
  · rintro ⟨h0, h1⟩ d
    match d with
    | ⟨0, _⟩ => exact show s ≤ (i 0).val ∧ (i 0).val < s + 1 by omega
    | ⟨1, _⟩ => exact h1
    | ⟨2, _⟩ => exact show 0 ≤ (i 2).val ∧ (i 2).val < 0 + C by omega

theorem unit_slot {s : ℕ} {off size : Fin 3 → ℕ} {inb} (ho : off = ![s, 0, 0]) (hs : size = ![1, B, C]) :
    (Rect.unit (s := ⟨3, ![A, B, C]⟩) off size inb).set = slotOf s := by
  refine (unit_slab ho hs).trans (Finset.ext fun i => ?_)
  have h1 : (i 1).val < B := (i 1).isLt
  rw [mem_slabOf, mem_slotOf]
  omega

end

/-- The index a unit leading axis is put back at: its coordinates. -/
theorem unsqueeze_val {A B : ℕ} (h : (⟨2, ![A, B]⟩ : Shape).numel = (⟨3, ![1, A, B]⟩ : Shape).numel)
    (x : (⟨2, ![A, B]⟩ : Shape).Idx) :
    Shape.reshapeEquiv h x = ix3 (⟨0, Nat.one_pos⟩ : Fin 1) (x 0 : Fin A) (x 1 : Fin B) := by
  conv_lhs => rw [eq_ix2 x]
  exact reshapeEquiv_ix2_1ab h _ _

theorem unsqueeze_one {A B : ℕ} (h : (⟨2, ![A, B]⟩ : Shape).numel = (⟨3, ![1, A, B]⟩ : Shape).numel)
    (x : (⟨2, ![A, B]⟩ : Shape).Idx) : (Shape.reshapeEquiv h x 1).val = (x 0).val := by rw [unsqueeze_val]; rfl
theorem unsqueeze_two {A B : ℕ} (h : (⟨2, ![A, B]⟩ : Shape).numel = (⟨3, ![1, A, B]⟩ : Shape).numel)
    (x : (⟨2, ![A, B]⟩ : Shape).Idx) : (Shape.reshapeEquiv h x 2).val = (x 1).val := by rw [unsqueeze_val]; rfl
theorem unsqueeze_zero {A B : ℕ} (h : (⟨2, ![A, B]⟩ : Shape).numel = (⟨3, ![1, A, B]⟩ : Shape).numel)
    (x : (⟨2, ![A, B]⟩ : Shape).Idx) : (Shape.reshapeEquiv h x 0).val = 0 := by rw [unsqueeze_val]; rfl

/-- The semaphore picked out of an array laid out from `base`: the one at the offset. -/
theorem sem_pick {n A base : ℕ} {h : base + (⟨1, ![A]⟩ : Shape).numel ≤ n} {off size : Fin 1 → ℕ} {inb} {d : Fin 0 → ℕ} {sq}
    {k : Fin n} {s : ℕ} (hs : size = ![1]) (ho : off = ![s]) (hk : k.val = base + s) :
    (((SemArray.consecutive (n := n) base ⟨1, ![A]⟩ h).slice (Rect.unit (s := ⟨1, ![A]⟩) off size inb)).squeeze ⟨0, d⟩ sq).sem = k := by
  subst hs; subst ho
  refine Fin.ext (Eq.trans ?_ hk.symm)
  show base + ((⟨1, ![A]⟩ : Shape).rowMajor ((Rect.unit (s := ⟨1, ![A]⟩) ![s] ![1] inb).emb
    (Shape.reshapeEquiv sq.numel_eq fun i => i.elim0))).val = base + s
  rw [Shape.rowMajor_val_one]
  have h0 : ((Shape.reshapeEquiv sq.numel_eq fun i => i.elim0 : (Rect.unit (s := ⟨1, ![A]⟩) ![s] ![1] inb).shape.Idx) 0).val < 1 :=
    ((Shape.reshapeEquiv sq.numel_eq fun i => i.elim0 : (Rect.unit (s := ⟨1, ![A]⟩) ![s] ![1] inb).shape.Idx) 0).isLt
  show base + (s + 1 * ((Shape.reshapeEquiv sq.numel_eq fun i => i.elim0 : (Rect.unit (s := ⟨1, ![A]⟩) ![s] ![1] inb).shape.Idx) 0).val) = base + s
  omega

end Cert.Copies

end
-- ==== Proof.IdealGeom.lean ====
/- The buffers, the regions of them the kernel moves, and what each region holds.

   Every array is spoken of as a whole: a region is the set of its elements whose leading coordinates
   lie in a range, its contents a function on all the array's indices that reads right on that region. -/
module

public import proofs.«01_k».proof.Proof.Rules
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Run

open Cert.KernelIdeal Cert.KernelIdeal.Gen Cert.Copies
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The memrefs -/

/-- The device's columns of `x`. -/
abbrev xM : Memref sig .tc .hbm S8192x2048 .f32 := Memref.whole main_arg0
/-- The weights. -/
abbrev wM : Memref sig .tc .hbm S8192x4096 .f32 := Memref.whole main_arg1
/-- The result's staging buffer. -/
abbrev oM : Memref sig .tc .vmem S2048x4096 .f32 := Memref.whole cc0_stg0_0
/-- The device's columns of `x`, cast. -/
abbrev xsM : Memref sig .tc .hbm S8192x2048 .bf16 := Memref.whole main_v1_1
/-- What the other devices send, one slot per sender. -/
abbrev rvM : Memref sig .tc .hbm S4x2048x2048 .bf16 := Memref.whole main_v1_2
/-- The two slots the cast reads from. -/
abbrev ciM : Memref sig .tc .vmem S2x256x2048 .f32 := Memref.whole cc0_scratch0
/-- The two slots the cast writes to. -/
abbrev coM : Memref sig .tc .vmem S2x256x2048 .bf16 := Memref.whole cc0_scratch1
/-- The left operand of a product. -/
abbrev bM : Memref sig .tc .vmem S2048x2048 .bf16 := Memref.whole cc0_scratch2
/-- The two slots of weight tiles. -/
abbrev wbM : Memref sig .tc .vmem S2x2048x512 .f32 := Memref.whole cc0_scratch3

/-- DMA semaphore number `n`. -/
def semN (n : ℕ) : DmaSem sig := (⟨n % 17, Nat.mod_lt _ (by decide)⟩ : Fin 17)

/-! ## Regions -/

/-- Rows `lo … lo + n - 1` of an 8192-row matrix of 2048 columns. -/
abbrev rows (lo n : ℕ) : Finset S8192x2048.Idx := rowsOf lo n
/-- Slot `s` of a two-slot chunk buffer. -/
abbrev slot (s : ℕ) : Finset S2x256x2048.Idx := slotOf s
/-- Slot `s` of the weight tiles. -/
abbrev wslot (s : ℕ) : Finset S2x2048x512.Idx := slotOf s
/-- The weights' tile of 2048 rows from `lo` and 512 columns from `l`. -/
abbrev wtile (lo l : ℕ) : Finset S8192x4096.Idx := tileOf lo 2048 l 512
/-- Rows `lo … lo + n - 1` of the receive buffer's slot `s`. -/
abbrev rslab (s lo n : ℕ) : Finset S4x2048x2048.Idx := slabOf s lo n
/-- The first `n` rows of the left operand. -/
abbrev brows (n : ℕ) : Finset S2048x2048.Idx := rowsOf 0 n

/-! ## What the regions hold -/

/-- A chunk slot holding the 256 rows of `X` from row `lo`. -/
def chunk {t : FTy} (X : S8192x2048.Idx → F t) (lo : ℕ) : S2x256x2048.Idx → F t := fun i => at2 X (lo + (i 1).val) (i 2).val

/-- `x` cast, element by element. -/
def castX (X : Vec F S8192x2048 .f32) : Vec F S8192x2048 .bf16 := truncf .bf16 X bitsLt_bf16_f32

/-- The chunk fetched is the rows of `x` it is fetched from. -/
theorem fetch_reads (X : Vec F S8192x2048 .f32) (lo s : ℕ) (off : Fin 2 → ℕ) (off3 : Fin 3 → ℕ) (inb) (h) (inb') (h') (sq)
    (ho : off = ![lo, 0]) (ho' : off3 = ![s, 0, 0]) (x : S256x2048.Idx) :
    (xM.slice (Rect.unit (s := S8192x2048) off S256x2048.size inb) h).view.read (Elt F) X x
      = ((ciM.slice (Rect.unit (s := S2x256x2048) off3 S1x256x2048.size inb') h').squeeze S256x2048 sq).view.read (Elt F) (chunk X lo) x := by
  subst ho; subst ho'
  refine (at2_eq X _ ?_ ?_).symm
  · show lo + 1 * (x 0).val = lo + (0 + 1 * (Shape.reshapeEquiv _ x 1).val)
    rw [unsqueeze_one]; omega
  · show 0 + 1 * (x 1).val = 0 + 1 * (Shape.reshapeEquiv _ x 2).val
    rw [unsqueeze_two]

/-- What a chunk's store takes is the chunk loaded, cast element by element. -/
theorem pay_cast (v : Vec F S1x256x2048 .f32) : k0_pay1 v = truncf .bf16 v bitsLt_bf16_f32 := by
  refine (show k0_pay1 v = truncf .bf16 (shapeCast S1x256x2048 (shapeCast S256x2048 v shapeCasts_S1x256x2048_S256x2048)
    shapeCasts_S256x2048_S1x256x2048) bitsLt_bf16_f32 from rfl).trans ?_
  rw [shapeCast_shapeCast]

/-- The chunk stored is the cast of the chunk loaded. -/
theorem cast_reads (X : Vec F S8192x2048 .f32) (lo : ℕ) (off3 : Fin 3 → ℕ) (inb) (inb') (x) :
    k0_pay1 ((ciM.access (Rect.unit (s := S2x256x2048) off3 S1x256x2048.size inb)).read (Elt F) (chunk X lo)) x
      = (coM.access (Rect.unit (s := S2x256x2048) off3 S1x256x2048.size inb')).read (Elt F) (chunk (castX X) lo) x := by
  rw [pay_cast]
  rfl

/-- The rows written back are the chunk they are written from. -/
theorem flush_reads (Y : Vec F S8192x2048 .bf16) (lo s : ℕ) (off : Fin 2 → ℕ) (off3 : Fin 3 → ℕ) (inb) (h) (inb') (h') (sq)
    (ho : off = ![lo, 0]) (ho' : off3 = ![s, 0, 0]) (x : S256x2048.Idx) :
    ((coM.slice (Rect.unit (s := S2x256x2048) off3 S1x256x2048.size inb') h').squeeze S256x2048 sq).view.read (Elt F) (chunk Y lo) x
      = (xsM.slice (Rect.unit (s := S8192x2048) off S256x2048.size inb) h).view.read (Elt F) Y x := by
  subst ho; subst ho'
  refine at2_eq Y _ ?_ ?_
  · show lo + 1 * (x 0).val = lo + (0 + 1 * (Shape.reshapeEquiv _ x 1).val)
    rw [unsqueeze_one]; omega
  · show 0 + 1 * (x 1).val = 0 + 1 * (Shape.reshapeEquiv _ x 2).val
    rw [unsqueeze_two]

theorem semN_val {n : ℕ} (h : n < 17) : (show Fin 17 from semN n).val = n := Nat.mod_eq_of_lt h

theorem sem_in {s : ℕ} {off : Fin 1 → ℕ} {inb} {sq} (ho : off = ![s]) :
    ((cc0_scratch4.slice (Rect.unit (s := S2) off S1.size inb)).squeeze S_ sq).sem = semN (1 + s) :=
  sem_pick rfl ho (semN_val (by have h : off 0 + 1 ≤ 2 := inb 0; rw [ho] at h; change s + 1 ≤ 2 at h; omega))
theorem sem_out {s : ℕ} {off : Fin 1 → ℕ} {inb} {sq} (ho : off = ![s]) :
    ((cc0_scratch5.slice (Rect.unit (s := S2) off S1.size inb)).squeeze S_ sq).sem = semN (3 + s) :=
  sem_pick rfl ho (semN_val (by have h : off 0 + 1 ≤ 2 := inb 0; rw [ho] at h; change s + 1 ≤ 2 at h; omega))
theorem sem_w {s : ℕ} {off : Fin 1 → ℕ} {inb} {sq} (ho : off = ![s]) :
    ((cc0_scratch7.slice (Rect.unit (s := S2) off S1.size inb)).squeeze S_ sq).sem = semN (6 + s) :=
  sem_pick rfl ho (semN_val (by have h : off 0 + 1 ≤ 2 := inb 0; rw [ho] at h; change s + 1 ≤ 2 at h; omega))
theorem sem_send {s : ℕ} {off : Fin 1 → ℕ} {inb} {sq} (ho : off = ![s]) :
    ((cc0_scratch8.slice (Rect.unit (s := S4) off S1.size inb)).squeeze S_ sq).sem = semN (8 + s) :=
  sem_pick rfl ho (semN_val (by have h : off 0 + 1 ≤ 4 := inb 0; rw [ho] at h; change s + 1 ≤ 4 at h; omega))
theorem sem_recv {s : ℕ} {off : Fin 1 → ℕ} {inb} {sq} (ho : off = ![s]) :
    ((cc0_scratch9.slice (Rect.unit (s := S5) off S1.size inb)).squeeze S_ sq).sem = semN (12 + s) :=
  sem_pick rfl ho (semN_val (by have h : off 0 + 1 ≤ 5 := inb 0; rw [ho] at h; change s + 1 ≤ 5 at h; omega))
theorem sem_b : (cc0_scratch6 : DmaSems sig S_).sem = semN 5 := by decide

end Cert.KernelIdeal.Run

end
-- ==== Proof.IdealCast.lean ====
/- The cast of one block of `x`: its eight chunks of 256 rows fetched, cast and written back, double-buffered.

   Before trip `k` the chunk slot `k % 2` is being filled with chunk `k`, the other is free; the cast slot
   `k % 2` is being written back as chunk `k - 2`, the other as chunk `k - 1`; chunks before `k - 2` are in
   place and those from `k` on are at any contents. -/
module

public import proofs.«01_k».proof.Proof.IdealGeom

@[expose] public section

noncomputable section

namespace Cert.KernelIdeal.Run

open Cert.KernelIdeal Cert.KernelIdeal.Gen Cert.Copies
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

/-- The messages' ghost state: one duty per sender. -/
abbrev UB : Type := URounds (GSem nD τ sig) (Fin 4)
/-- The pipeline library's ghost state, the messages', and the local copies' counters. -/
abbrev UU : Type := UR sig nD τ × (UB × Counters)

local notation "𝕄" => MT nD τ sig Unit (Elt F) ℕ UU ℕ

abbrev 𝒱₀ : Variants := Variants.none

/-- The program run by device `c`'s TensorCore, its post `Q`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A piece of program proved on its own, run at the head of the rest. -/
theorem seq {c : Dev nD} {β : Type} {p : Prog (TpuEff nD τ sig (Elt F) Λ₀ .tc) Unit} {kk : Unit → Prog (TpuEff nD τ sig (Elt F) Λ₀ .tc) β}
    {A B : sProp 𝕄} {Q : β → sProp 𝕄} (h : A ⊢ wpc c p (fun _ => B)) :
    A ⊢ iprop((B -∗ wpc c (kk ⟨⟩) Q) -∗ wpc c (p >>= kk) Q) := by
  unfold wpc
  rw [wp_bind]
  iintro HA HK
  iapply (wp_wand_r _ _ _ (Q := fun _ => B))
  isplitl [HA]
  · iapply h $$ HA
  iintro %u HB
  iapply HK $$ HB

/-! ## One trip's program -/

section Program
variable (c1 c2 : BitVec 1)
variable (o2 : Fin 1 → ℕ) (i2 : c1 = 1#1 → ∀ a, o2 a + S1.size a ≤ S2.size a)
variable (o3 : Fin 3 → ℕ) (i3 : c1 = 1#1 → ∀ a, o3 a + S1x256x2048.size a ≤ S2x256x2048.size a)
variable (o4 : Fin 2 → ℕ) (i4 : c1 = 1#1 → ∀ a, o4 a + S256x2048.size a ≤ S8192x2048.size a)
variable (o5 : Fin 1 → ℕ) (i5 : ∀ a, o5 a + S1.size a ≤ S2.size a)
variable (o6 : Fin 3 → ℕ) (i6 : ∀ a, o6 a + S1x256x2048.size a ≤ S2x256x2048.size a)
variable (o7 : Fin 2 → ℕ) (i7 : ∀ a, o7 a + S256x2048.size a ≤ S8192x2048.size a)
variable (o8 : Fin 1 → ℕ) (i8 : c2 = 1#1 → ∀ a, o8 a + S1.size a ≤ S2.size a)
variable (o9 : Fin 2 → ℕ) (i9 : c2 = 1#1 → ∀ a, o9 a + S256x2048.size a ≤ S8192x2048.size a)
variable (o10 : Fin 3 → ℕ) (i10 : c2 = 1#1 → ∀ a, o10 a + S1x256x2048.size a ≤ S2x256x2048.size a)
variable (o11 : Fin 3 → ℕ) (i11 : ∀ a, o11 a + S1x256x2048.size a ≤ S2x256x2048.size a)
variable (w6 : (Rect.unit (s := S2x256x2048) o6 S1x256x2048.size i6).WholeWords (EltTy.packing .bf16))
variable (w7 : (Rect.unit (s := S8192x2048) o7 S256x2048.size i7).WholeWords (EltTy.packing .bf16))
variable (w9 : ∀ h : c2 = 1#1, (Rect.unit (s := S8192x2048) o9 S256x2048.size (i9 h)).WholeWords (EltTy.packing .bf16))
variable (w10 : ∀ h : c2 = 1#1, (Rect.unit (s := S2x256x2048) o10 S1x256x2048.size (i10 h)).WholeWords (EltTy.packing .bf16))
variable (p11 : (Rect.unit (s := S2x256x2048) o11 S1x256x2048.size i11).PackedRows (EltTy.packing .bf16))

/-- The next chunk's fetch started, if there is a next chunk. -/
def castNext : Prog (TpuEff nD τ sig (Elt F) Λ₀ .tc) Unit :=
  if h : c1 = 1#1 then do
    Prog.lift (.enqueueDma (xM.slice (Rect.unit (s := S8192x2048) o4 S256x2048.size (i4 h)) (fun _ => rfl))
      (.here ((ciM.slice (Rect.unit (s := S2x256x2048) o3 S1x256x2048.size (i3 h)) (fun _ => rfl)).squeeze S256x2048 squeezes_S1x256x2048_S256x2048))
      (.dma ((cc0_scratch4.slice (Rect.unit (s := S2) o2 S1.size (i2 h))).squeeze S_ squeezes_S1_S_).sem)
      (View.wordExact_bits rfl) ((View.wordExact_bits rfl).reshape _ _) ⟨Or.inl rfl, trivial⟩)
    pure ⟨⟩
  else pure ⟨⟩

/-- The write-back two chunks ago waited for, if there was one. -/
def castRetire : Prog (TpuEff nD τ sig (Elt F) Λ₀ .tc) Unit :=
  if h : c2 = 1#1 then do
    Prog.lift (.waitDma2 ((cc0_scratch5.slice (Rect.unit (s := S2) o8 S1.size (i8 h))).squeeze S_ squeezes_S1_S_).sem
      ((coM.slice (Rect.unit (s := S2x256x2048) o10 S1x256x2048.size (i10 h)) (fun _ => rfl)).squeeze S256x2048 squeezes_S1x256x2048_S256x2048)
      (xsM.slice (Rect.unit (s := S8192x2048) o9 S256x2048.size (i9 h)) (fun _ => rfl))
      (((Memref.isWhole_whole _).wordExact_slice rfl _ (w10 h)).reshape _ _) ((Memref.isWhole_whole _).wordExact_slice rfl _ (w9 h)))
    pure ⟨⟩
  else pure ⟨⟩

/-- One trip of a cast loop. -/
def castTrip : Prog (TpuEff nD τ sig (Elt F) Λ₀ .tc) Unit := do
  if h : c1 = 1#1 then do
    Prog.lift (.enqueueDma (xM.slice (Rect.unit (s := S8192x2048) o4 S256x2048.size (i4 h)) (fun _ => rfl))
      (.here ((ciM.slice (Rect.unit (s := S2x256x2048) o3 S1x256x2048.size (i3 h)) (fun _ => rfl)).squeeze S256x2048 squeezes_S1x256x2048_S256x2048))
      (.dma ((cc0_scratch4.slice (Rect.unit (s := S2) o2 S1.size (i2 h))).squeeze S_ squeezes_S1_S_).sem)
      (View.wordExact_bits rfl) ((View.wordExact_bits rfl).reshape _ _) ⟨Or.inl rfl, trivial⟩)
    pure ⟨⟩
  else do pure ⟨⟩
  Prog.lift (.waitDma2 ((cc0_scratch4.slice (Rect.unit (s := S2) o5 S1.size i5)).squeeze S_ squeezes_S1_S_).sem
    (xM.slice (Rect.unit (s := S8192x2048) o7 S256x2048.size i7) (fun _ => rfl))
    ((ciM.slice (Rect.unit (s := S2x256x2048) o6 S1x256x2048.size i6) (fun _ => rfl)).squeeze S256x2048 squeezes_S1x256x2048_S256x2048)
    (View.wordExact_bits rfl) ((View.wordExact_bits rfl).reshape _ _))
  if h : c2 = 1#1 then do
    Prog.lift (.waitDma2 ((cc0_scratch5.slice (Rect.unit (s := S2) o8 S1.size (i8 h))).squeeze S_ squeezes_S1_S_).sem
      ((coM.slice (Rect.unit (s := S2x256x2048) o10 S1x256x2048.size (i10 h)) (fun _ => rfl)).squeeze S256x2048 squeezes_S1x256x2048_S256x2048)
      (xsM.slice (Rect.unit (s := S8192x2048) o9 S256x2048.size (i9 h)) (fun _ => rfl))
      (((Memref.isWhole_whole _).wordExact_slice rfl _ (w10 h)).reshape _ _) ((Memref.isWhole_whole _).wordExact_slice rfl _ (w9 h)))
    pure ⟨⟩
  else do pure ⟨⟩
  let v343 : Vec F S1x256x2048 .f32 ← Prog.lift (.load ciM (Rect.unit (s := S2x256x2048) o11 S1x256x2048.size i11).toLoadRect (View.loadsAt_vmem h_S1x256x2048))
  let v347 : Vec F S1x256x2048 .bf16 ← Prog.lift (.load coM (Rect.unit (s := S2x256x2048) o11 S1x256x2048.size i11).toLoadRect (View.loadsAt_vmem h_S1x256x2048))
  Prog.lift (.store coM (Rect.unit (s := S2x256x2048) o11 S1x256x2048.size i11) (k0_pay1 v343) Finset.univ
    (View.stores_vmem h_S1x256x2048 ((Memref.isWhole_whole _).storeExact_slice rfl _ p11) (fun _ => rfl)) (.inl rfl))
  Prog.lift (.enqueueDma ((coM.slice (Rect.unit (s := S2x256x2048) o6 S1x256x2048.size i6) (fun _ => rfl)).squeeze S256x2048 squeezes_S1x256x2048_S256x2048)
    (.here (xsM.slice (Rect.unit (s := S8192x2048) o7 S256x2048.size i7) (fun _ => rfl)))
    (.dma ((cc0_scratch5.slice (Rect.unit (s := S2) o5 S1.size i5)).squeeze S_ squeezes_S1_S_).sem)
    (((Memref.isWhole_whole _).wordExact_slice rfl _ w6).reshape _ _) ((Memref.isWhole_whole _).wordExact_slice rfl _ w7) ⟨Or.inl rfl, trivial⟩)
  pure ⟨⟩

/-- The trip, its two conditional pieces apart. -/
theorem castTrip_eq : castTrip (F := F) c1 c2 o2 i2 o3 i3 o4 i4 o5 i5 o6 i6 o7 i7 o8 i8 o9 i9 o10 i10 o11 i11 w6 w7 w9 w10 p11 = (do
  castNext c1 o2 i2 o3 i3 o4 i4
  Prog.lift (.waitDma2 ((cc0_scratch4.slice (Rect.unit (s := S2) o5 S1.size i5)).squeeze S_ squeezes_S1_S_).sem
    (xM.slice (Rect.unit (s := S8192x2048) o7 S256x2048.size i7) (fun _ => rfl))
    ((ciM.slice (Rect.unit (s := S2x256x2048) o6 S1x256x2048.size i6) (fun _ => rfl)).squeeze S256x2048 squeezes_S1x256x2048_S256x2048)
    (View.wordExact_bits rfl) ((View.wordExact_bits rfl).reshape _ _))
  castRetire c2 o8 i8 o9 i9 o10 i10 w9 w10
  let v343 : Vec F S1x256x2048 .f32 ← Prog.lift (.load ciM (Rect.unit (s := S2x256x2048) o11 S1x256x2048.size i11).toLoadRect (View.loadsAt_vmem h_S1x256x2048))
  let v347 : Vec F S1x256x2048 .bf16 ← Prog.lift (.load coM (Rect.unit (s := S2x256x2048) o11 S1x256x2048.size i11).toLoadRect (View.loadsAt_vmem h_S1x256x2048))
  Prog.lift (.store coM (Rect.unit (s := S2x256x2048) o11 S1x256x2048.size i11) (k0_pay1 v343) Finset.univ
    (View.stores_vmem h_S1x256x2048 ((Memref.isWhole_whole _).storeExact_slice rfl _ p11) (fun _ => rfl)) (.inl rfl))
  Prog.lift (.enqueueDma ((coM.slice (Rect.unit (s := S2x256x2048) o6 S1x256x2048.size i6) (fun _ => rfl)).squeeze S256x2048 squeezes_S1x256x2048_S256x2048)
    (.here (xsM.slice (Rect.unit (s := S8192x2048) o7 S256x2048.size i7) (fun _ => rfl)))
    (.dma ((cc0_scratch5.slice (Rect.unit (s := S2) o5 S1.size i5)).squeeze S_ squeezes_S1_S_).sem)
    (((Memref.isWhole_whole _).wordExact_slice rfl _ w6).reshape _ _) ((Memref.isWhole_whole _).wordExact_slice rfl _ w7) ⟨Or.inl rfl, trivial⟩)
  pure ⟨⟩) := by
  unfold castTrip castNext castRetire
  by_cases h1 : c1 = 1#1 <;> by_cases h2 : c2 = 1#1 <;>
    simp only [h1, h2, dite_true, dite_false, Prog.bind_assoc, Prog.pure_eq_ret, Prog.bind_ret] <;> rfl

end Program

/-! ## What is held between trips -/

abbrev xL (c : Dev nD) : Loc nD τ sig := (c : Thread nD τ).loc main_arg0
abbrev wL (c : Dev nD) : Loc nD τ sig := (c : Thread nD τ).loc main_arg1
abbrev oL (c : Dev nD) : Loc nD τ sig := (c : Thread nD τ).loc cc0_stg0_0
abbrev xsL (c : Dev nD) : Loc nD τ sig := (c : Thread nD τ).loc main_v1_1
abbrev rvL (c : Dev nD) : Loc nD τ sig := (c : Thread nD τ).loc main_v1_2
abbrev ciL (c : Dev nD) : Loc nD τ sig := (c : Thread nD τ).loc cc0_scratch0
abbrev coL (c : Dev nD) : Loc nD τ sig := (c : Thread nD τ).loc cc0_scratch1
abbrev bL (c : Dev nD) : Loc nD τ sig := (c : Thread nD τ).loc cc0_scratch2
abbrev wbL (c : Dev nD) : Loc nD τ sig := (c : Thread nD τ).loc cc0_scratch3

/-- The share of `x` and of the weights slot `s`'s fetches read at. -/
def sh (s : ℕ) : PosShare TreeShare := if s = 0 then fullShare.left else fullShare.right

/-- A chunk fetched, in credit. -/
abbrev Nin : ℕ := (cc0_scratch0 : Ref sig .tc).dmaCredit S256x2048 .f32
/-- A chunk written back, in credit. -/
abbrev Nout : ℕ := (main_v1_1 : Ref sig .tc).dmaCredit S256x2048 .bf16

abbrev sv (c : Dev nD) (n : ℕ) : sProp 𝕄 := semVal ((c : Thread nD τ), SemLoc.dma (semN n)) 0

/-- Chunk slot `s` free. -/
def inFree (c : Dev nD) (X : Vec F S8192x2048 .f32) (s : ℕ) : sProp 𝕄 :=
  iprop((∃ g : Buf (Elt F) (ciL c), ciL c ↦[slot s]{fullShare} g) ∗ sv c (1 + s) ∗ (xL c ↦[Finset.univ]{sh s} X))
/-- Chunk slot `s` being filled with the rows from `lo`. -/
def inFly (c : Dev nD) (X : Vec F S8192x2048 .f32) (lo s : ℕ) : sProp 𝕄 :=
  iprop(Fly (c : Thread nD τ) (semN (1 + s)) () Nin iprop((ciL c ↦[slot s]{fullShare} chunk X lo) ∗ (xL c ↦[rows lo 256]{sh s} X))
    ∗ (xL c ↦[Finset.univ \ rows lo 256]{sh s} X))
/-- Cast slot `s` free. -/
def outFree (c : Dev nD) (s : ℕ) : sProp 𝕄 :=
  iprop((∃ g : Buf (Elt F) (coL c), coL c ↦[slot s]{fullShare} g) ∗ sv c (3 + s))
/-- Cast slot `s` being written back as the rows from `lo`. -/
def outFly (c : Dev nD) (X : Vec F S8192x2048 .f32) (lo s : ℕ) : sProp 𝕄 :=
  Fly (c : Thread nD τ) (semN (3 + s)) () Nout iprop((xsL c ↦[rows lo 256]{fullShare} castX X) ∗ (coL c ↦[slot s]{fullShare} chunk (castX X) lo))

/-- What a cast of the block of rows from `lo` holds before chunk `k`. `P` is what waiting needs, `O` what is
    owed throughout. -/
def castInv (P : sProp 𝕄) (c : Dev nD) (O : CellTallies nD τ sig Unit) (X : Vec F S8192x2048 .f32) (lo k : ℕ) : sProp 𝕄 :=
  iprop(P ∗ (∃ W, owes (c : Thread nD τ) O W)
    ∗ (if k < 8 then inFly c X (lo + 256 * k) (k % 2) else inFree c X (k % 2))
    ∗ inFree c X ((k + 1) % 2)
    ∗ (if 2 ≤ k then outFly c X (lo + 256 * (k - 2)) (k % 2) else outFree c (k % 2))
    ∗ (if 1 ≤ k then outFly c X (lo + 256 * (k - 1)) ((k + 1) % 2) else outFree c ((k + 1) % 2))
    ∗ (xsL c ↦[rows lo (256 * (k - 2))]{fullShare} castX X)
    ∗ (∃ g : Buf (Elt F) (xsL c), xsL c ↦[rows (lo + 256 * k) (256 * (8 - k))]{fullShare} g))

/-! ## Rows by chunks -/

theorem rows_split {lo n m : ℕ} : rows lo n ∪ rows (lo + n) m = rows lo (n + m) := by
  refine Finset.ext fun i => ?_
  rw [Finset.mem_union, mem_rowsOf, mem_rowsOf, mem_rowsOf]; omega
theorem rows_disjoint {lo lo' n m : ℕ} (h : lo + n ≤ lo') : Disjoint (rows lo n) (rows lo' m) := by
  refine Finset.disjoint_left.2 fun i hi hj => ?_
  rw [mem_rowsOf] at hi hj; omega
/-- Rows held at one contents, cut in two. -/
theorem rows_cut (f : S8192x2048.Idx → Elt F .bf16) {c : Dev nD} {lo n m t : ℕ} (h : n + m = t) :
    (xsL c ↦[rows lo t]{fullShare} f : sProp 𝕄) ⊣⊢ iprop((xsL c ↦[rows lo n]{fullShare} f) ∗ (xsL c ↦[rows (lo + n) m]{fullShare} f)) :=
  pts_union (rows_disjoint le_rfl) (by subst h; exact rows_split)

/-! ## One trip -/

section Trip
variable {c : Dev nD} {X : Vec F S8192x2048 .f32} {O : CellTallies nD τ sig Unit}

theorem castNext_step {c1 : BitVec 1} {o2 o3 o4 i2 i3 i4} {lo s : ℕ} {b : Prop} [Decidable b] (hc : c1 = 1#1 ↔ b)
    (h2 : o2 = ![s]) (h3 : o3 = ![s, 0, 0]) (h4 : c1 = 1#1 → o4 = ![lo, 0]) :
    inFree c X s ⊢ wpc c (castNext c1 o2 i2 o3 i3 o4 i4) (fun _ => if b then inFly c X lo s else inFree c X s) := by
  by_cases hb : c1 = 1#1
  · simp only [castNext, dif_pos hb, if_pos (hc.1 hb), Prog.lift, Prog.bind_op, Prog.bind_ret, Prog.pure_eq_ret]
    unfold inFree
    iintro ⟨Hg, Hv, Hx⟩
    iapply (copy_start (c := (c : Thread nD τ)) (sh := sh s) (S := rows lo 256) (T := Finset.univ) (D := slot s) (f := X) (chunk X lo) () Nin
      (sem_in h2) rfl (by decide) ((View.set_slice_whole _ _).trans (unit_rows (h4 hb) rfl)) (Finset.subset_univ _)
      ((View.set_reshape _ _).trans ((View.set_slice_whole _ _).trans (unit_slot h3 rfl)))
      (fetch_reads X lo s o4 o3 _ _ _ _ _ (h4 hb) h3)) $$ [Hg Hv Hx]
    · isplitl [Hx]; · iexact Hx
      isplitl [Hg]; · iexact Hg
      iexact Hv
    iintro H
    iapply le_wp_ret
    unfold inFly
    iexact H
  · simp only [castNext, dif_neg hb, if_neg (fun h => hb (hc.2 h)), Prog.pure_eq_ret]
    iintro H
    iapply le_wp_ret
    iexact H

theorem castRetire_step {P : sProp 𝕄} [Persistent P] {c2 : BitVec 1} {o8 o9 o10 i8 i9 i10 w9 w10} {lo k s : ℕ} (hc : c2 = 1#1 ↔ 2 ≤ k)
    (h8 : o8 = ![s]) (hs : s < 2) (hmw : ∀ n < 8, P ⊢ MayWait (c : Thread nD τ) (.dma (semN n)) () O) :
    iprop(P ∗ (∃ W, owes (c : Thread nD τ) O W) ∗ (if 2 ≤ k then outFly c X (lo + 256 * (k - 2)) s else outFree c s)
        ∗ (xsL c ↦[rows lo (256 * (k - 2))]{fullShare} castX X))
      ⊢ wpc c (castRetire (F := F) c2 o8 i8 o9 i9 o10 i10 w9 w10) (fun _ => iprop((∃ W, owes (c : Thread nD τ) O W) ∗ outFree c s
        ∗ (xsL c ↦[rows lo (256 * (k - 1))]{fullShare} castX X))) := by
  by_cases hb : c2 = 1#1
  · have hk := hc.1 hb
    simp only [castRetire, dif_pos hb, if_pos hk, Prog.lift, Prog.bind_op, Prog.bind_ret, Prog.pure_eq_ret]
    iintro ⟨#HP, HO, HF, Hd⟩
    iapply (copy_wait (c := (c : Thread nD τ)) (N := Nout) (sem_out h8) rfl (hmw (3 + s) (by omega))) $$ [HF HO]
    · isplitl [HF]; · unfold outFly; iexact HF
      isplitl [HO]; · iexact HO
      iexact HP
    iintro ⟨⟨Hx, Hc⟩, Hv, HO⟩
    iapply le_wp_ret
    isplitl [HO]; · iexact HO
    isplitl [Hc Hv]
    · unfold outFree
      isplitl [Hc]; · iexists _; iexact Hc
      iexact Hv
    iapply (rows_cut (castX X) (n := 256 * (k - 2)) (m := 256) (by omega)).2
    isplitl [Hd]; · iexact Hd
    iexact Hx
  · have hk : ¬ 2 ≤ k := fun h => hb (hc.2 h)
    have h1 : 256 * (k - 2) = 256 * (k - 1) := by omega
    simp only [castRetire, dif_neg hb, if_neg hk, Prog.pure_eq_ret, h1]
    iintro ⟨#HP, HO, HF, Hd⟩
    iapply le_wp_ret
    isplitl [HO]; · iexact HO
    isplitl [HF]; · iexact HF
    iexact Hd

theorem castTrip_step {P : sProp 𝕄} [Persistent P] {c1 c2 : BitVec 1} {o2 i2 o3 i3 o4 i4 o5 i5 o6 i6 o7 i7 o8 i8 o9 i9 o10 i10 o11 i11 w6 w7 w9 w10 p11} {lo k : ℕ}
    (hmw : ∀ n < 8, P ⊢ MayWait (c : Thread nD τ) (.dma (semN n)) () O) (hk : k < 8)
    (hc1 : c1 = 1#1 ↔ k + 1 < 8) (hc2 : c2 = 1#1 ↔ 2 ≤ k)
    (h2 : o2 = ![(k + 1) % 2]) (h3 : o3 = ![(k + 1) % 2, 0, 0]) (h4 : c1 = 1#1 → o4 = ![lo + 256 * (k + 1), 0])
    (h5 : o5 = ![k % 2]) (h6 : o6 = ![k % 2, 0, 0]) (h7 : o7 = ![lo + 256 * k, 0]) (h8 : o8 = ![k % 2]) (h11 : o11 = ![k % 2, 0, 0]) :
    castInv P c O X lo k
      ⊢ wpc c (castTrip (F := F) c1 c2 o2 i2 o3 i3 o4 i4 o5 i5 o6 i6 o7 i7 o8 i8 o9 i9 o10 i10 o11 i11 w6 w7 w9 w10 p11)
          (fun _ => castInv P c O X lo (k + 1)) := by
  rw [castTrip_eq]
  unfold castInv
  rw [if_pos hk]
  iintro ⟨#HP, HO, Hin, Hfree, Hout, Hout', Hdone, Htodo⟩
  iapply (seq (castNext_step (lo := lo + 256 * (k + 1)) hc1 h2 h3 h4)) $$ Hfree
  iintro Hnext
  simp only [Prog.lift, Prog.bind_op, Prog.bind_ret]
  unfold inFly
  icases Hin with ⟨HF, Hxr⟩
  iapply (copy_wait (c := (c : Thread nD τ)) (N := Nin) (sem_in h5) rfl (hmw (1 + k % 2) (by omega))) $$ [HF HO]
  · isplitl [HF]; · iexact HF
    isplitl [HO]; · iexact HO
    iexact HP
  iintro ⟨⟨Hci, Hx⟩, Hvi, HO⟩
  ihave Hx := (pts_rejoin (ℓ := xL c) (Finset.subset_univ (rows (lo + 256 * k) 256))) $$ [Hx Hxr]
  · isplitl [Hx]; · iexact Hx
    iexact Hxr
  iapply (seq (castRetire_step (P := P) (O := O) (X := X) (lo := lo) hc2 h8 (by omega) hmw)) $$ [HO Hout Hdone]
  · isplitr; · iexact HP
    isplitl [HO]; · iexact HO
    isplitl [Hout]; · iexact Hout
    iexact Hdone
  iintro ⟨HO, Hco, Hdone⟩
  unfold outFree
  icases Hco with ⟨Hco, Hvo⟩
  iapply (load_at (c := (c : Thread nD τ)) (m := ciM) (r := Rect.unit (s := S2x256x2048) o11 S1x256x2048.size i11) (D := slot (k % 2)) (f := chunk X (lo + 256 * k)) _
    (((View.set_slice_whole _ _).trans (unit_slot h11 rfl)).subset) (fun _ => rfl)) $$ Hci
  iintro Hci
  iapply (load_any (c := (c : Thread nD τ)) (m := coM) (r := Rect.unit (s := S2x256x2048) o11 S1x256x2048.size i11) (D := slot (k % 2)) (((View.set_slice_whole _ _).trans (unit_slot h11 rfl)).subset)) $$ Hco
  iintro %v Hco
  iapply (store_at (c := (c : Thread nD τ)) (Val := Elt F)
    (w := k0_pay1 ((ciM.access (Rect.unit (s := S2x256x2048) o11 S1x256x2048.size i11)).read (Elt F) (chunk X (lo + 256 * k)))) (m := coM) (r := Rect.unit (s := S2x256x2048) o11 S1x256x2048.size i11) (D := slot (k % 2)) (chunk (castX X) (lo + 256 * k))
    ((View.set_slice_whole _ _).trans (unit_slot h11 rfl)) (cast_reads X (lo + 256 * k) o11 i11 i11)) $$ Hco
  iintro Hco
  icases Htodo with ⟨%g, Htodo⟩
  ihave Htodo := (rows_cut g (lo := lo + 256 * k) (n := 256) (m := 256 * (8 - (k + 1))) (by omega)).1 $$ Htodo
  icases Htodo with ⟨Hnow, Htodo⟩
  iapply (copy_start (c := (c : Thread nD τ)) (sh := fullShare) (S := slot (k % 2)) (T := slot (k % 2)) (D := rows (lo + 256 * k) 256)
    (f := chunk (castX X) (lo + 256 * k)) (castX X) () Nout (sem_out h5) rfl (by decide)
    ((View.set_reshape _ _).trans ((View.set_slice_whole _ _).trans (unit_slot h6 rfl))) (Finset.Subset.refl _)
    ((View.set_slice_whole _ _).trans (unit_rows h7 rfl))
    (flush_reads (castX X) (lo + 256 * k) (k % 2) o7 o6 _ _ _ _ _ h7 h6)) $$ [Hco Hnow Hvo]
  · isplitl [Hco]; · iexact Hco
    isplitl [Hnow]; · iexists _; iexact Hnow
    iexact Hvo
  iintro ⟨HF, -⟩
  iapply le_wp_ret
  have e1 : (k + 1 + 1) % 2 = k % 2 := by omega
  have e2 : k + 1 - 2 = k - 1 := by omega
  have e3 : (2 ≤ k + 1) ↔ (1 ≤ k) := by omega
  have e4 : k + 1 - 1 = k := by omega
  simp only [e1, e2, e3, e4, if_pos (show 1 ≤ k + 1 by omega)]
  isplitr; · iexact HP
  isplitl [HO]; · iexact HO
  isplitl [Hnext]; · iexact Hnext
  isplitl [Hci Hvi Hx]
  · unfold inFree
    isplitl [Hci]; · iexists _; iexact Hci
    isplitl [Hvi]; · iexact Hvi
    iexact Hx
  isplitl [Hout']; · iexact Hout'
  isplitl [HF]; · unfold outFly; iexact HF
  isplitl [Hdone]; · iexact Hdone
  iexists g
  iapply (Entails.of_eq (show (xsL c ↦[rows (lo + 256 * k + 256) (256 * (8 - (k + 1)))]{fullShare} g : sProp 𝕄)
    = (xsL c ↦[rows (lo + 256 * (k + 1)) (256 * (8 - (k + 1)))]{fullShare} g) from by rw [show lo + 256 * k + 256 = lo + 256 * (k + 1) by omega])) $$ Htodo

end Trip

/-! ## The four loops -/

/-- A loop at the head of a program: what holds before trip `k` is `I k`, and each of the `n` trips takes it
    one on. -/
theorem loop_run {c : Dev nD} {w : ℕ} {lb ub st : BitVec w} {ok : Scf.OK lb ub st} {n : ℕ} (hn : Scf.trips lb ub st = n)
    {body : Fin (Scf.trips lb ub st) → Unit → Prog (TpuEff nD τ sig (Elt F) Λ₀ .tc) Unit} (I : ℕ → sProp 𝕄)
    (hb : ∀ k acc, I k.val ⊢ wpc c (body k acc) (fun _ => I (k.val + 1)))
    {β : Type} {kk : Unit → Prog (TpuEff nD τ sig (Elt F) Λ₀ .tc) β} {Q : β → sProp 𝕄} :
    I 0 ⊢ iprop((I n -∗ wpc c (kk ⟨⟩) Q) -∗ wpc c (Scf.for lb ub st ok ⟨⟩ body >>= kk) Q) := by
  subst hn
  iintro HI HK
  iapply (Scf.wp_for_bind frame _ Set.univ lb ub st ok ⟨⟩ body (fun k _ => I k) hb) $$ HI
  iintro %acc HI
  iapply HK $$ HI

/-- The first of the rows of the block `j` devices on. -/
def blk (c : Dev nD) (j : ℕ) : ℕ := 2048 * ((c.val + j) % 4)

end Cert.KernelIdeal.Run

end
-- ==== Proof.IdealGemm.lean ====
/- The product of a block of rows with the weights' rows of one block: eight tiles of 512 columns, the next
   tile's weights fetched while one is multiplied.

   Before trip `k` weight slot `k % 2` is being filled with tile `k`, the other is free; the result's columns
   before `512 * k` have had the product added, the others are as they were. -/
module

public import proofs.«01_k».proof.Proof.IdealCast

@[expose] public section

noncomputable section

namespace Cert.KernelIdeal.Run

open Cert.KernelIdeal Cert.KernelIdeal.Gen Cert.Copies
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Tiles, element by element -/

/-- A weight slot holding the tile from row `r` and column `l`. -/
def wTile (W : Vec F S8192x4096 .f32) (r l : ℕ) : S2x2048x512.Idx → F .f32 := fun i => at2 W (r + (i 1).val) (l + (i 2).val)
/-- The tile as it is loaded. -/
def wV (W : Vec F S8192x4096 .f32) (r l : ℕ) : Vec F S1x2048x512 .f32 := fun i => at2 W (r + (i 1).val) (l + (i 2).val)
/-- `n` rows from `r` and 512 columns from `l` of the result. -/
def oV (n : ℕ) (f : Vec F S2048x4096 .f32) (r l : ℕ) : Vec F ⟨2, ![n, 512]⟩ .f32 := fun i => at2 f (r + (i 0).val) (l + (i 1).val)
/-- The left operand's first `n` rows. -/
def aV (n : ℕ) (A : Vec F S2048x2048 .bf16) : Vec F ⟨2, ![n, 2048]⟩ .bf16 := fun i => at2 A (i 0).val (i 1).val

/-- One tile's payload: the weights' tile, the result's tile and the left operand to the result's new tile. -/
abbrev Pay (F : FTy → Type) (n : ℕ) : Type :=
  Vec F S1x2048x512 .f32 → Vec F ⟨2, ![n, 512]⟩ .f32 → Vec F ⟨2, ![n, 2048]⟩ .bf16 → Vec F ⟨2, ![n, 512]⟩ .f32

/-- The result once the product of the left operand with the weights' rows from `j` has been added to its rows
    from `r`. -/
def gemmOut (n : ℕ) [NeZero n] (pay : Pay F n) (W : Vec F S8192x4096 .f32) (A : Vec F S2048x2048 .bf16) (r j : ℕ)
    (f : Vec F S2048x4096 .f32) : Vec F S2048x4096 .f32 := fun i =>
  at2 (pay (wV W j (512 * ((i 1).val / 512))) (oV n f r (512 * ((i 1).val / 512))) (aV n A)) ((i 0).val - r) ((i 1).val % 512)

theorem tile_reads (W : Vec F S8192x4096 .f32) {r l s : ℕ} {off : Fin 2 → ℕ} {off3 : Fin 3 → ℕ} {inb} {h} {inb'} {h'} {sq}
    (ho : off = ![r, l]) (ho' : off3 = ![s, 0, 0]) (x : S2048x512.Idx) :
    (wM.slice (Rect.unit (s := S8192x4096) off S2048x512.size inb) h).view.read (Elt F) W x
      = ((wbM.slice (Rect.unit (s := S2x2048x512) off3 S1x2048x512.size inb') h').squeeze S2048x512 sq).view.read (Elt F) (wTile W r l) x := by
  subst ho; subst ho'
  refine (at2_eq W _ ?_ ?_).symm
  · show r + 1 * (x 0).val = r + (0 + 1 * (Shape.reshapeEquiv _ x 1).val)
    rw [unsqueeze_one]; omega
  · show l + 1 * (x 1).val = l + (0 + 1 * (Shape.reshapeEquiv _ x 2).val)
    rw [unsqueeze_two]; omega

theorem wslot_reads (W : Vec F S8192x4096 .f32) {r l s : ℕ} {off : Fin 3 → ℕ} {inb} (ho : off = ![s, 0, 0]) (x) :
    (wbM.access (Rect.unit (s := S2x2048x512) off S1x2048x512.size inb)).read (Elt F) (wTile W r l) x = wV W r l x := by
  subst ho
  refine at2_congr W ?_ ?_
  · show r + (0 + 1 * (x 1).val) = r + (x 1).val
    omega
  · show l + (0 + 1 * (x 2).val) = l + (x 2).val
    omega

theorem otile_reads {n : ℕ} (f : Vec F S2048x4096 .f32) {r l : ℕ} {off : Fin 2 → ℕ} {inb} (ho : off = ![r, l]) (x) :
    (oM.access (Rect.unit (s := S2048x4096) off (⟨2, ![n, 512]⟩ : Shape).size inb)).read (Elt F) f x = oV n f r l x := by
  subst ho
  refine (at2_eq f _ ?_ ?_).symm
  · show r + 1 * (x 0).val = r + (x 0).val
    omega
  · show l + 1 * (x 1).val = l + (x 1).val
    omega

theorem left_reads {n : ℕ} (A : Vec F S2048x2048 .bf16) {inb} (x) :
    (bM.access (Rect.unit (s := S2048x2048) ![0, 0] (⟨2, ![n, 2048]⟩ : Shape).size inb)).read (Elt F) A x = aV n A x := by
  refine (at2_eq A _ ?_ ?_).symm
  · show 0 + 1 * (x 0).val = (x 0).val
    omega
  · show 0 + 1 * (x 1).val = (x 1).val
    omega

theorem gemm_reads {n : ℕ} [NeZero n] (pay : Pay F n) (W : Vec F S8192x4096 .f32) (A : Vec F S2048x2048 .bf16) {r j k : ℕ}
    (f : Vec F S2048x4096 .f32) {off : Fin 2 → ℕ} {inb} (ho : off = ![r, 512 * k]) (x) :
    pay (wV W j (512 * k)) (oV n f r (512 * k)) (aV n A) x
      = (oM.access (Rect.unit (s := S2048x4096) off (⟨2, ![n, 512]⟩ : Shape).size inb)).read (Elt F) (gemmOut n pay W A r j f) x := by
  subst ho
  have h1 : (x 1).val < 512 := (x 1).isLt
  show _ = at2 (pay (wV W j (512 * ((512 * k + 1 * (x 1).val) / 512))) (oV n f r (512 * ((512 * k + 1 * (x 1).val) / 512))) (aV n A))
    (r + 1 * (x 0).val - r) ((512 * k + 1 * (x 1).val) % 512)
  rw [show (512 * k + 1 * (x 1).val) / 512 = k by omega]
  exact (at2_eq _ x (by omega) (by omega)).symm

/-! ## One trip's program -/

section Program
variable (c1 : BitVec 1) (n : ℕ) (pay : Pay F n)
variable (oa : Fin 1 → ℕ) (ia : c1 = 1#1 → ∀ a, oa a + S1.size a ≤ S2.size a)
variable (ob : Fin 3 → ℕ) (ib : c1 = 1#1 → ∀ a, ob a + S1x2048x512.size a ≤ S2x2048x512.size a)
variable (oc : Fin 2 → ℕ) (ic : c1 = 1#1 → ∀ a, oc a + S2048x512.size a ≤ S8192x4096.size a)
variable (od : Fin 1 → ℕ) (id' : ∀ a, od a + S1.size a ≤ S2.size a)
variable (oe : Fin 3 → ℕ) (ie : ∀ a, oe a + S1x2048x512.size a ≤ S2x2048x512.size a)
variable (of : Fin 2 → ℕ) (if' : ∀ a, of a + S2048x512.size a ≤ S8192x4096.size a)
variable (og : Fin 3 → ℕ) (ig : ∀ a, og a + S1x2048x512.size a ≤ S2x2048x512.size a)
variable (oh : Fin 2 → ℕ) (ih : ∀ a, oh a + (⟨2, ![n, 512]⟩ : Shape).size a ≤ S2048x4096.size a)
variable (il : ∀ a, (![0, 0] : Fin 2 → ℕ) a + (⟨2, ![n, 2048]⟩ : Shape).size a ≤ S2048x2048.size a)
variable (hn : 0 < (⟨2, ![n, 512]⟩ : Shape).numel) (hl : 0 < (⟨2, ![n, 2048]⟩ : Shape).numel)

/-- The next tile's fetch started, if there is a next tile. -/
def tileNext : Prog (TpuEff nD τ sig (Elt F) Λ₀ .tc) Unit :=
  if h : c1 = 1#1 then do
    Prog.lift (.enqueueDma (wM.slice (Rect.unit (s := S8192x4096) oc S2048x512.size (ic h)) (fun _ => rfl))
      (.here ((wbM.slice (Rect.unit (s := S2x2048x512) ob S1x2048x512.size (ib h)) (fun _ => rfl)).squeeze S2048x512 squeezes_S1x2048x512_S2048x512))
      (.dma ((cc0_scratch7.slice (Rect.unit (s := S2) oa S1.size (ia h))).squeeze S_ squeezes_S1_S_).sem)
      (View.wordExact_bits rfl) ((View.wordExact_bits rfl).reshape _ _) ⟨Or.inl rfl, trivial⟩)
    pure ⟨⟩
  else pure ⟨⟩

/-- The rest of a trip: this tile waited for, multiplied and added. -/
def tileAdd : Prog (TpuEff nD τ sig (Elt F) Λ₀ .tc) Unit := do
  Prog.lift (.waitDma2 ((cc0_scratch7.slice (Rect.unit (s := S2) od S1.size id')).squeeze S_ squeezes_S1_S_).sem
    (wM.slice (Rect.unit (s := S8192x4096) of S2048x512.size if') (fun _ => rfl))
    ((wbM.slice (Rect.unit (s := S2x2048x512) oe S1x2048x512.size ie) (fun _ => rfl)).squeeze S2048x512 squeezes_S1x2048x512_S2048x512)
    (View.wordExact_bits rfl) ((View.wordExact_bits rfl).reshape _ _))
  let v339 : Vec F S1x2048x512 .f32 ← Prog.lift (.load wbM (Rect.unit (s := S2x2048x512) og S1x2048x512.size ig).toLoadRect (View.loadsAt_vmem h_S1x2048x512))
  let v344 : Vec F ⟨2, ![n, 512]⟩ .f32 ← Prog.lift (.load oM (Rect.unit (s := S2048x4096) oh (⟨2, ![n, 512]⟩ : Shape).size ih).toLoadRect (View.loadsAt_vmem hn))
  let v346 : Vec F ⟨2, ![n, 2048]⟩ .bf16 ← Prog.lift (.load bM (Rect.unit (s := S2048x2048) ![0, 0] (⟨2, ![n, 2048]⟩ : Shape).size il).toLoadRect (View.loadsAt_vmem hl))
  let v350 : Vec F ⟨2, ![n, 512]⟩ .f32 ← Prog.lift (.load oM (Rect.unit (s := S2048x4096) oh (⟨2, ![n, 512]⟩ : Shape).size ih).toLoadRect (View.loadsAt_vmem hn))
  Prog.lift (.store oM (Rect.unit (s := S2048x4096) oh (⟨2, ![n, 512]⟩ : Shape).size ih) (pay v339 v344 v346) Finset.univ
    (View.stores_vmem_bits_univ hn rfl) (.inl rfl))
  pure ⟨⟩

/-- One trip of a product loop. -/
def gemmTrip : Prog (TpuEff nD τ sig (Elt F) Λ₀ .tc) Unit := do
  if h : c1 = 1#1 then do
    Prog.lift (.enqueueDma (wM.slice (Rect.unit (s := S8192x4096) oc S2048x512.size (ic h)) (fun _ => rfl))
      (.here ((wbM.slice (Rect.unit (s := S2x2048x512) ob S1x2048x512.size (ib h)) (fun _ => rfl)).squeeze S2048x512 squeezes_S1x2048x512_S2048x512))
      (.dma ((cc0_scratch7.slice (Rect.unit (s := S2) oa S1.size (ia h))).squeeze S_ squeezes_S1_S_).sem)
      (View.wordExact_bits rfl) ((View.wordExact_bits rfl).reshape _ _) ⟨Or.inl rfl, trivial⟩)
    pure ⟨⟩
  else do pure ⟨⟩
  tileAdd n pay od id' oe ie of if' og ig oh ih il hn hl

theorem gemmTrip_eq : gemmTrip c1 n pay oa ia ob ib oc ic od id' oe ie of if' og ig oh ih il hn hl
    = (tileNext c1 oa ia ob ib oc ic >>= fun _ => tileAdd n pay od id' oe ie of if' og ig oh ih il hn hl) := by
  unfold gemmTrip tileNext
  by_cases h1 : c1 = 1#1 <;> simp only [h1, dite_true, dite_false, Prog.bind_assoc, Prog.pure_eq_ret, Prog.bind_ret] <;> rfl

end Program

/-! ## What is held between trips -/

/-- A weights' tile fetched, in credit. -/
abbrev Nw : ℕ := (cc0_scratch3 : Ref sig .tc).dmaCredit S2048x512 .f32

/-- Weight slot `s` free. -/
def wFree (c : Dev nD) (W : Vec F S8192x4096 .f32) (s : ℕ) : sProp 𝕄 :=
  iprop((∃ g : Buf (Elt F) (wbL c), wbL c ↦[wslot s]{fullShare} g) ∗ sv c (6 + s) ∗ (wL c ↦[Finset.univ]{sh s} W))
/-- Weight slot `s` being filled with the tile from row `r` and column `l`. -/
def wFly (c : Dev nD) (W : Vec F S8192x4096 .f32) (r l s : ℕ) : sProp 𝕄 :=
  iprop(Fly (c : Thread nD τ) (semN (6 + s)) () Nw iprop((wbL c ↦[wslot s]{fullShare} wTile W r l) ∗ (wL c ↦[wtile r l]{sh s} W))
    ∗ (wL c ↦[Finset.univ \ wtile r l]{sh s} W))

abbrev otile (r n l k : ℕ) : Finset S2048x4096.Idx := tileOf r n l k

/-- What a product of `n` rows holds before tile `k`. -/
def gemmInv (P : sProp 𝕄) (c : Dev nD) (O : CellTallies nD τ sig Unit) (n : ℕ) [NeZero n] (pay : Pay F n) (W : Vec F S8192x4096 .f32)
    (A : Vec F S2048x2048 .bf16) (r j : ℕ) (f : Vec F S2048x4096 .f32) (k : ℕ) : sProp 𝕄 :=
  iprop(P ∗ (∃ Wt, owes (c : Thread nD τ) O Wt)
    ∗ (if k < 8 then wFly c W j (512 * k) (k % 2) else wFree c W (k % 2))
    ∗ wFree c W ((k + 1) % 2)
    ∗ (bL c ↦[brows n]{fullShare} A)
    ∗ (oL c ↦[otile r n 0 (512 * k)]{fullShare} gemmOut n pay W A r j f)
    ∗ (oL c ↦[otile r n (512 * k) (512 * (8 - k))]{fullShare} f))

theorem tile_cut (f : S2048x4096.Idx → Elt F .f32) {c : Dev nD} {r n l k k' t : ℕ} (h : k + k' = t) :
    (oL c ↦[otile r n l t]{fullShare} f : sProp 𝕄) ⊣⊢ iprop((oL c ↦[otile r n l k]{fullShare} f) ∗ (oL c ↦[otile r n (l + k) k']{fullShare} f)) := by
  refine pts_union (Finset.disjoint_left.2 fun i hi hj => ?_) (Finset.ext fun i => ?_)
  · rw [mem_tileOf] at hi hj; omega
  · rw [Finset.mem_union, mem_tileOf, mem_tileOf, mem_tileOf]; omega

/-! ## One trip -/

section Trip
variable {c : Dev nD} {W : Vec F S8192x4096 .f32} {O : CellTallies nD τ sig Unit}

theorem tileNext_step {c1 : BitVec 1} {oa ia ob ib oc ic} {r l s : ℕ} {b : Prop} [Decidable b] (hc : c1 = 1#1 ↔ b)
    (ha : oa = ![s]) (hb : ob = ![s, 0, 0]) (hcc : c1 = 1#1 → oc = ![r, l]) :
    wFree c W s ⊢ wpc c (tileNext c1 oa ia ob ib oc ic) (fun _ => if b then wFly c W r l s else wFree c W s) := by
  by_cases hb' : c1 = 1#1
  · simp only [tileNext, dif_pos hb', if_pos (hc.1 hb'), Prog.lift, Prog.bind_op, Prog.bind_ret, Prog.pure_eq_ret]
    unfold wFree
    iintro ⟨Hg, Hv, Hw⟩
    iapply (copy_start (c := (c : Thread nD τ)) (sh := sh s) (S := wtile r l) (T := Finset.univ) (D := wslot s) (f := W) (wTile W r l) () Nw
      (sem_w ha) rfl (by decide) ((View.set_slice_whole _ _).trans (unit_tile (hcc hb') rfl)) (Finset.subset_univ _)
      ((View.set_reshape _ _).trans ((View.set_slice_whole _ _).trans (unit_slot hb rfl)))
      (tile_reads W (hcc hb') hb)) $$ [Hg Hv Hw]
    · isplitl [Hw]; · iexact Hw
      isplitl [Hg]; · iexact Hg
      iexact Hv
    iintro H
    iapply le_wp_ret
    unfold wFly
    iexact H
  · simp only [tileNext, dif_neg hb', if_neg (fun h => hb' (hc.2 h)), Prog.pure_eq_ret]
    iintro H
    iapply le_wp_ret
    iexact H

theorem gemmTrip_step {P : sProp 𝕄} [Persistent P] {c1 : BitVec 1} {n : ℕ} [NeZero n] {pay : Pay F n} {A : Vec F S2048x2048 .bf16} {f : Vec F S2048x4096 .f32}
    {oa ia ob ib oc ic od id' oe ie of if' og ig oh ih il hn hl} {r j k : ℕ}
    (hmw : ∀ n < 8, P ⊢ MayWait (c : Thread nD τ) (.dma (semN n)) () O) (hk : k < 8)
    (hc1 : c1 = 1#1 ↔ k + 1 < 8)
    (ha : oa = ![(k + 1) % 2]) (hb : ob = ![(k + 1) % 2, 0, 0]) (hc : c1 = 1#1 → oc = ![j, 512 * (k + 1)])
    (hd : od = ![k % 2]) (hg : og = ![k % 2, 0, 0]) (hh : oh = ![r, 512 * k]) :
    gemmInv P c O n pay W A r j f k
      ⊢ wpc c (gemmTrip c1 n pay oa ia ob ib oc ic od id' oe ie of if' og ig oh ih il hn hl)
          (fun _ => gemmInv P c O n pay W A r j f (k + 1)) := by
  rw [gemmTrip_eq]
  unfold gemmInv tileAdd
  rw [if_pos hk]
  iintro ⟨#HP, HO, Hin, Hfree, Hb, Hdone, Htodo⟩
  iapply (seq (tileNext_step (r := j) (l := 512 * (k + 1)) hc1 ha hb hc)) $$ Hfree
  iintro Hnext
  simp only [Prog.lift, Prog.bind_op, Prog.bind_ret]
  unfold wFly
  icases Hin with ⟨HF, Hwr⟩
  iapply (copy_wait (c := (c : Thread nD τ)) (N := Nw) (sem_w hd) rfl (hmw (6 + k % 2) (by omega))) $$ [HF HO]
  · isplitl [HF]; · iexact HF
    isplitl [HO]; · iexact HO
    iexact HP
  iintro ⟨⟨Hwb, Hw⟩, Hv, HO⟩
  ihave Hw := (pts_rejoin (ℓ := wL c) (Finset.subset_univ (wtile j (512 * k)))) $$ [Hw Hwr]
  · isplitl [Hw]; · iexact Hw
    iexact Hwr
  ihave Htodo := (tile_cut f (k := 512) (k' := 512 * (8 - (k + 1))) (by omega)).1 $$ Htodo
  icases Htodo with ⟨Hnow, Htodo⟩
  iapply (load_at (c := (c : Thread nD τ)) (Val := Elt F) (m := wbM) (r := Rect.unit (s := S2x2048x512) og S1x2048x512.size ig) (D := wslot (k % 2))
    (f := wTile W j (512 * k)) (wV W j (512 * k)) (((View.set_slice_whole _ _).trans (unit_slot hg rfl)).subset) (wslot_reads W hg)) $$ Hwb
  iintro Hwb
  have hset := (View.set_slice_whole cc0_stg0_0 (Rect.unit (s := S2048x4096) oh (⟨2, ![n, 512]⟩ : Shape).size ih)).trans (unit_tile hh rfl)
  iapply (load_at (c := (c : Thread nD τ)) (Val := Elt F) (m := oM) (r := Rect.unit (s := S2048x4096) oh (⟨2, ![n, 512]⟩ : Shape).size ih)
    (D := otile r n (512 * k) 512) (f := f) (oV n f r (512 * k)) hset.subset (otile_reads f hh)) $$ Hnow
  iintro Hnow
  iapply (load_at (c := (c : Thread nD τ)) (Val := Elt F) (m := bM) (r := Rect.unit (s := S2048x2048) ![0, 0] (⟨2, ![n, 2048]⟩ : Shape).size il)
    (D := brows n) (f := A) (aV n A) (((View.set_slice_whole _ _).trans (unit_rows rfl rfl)).subset) (left_reads A)) $$ Hb
  iintro Hb
  iapply (load_at (c := (c : Thread nD τ)) (Val := Elt F) (m := oM) (r := Rect.unit (s := S2048x4096) oh (⟨2, ![n, 512]⟩ : Shape).size ih)
    (D := otile r n (512 * k) 512) (f := f) (oV n f r (512 * k)) hset.subset (otile_reads f hh)) $$ Hnow
  iintro Hnow
  iapply (store_at (c := (c : Thread nD τ)) (Val := Elt F) (m := oM) (r := Rect.unit (s := S2048x4096) oh (⟨2, ![n, 512]⟩ : Shape).size ih)
    (w := pay (wV W j (512 * k)) (oV n f r (512 * k)) (aV n A)) (D := otile r n (512 * k) 512) (gemmOut n pay W A r j f) hset
    (gemm_reads pay W A f hh)) $$ [Hnow]
  · iexists _; iexact Hnow
  iintro Hnow
  iapply le_wp_ret
  have e1 : (k + 1 + 1) % 2 = k % 2 := by omega
  have e2 : 512 * k + 512 = 512 * (k + 1) := by omega
  simp only [e1, e2]
  isplitr; · iexact HP
  isplitl [HO]; · iexact HO
  isplitl [Hnext]; · iexact Hnext
  isplitl [Hwb Hv Hw]
  · unfold wFree
    isplitl [Hwb]; · iexists _; iexact Hwb
    isplitl [Hv]; · iexact Hv
    iexact Hw
  isplitl [Hb]; · iexact Hb
  isplitl [Hdone Hnow]
  · iapply (tile_cut (gemmOut n pay W A r j f) (k := 512 * k) (k' := 512) (by omega)).2
    isplitl [Hdone]; · iexact Hdone
    iapply (Entails.of_eq (show (oL c ↦[otile r n (512 * k) 512]{fullShare} gemmOut n pay W A r j f : sProp 𝕄)
      = (oL c ↦[otile r n (0 + 512 * k) 512]{fullShare} gemmOut n pay W A r j f) from by rw [Nat.zero_add])) $$ Hnow
  iexact Htodo

end Trip

end Cert.KernelIdeal.Run

end
-- ==== Proof.IdealLoops.lean ====
/- The kernel's loops: each of the four casts is the one cast trip, each of the five products the one product
   trip, at the block it is about. -/
module

public import proofs.«01_k».proof.Proof.IdealGemm

@[expose] public section

noncomputable section

namespace Cert.KernelIdeal.Run

open Cert.KernelIdeal Cert.KernelIdeal.Gen Cert.Copies
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Loops
variable {c : Dev nD} {X : Vec F S8192x2048 .f32} {O : CellTallies nD τ sig Unit}

/-- A trip of the cast of the block sent one device on. -/
theorem t1_step {P : sProp 𝕄} [Persistent P] (hmw : ∀ n < 8, P ⊢ MayWait (c : Thread nD τ) (.dma (semN n)) () O)
    (v13 v36 v65 v66 v67 c0) (t : Fin k0_t1_loop.trips) (acc : Unit) :
    castInv P c O X (blk c 1) t.val ⊢ wpc c (k0_t1_body xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v13 v36 v65 v66 v67 c0 t acc)
      (fun _ => castInv P c O X (blk c 1) (t.val + 1)) := by
  refine castTrip_step (w6 := k0_off6_wordsbf16 t) (w7 := k0_off7_wordsbf16 c t) (w9 := k0_off9_wordsbf16 c t)
    (w10 := k0_off10_wordsbf16 t) (p11 := k0_off11_packedbf16 t) hmw t.isLt ?_ ?_ ?_ ?_ ?_ ?_ ?_ ?_ ?_ ?_
  iterate 4 (revert t; decide)
  · clear hmw; revert t c; decide +kernel
  iterate 2 (revert t; decide)
  · clear hmw; revert t c; decide +kernel
  iterate 2 (revert t; decide)

/-- A trip of the cast of the block sent three devices on. -/
theorem t2_step {P : sProp 𝕄} [Persistent P] (hmw : ∀ n < 8, P ⊢ MayWait (c : Thread nD τ) (.dma (semN n)) () O)
    (v13 v35) (t : Fin k0_t2_loop.trips) (acc : Unit) :
    castInv P c O X (blk c 3) t.val ⊢ wpc c (k0_t2_body xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v13 v35 t acc)
      (fun _ => castInv P c O X (blk c 3) (t.val + 1)) := by
  refine castTrip_step (w6 := k0_off19_wordsbf16 t) (w7 := k0_off20_wordsbf16 c t) (w9 := k0_off22_wordsbf16 c t)
    (w10 := k0_off23_wordsbf16 t) (p11 := k0_off24_packedbf16 t) hmw t.isLt ?_ ?_ ?_ ?_ ?_ ?_ ?_ ?_ ?_ ?_
  iterate 4 (revert t; decide)
  · clear hmw; revert t c; decide +kernel
  iterate 2 (revert t; decide)
  · clear hmw; revert t c; decide +kernel
  iterate 2 (revert t; decide)

/-- A trip of the cast of the block sent two devices on. -/
theorem t3_step {P : sProp 𝕄} [Persistent P] (hmw : ∀ n < 8, P ⊢ MayWait (c : Thread nD τ) (.dma (semN n)) () O)
    (v24 v35) (t : Fin k0_t3_loop.trips) (acc : Unit) :
    castInv P c O X (blk c 2) t.val ⊢ wpc c (k0_t3_body xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v24 v35 t acc)
      (fun _ => castInv P c O X (blk c 2) (t.val + 1)) := by
  refine castTrip_step (w6 := k0_off29_wordsbf16 t) (w7 := k0_off30_wordsbf16 c t) (w9 := k0_off32_wordsbf16 c t)
    (w10 := k0_off33_wordsbf16 t) (p11 := k0_off34_packedbf16 t) hmw t.isLt ?_ ?_ ?_ ?_ ?_ ?_ ?_ ?_ ?_ ?_
  iterate 4 (revert t; decide)
  · clear hmw; revert t c; decide +kernel
  iterate 2 (revert t; decide)
  · clear hmw; revert t c; decide +kernel
  iterate 2 (revert t; decide)

/-- A trip of the cast of the device's own block. -/
theorem t4_step {P : sProp 𝕄} [Persistent P] (hmw : ∀ n < 8, P ⊢ MayWait (c : Thread nD τ) (.dma (semN n)) () O)
    (v2 v24 c2048) (t : Fin k0_t4_loop.trips) (acc : Unit) :
    castInv P c O X (blk c 0) t.val ⊢ wpc c (k0_t4_body xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v2 v24 c2048 t acc)
      (fun _ => castInv P c O X (blk c 0) (t.val + 1)) := by
  refine castTrip_step (w6 := k0_off40_wordsbf16 t) (w7 := k0_off41_wordsbf16 c t) (w9 := k0_off43_wordsbf16 c t)
    (w10 := k0_off44_wordsbf16 t) (p11 := k0_off45_packedbf16 t) hmw t.isLt ?_ ?_ ?_ ?_ ?_ ?_ ?_ ?_ ?_ ?_
  iterate 4 (revert t; decide)
  · clear hmw; revert t c; decide +kernel
  iterate 2 (revert t; decide)
  · clear hmw; revert t c; decide +kernel
  iterate 2 (revert t; decide)

section
variable {W : Vec F S8192x4096 .f32} {A : Vec F S2048x2048 .bf16} {f : Vec F S2048x4096 .f32}

/-- A trip of the product of the device's own block. -/
theorem t5_step {P : sProp 𝕄} [Persistent P] (hmw : ∀ n < 8, P ⊢ MayWait (c : Thread nD τ) (.dma (semN n)) () O)
    (v2) (t : Fin k0_t5_loop.trips) (acc : Unit) :
    gemmInv P c O 2048 k0_pay6 W A 0 (blk c 0) f t.val ⊢ wpc c (k0_t5_body xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v2 t acc)
      (fun _ => gemmInv P c O 2048 k0_pay6 W A 0 (blk c 0) f (t.val + 1)) := by
  refine gemmTrip_step (hn := h_S2048x512) (hl := h_S2048x2048) hmw t.isLt ?_ ?_ ?_ ?_ ?_ ?_ ?_
  iterate 3 (revert t; decide)
  · clear hmw; revert t c; decide +kernel
  iterate 3 (revert t; decide)

/-- A trip of the product of the block received from three devices on. -/
theorem t6_step {P : sProp 𝕄} [Persistent P] (hmw : ∀ n < 8, P ⊢ MayWait (c : Thread nD τ) (.dma (semN n)) () O)
    (v13 v35) (t : Fin k0_t6_loop.trips) (acc : Unit) :
    gemmInv P c O 2048 k0_pay7 W A 0 (blk c 3) f t.val ⊢ wpc c (k0_t6_body xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v13 v35 t acc)
      (fun _ => gemmInv P c O 2048 k0_pay7 W A 0 (blk c 3) f (t.val + 1)) := by
  refine gemmTrip_step (hn := h_S2048x512) (hl := h_S2048x2048) hmw t.isLt ?_ ?_ ?_ ?_ ?_ ?_ ?_
  iterate 3 (revert t; decide)
  · clear hmw; revert t c; decide +kernel
  iterate 3 (revert t; decide)

/-- A trip of the product of the block received from one device on. -/
theorem t7_step {P : sProp 𝕄} [Persistent P] (hmw : ∀ n < 8, P ⊢ MayWait (c : Thread nD τ) (.dma (semN n)) () O)
    (v13 v24) (t : Fin k0_t7_loop.trips) (acc : Unit) :
    gemmInv P c O 2048 k0_pay8 W A 0 (blk c 1) f t.val ⊢ wpc c (k0_t7_body xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v13 v24 t acc)
      (fun _ => gemmInv P c O 2048 k0_pay8 W A 0 (blk c 1) f (t.val + 1)) := by
  refine gemmTrip_step (hn := h_S2048x512) (hl := h_S2048x2048) hmw t.isLt ?_ ?_ ?_ ?_ ?_ ?_ ?_
  iterate 3 (revert t; decide)
  · clear hmw; revert t c; decide +kernel
  iterate 3 (revert t; decide)

/-- A trip of the product of the first half of the block received from two devices on. -/
theorem t8_step {P : sProp 𝕄} [Persistent P] (hmw : ∀ n < 8, P ⊢ MayWait (c : Thread nD τ) (.dma (semN n)) () O)
    (v24) (t : Fin k0_t8_loop.trips) (acc : Unit) :
    gemmInv P c O 1024 k0_pay9 W A 0 (blk c 2) f t.val ⊢ wpc c (k0_t8_body xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v24 t acc)
      (fun _ => gemmInv P c O 1024 k0_pay9 W A 0 (blk c 2) f (t.val + 1)) := by
  refine gemmTrip_step (hn := h_S1024x512) (hl := h_S1024x2048) hmw t.isLt ?_ ?_ ?_ ?_ ?_ ?_ ?_
  iterate 3 (revert t; decide)
  · clear hmw; revert t c; decide +kernel
  iterate 3 (revert t; decide)

/-- A trip of the product of the second half of the block received from two devices on. -/
theorem t9_step {P : sProp 𝕄} [Persistent P] (hmw : ∀ n < 8, P ⊢ MayWait (c : Thread nD τ) (.dma (semN n)) () O)
    (t : Fin k0_t9_loop.trips) (acc : Unit) :
    gemmInv P c O 1024 k0_pay10 W A 1024 (blk c 2) f t.val ⊢ wpc c (k0_t9_body xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c  t acc)
      (fun _ => gemmInv P c O 1024 k0_pay10 W A 1024 (blk c 2) f (t.val + 1)) := by
  refine gemmTrip_step (hn := h_S1024x512) (hl := h_S1024x2048) hmw t.isLt ?_ ?_ ?_ ?_ ?_ ?_ ?_
  iterate 3 (revert t; decide)
  · clear hmw; revert t c; decide +kernel
  iterate 3 (revert t; decide)

end

end Loops

end Cert.KernelIdeal.Run

end
-- ==== Proof.IdealProto.lean ====
/- What the devices promise each other.

   A device's barrier cell is raised once by each of the three others; with its unit a device hands over its
   receive slot for the sender's block. A send cell returns the rows of the cast that were sent; a receive
   cell hands over the slot, or the half of it, the message was written to. Every cell has the one round. -/
module

public import proofs.«01_k».proof.Proof.IdealLoops

@[expose] public section

noncomputable section

namespace Cert.KernelIdeal.Run

open Cert.KernelIdeal Cert.KernelIdeal.Gen Cert.Copies
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the pipeline library's ghost state lies. -/
abbrev EP : Emb (UR sig nD τ) (MT nD τ sig Unit (Elt F) ℕ UU ℕ) := embL
/-- Where the messages' ghost state lies. -/
abbrev ER : Emb UB (MT nD τ sig Unit (Elt F) ℕ UU ℕ) := (Emb.inl : Emb UB (UB × Counters)).trans embR

instance ER_landsIn : (ER : Emb UB 𝕄).LandsIn (upEmb : UEmb _ 𝕄) := by unfold ER; infer_instance

/-! ## The devices -/

set_option backward.proofsInPublic true in
/-- The device `j` places on. -/
def hop (j : ℕ) (c : Dev nD) : Dev nD := ⟨(c.val + j) % 4, Nat.mod_lt _ (by decide)⟩

theorem hop_val (j : ℕ) (c : Dev nD) : (hop j c).val = (c.val + j) % 4 := rfl
theorem hop_hop (j k : ℕ) (h : (j + k) % 4 = 0) (c : Dev nD) : hop j (hop k c) = c := by
  have hc : c.val < 4 := c.isLt
  refine Fin.ext ?_
  show ((c.val + k) % 4 + j) % 4 = c.val
  omega
theorem blk_hop (j k : ℕ) (c : Dev nD) : blk (hop k c) j = blk c (j + k) := by
  unfold blk; rw [hop_val]; omega

/-- Going `j` places on, `j` of 1, 2, 3, is a permutation of the devices. -/
def turn (j k : ℕ) (h : (j + k) % 4 = 0) : Dev nD ≃ Dev nD :=
  ⟨hop j, hop k, hop_hop k j (by omega), hop_hop j k h⟩

theorem dev1_eq (c : Dev nD) : (⟨k0_dev1 c, k0_dev1_lt c⟩ : Dev nD) = hop 1 c := by revert c; decide +kernel
theorem dev2_eq (c : Dev nD) : (⟨k0_dev2 c, k0_dev2_lt c⟩ : Dev nD) = hop 2 c := by revert c; decide +kernel
theorem dev3_eq (c : Dev nD) : (⟨k0_dev3 c, k0_dev3_lt c⟩ : Dev nD) = hop 3 c := by revert c; decide +kernel
theorem dev4_eq (c : Dev nD) : (⟨k0_dev4 c, k0_dev4_lt c⟩ : Dev nD) = hop 1 c := by revert c; decide +kernel
theorem dev5_eq (c : Dev nD) : (⟨k0_dev5 c, k0_dev5_lt c⟩ : Dev nD) = hop 3 c := by revert c; decide +kernel
theorem dev6_eq (c : Dev nD) : (⟨k0_dev6 c, k0_dev6_lt c⟩ : Dev nD) = hop 2 c := by revert c; decide +kernel
theorem dev7_eq (c : Dev nD) : (⟨k0_dev7 c, k0_dev7_lt c⟩ : Dev nD) = hop 2 c := by revert c; decide +kernel

/-! ## The cells -/

/-- The barrier semaphore. -/
abbrev barS : Sem sig := (SemArray.scalar (sig.barrier 0 rfl) : Sems sig S_).sem
abbrev bcell (c : Dev nD) : GSem nD τ sig := ((c : Thread nD τ), .reg barS)
abbrev dcell (c : Dev nD) (n : ℕ) : GSem nD τ sig := ((c : Thread nD τ), .dma (semN n))

/-- The semaphores messages complete on: the four send semaphores, the five receive semaphores, the barrier. -/
def csem (k : Fin 10) : SemLoc sig := if k.val < 9 then .dma (semN (8 + k.val)) else .reg barS
abbrev kcell (ck : Dev nD × Fin 10) : GSem nD τ sig := ((ck.1 : Thread nD τ), csem ck.2)

theorem kcell_bar (c : Dev nD) : kcell (c, 9) = bcell c := rfl
theorem kcell_dma (c : Dev nD) {n : ℕ} (h : 8 ≤ n ∧ n < 17) : kcell (c, ⟨n - 8, by omega⟩) = dcell c n := by
  unfold kcell csem
  rw [if_pos (show n - 8 < 9 by omega), show 8 + (n - 8) = n by omega]

/-- A block, and half a block, in credit. -/
abbrev Nfull : ℕ := (main_v1_2 : Ref sig .tc).dmaCredit S2048x2048 .bf16
abbrev Nhalf : ℕ := (main_v1_2 : Ref sig .tc).dmaCredit S1024x2048 .bf16

/-! ## What a message carries -/

/-- What device `c`'s receive buffer holds of the devices' casts: in slot `s`, device `s`'s rows for `c`. -/
def rvC (X : Dev nD → Vec F S8192x2048 .f32) (c : Dev nD) : S4x2048x2048.Idx → Elt F .bf16 :=
  fun i => at2 (castX (X (i 0 : Fin 4))) (blk c 0 + (i 1).val) (i 2).val

/-- Device `d`'s receive slot for device `c`'s block. -/
def slotFor (d c : Dev nD) : sProp 𝕄 := iprop(∃ g : Buf (Elt F) (rvL d), rvL d ↦[rslab c.val 0 2048]{fullShare} g)

/-- Rows of the cast of device `c`. -/
def xsPts (X : Dev nD → Vec F S8192x2048 .f32) (c : Dev nD) (lo n : ℕ) : sProp 𝕄 :=
  xsL c ↦[rows lo n]{fullShare} castX (X c)
/-- Rows received by device `c`. -/
def rvPts (X : Dev nD → Vec F S8192x2048 .f32) (c : Dev nD) (s lo n : ℕ) : sProp 𝕄 :=
  rvL c ↦[rslab s lo n]{fullShare} rvC X c

/-- What the transfer completing on device `c`'s DMA semaphore `n` hands over. -/
def carry (X : Dev nD → Vec F S8192x2048 .f32) (c : Dev nD) (n : ℕ) : sProp 𝕄 :=
  if n = 8 then xsPts X c (blk c 1) 2048
  else if n = 9 then xsPts X c (blk c 2) 1024
  else if n = 10 then xsPts X c (blk c 3) 2048
  else if n = 11 then xsPts X c (blk c 2 + 1024) 1024
  else if n = 16 then rvPts X c (hop 2 c).val 1024 1024
  else if n = 12 + (hop 2 c).val then rvPts X c (hop 2 c).val 0 1024
  else rvPts X c (n - 12) 0 2048

/-- What it is worth. -/
def worth (c : Dev nD) (n : ℕ) : ℕ := if n = 9 ∨ n = 11 ∨ n = 16 ∨ n = 12 + (hop 2 c).val then Nhalf else Nfull

theorem worth_pos (c : Dev nD) (n : ℕ) : 0 < worth c n := by unfold worth; split <;> decide

/-- Whether a DMA semaphore of device `c` is one a message completes on: the four send semaphores, and the receive
    semaphores but the one its own messages to the others name. -/
abbrev Carries (c : Dev nD) (n : ℕ) : Prop := 8 ≤ n ∧ n ≠ 12 + c.val

/-- The duties, what each is worth and what it hands over. -/
def rd (X : Dev nD → Vec F S8192x2048 .f32) : Rounds.Schedule (GSem nD τ sig) (Fin 4) 𝕄 where
  duties g r := if r = 0 ∧ g.1.2 = .tc then
      match g.2 with
      | .reg s => if s = barS then Finset.univ.erase (show Fin 4 from g.1.1) else ∅
      | .dma q => if Carries g.1.1 (show Fin 17 from q).val then {0} else ∅
    else ∅
  unitless _ := False
  amount g _ _ := match g.2 with
    | .reg _ => 1
    | .dma q => worth g.1.1 (show Fin 17 from q).val
  payload g _ d := match g.2 with
    | .reg _ => slotFor (show Dev nD from d) g.1.1
    | .dma q => carry X g.1.1 (show Fin 17 from q).val
  amount_pos g _ _ _ := by
    rcases g with ⟨t, s⟩
    cases s with
    | reg s => exact Nat.one_pos
    | dma q => exact worth_pos _ _

instance rd_storable (X : Dev nD → Vec F S8192x2048 .f32) (g : GSem nD τ sig) (r : ℕ) (d : Fin 4) :
    BI.Storable (upEmb : UEmb _ 𝕄) ((rd (F := F) X).payload g r d) := by
  rcases g with ⟨t, s⟩
  cases s with
  | reg s => show BI.Storable upEmb (slotFor (F := F) (show Dev nD from d) t.1); unfold slotFor; infer_instance
  | dma q =>
    show BI.Storable upEmb (carry X t.1 (show Fin 17 from q).val)
    unfold carry xsPts rvPts
    (repeat' split) <;> infer_instance

section Facts
variable (X : Dev nD → Vec F S8192x2048 .f32) (c : Dev nD)

theorem duties_bar : (rd X).duties (bcell c) 0 = Finset.univ.erase (show Fin 4 from c) := by
  show (if 0 = 0 ∧ (bcell c).1.2 = .tc then (if barS = barS then Finset.univ.erase (show Fin 4 from c) else ∅) else ∅) = _
  rw [if_pos ⟨rfl, rfl⟩, if_pos rfl]
theorem duties_dma {n : ℕ} (h : n < 17) : (rd X).duties (dcell c n) 0 = if Carries c n then {0} else ∅ := by
  show (if 0 = 0 ∧ (dcell c n).1.2 = .tc then (if Carries c (show Fin 17 from semN n).val then ({0} : Finset (Fin 4)) else ∅) else ∅) = _
  rw [if_pos ⟨rfl, rfl⟩, semN_val h]
theorem duties_later (g : GSem nD τ sig) (r : ℕ) (h : 1 ≤ r) : (rd X).duties g r = ∅ :=
  if_neg fun h' => by omega
theorem amount_dma {n : ℕ} (h : n < 17) (r : ℕ) (d : Fin 4) : (rd X).amount (dcell c n) r d = worth c n := by
  show worth c (show Fin 17 from semN n).val = _
  rw [semN_val h]
theorem payload_dma {n : ℕ} (h : n < 17) (r : ℕ) (d : Fin 4) : (rd X).payload (dcell c n) r d = carry X c n := by
  show carry X c (show Fin 17 from semN n).val = _
  rw [semN_val h]
theorem expect_dma {n : ℕ} (h : n < 17) (hc : Carries c n) : (rd X).expect (dcell c n) 0 = worth c n := by
  unfold Schedule.expect Schedule.amountOf
  rw [duties_dma X c h, if_pos hc, Finset.sum_singleton, amount_dma X c h]
theorem expect_bar : (rd X).expect (bcell c) 0 = 3 := by
  unfold Schedule.expect Schedule.amountOf
  rw [duties_bar, Finset.sum_congr rfl fun d _ => (show (rd X).amount (bcell c) 0 d = 1 from rfl), Finset.sum_const]
  revert c; decide
/-- All a message's cell hands over. -/
theorem rest_dma {n : ℕ} (h : n < 17) (hc : Carries c n) :
    bigSep ((rd X).duties (dcell c n) 0 \ ∅) (fun d => (rd X).payload (dcell c n) 0 d) = carry X c n := by
  rw [Finset.sdiff_empty, duties_dma X c h, if_pos hc, bigSep_singleton, payload_dma X c h]
/-- All a barrier cell hands over: the three other devices' slots. -/
theorem rest_bar : bigSep ((rd X).duties (bcell c) 0 \ ∅) (fun d => (rd X).payload (bcell c) 0 d)
    = iprop(slotFor (F := F) (hop 1 c) c ∗ slotFor (F := F) (hop 2 c) c ∗ slotFor (F := F) (hop 3 c) c) := by
  rw [Finset.sdiff_empty, duties_bar, bigSep_eq_bigSepL_of_eq [(show Fin 4 from hop 1 c), hop 2 c, hop 3 c] (by revert c; decide) (by revert c; decide)]
  rfl

end Facts

/-! ## What is owed, and the order of waiting -/

/-- What device `c` has still to send when `k` of its messages are on their way. -/
def owe (c : Dev nD) : ℕ → CellTallies nD τ sig Unit
  | 0 => owe c 1 + tallyAt (dcell (hop 1 c) (12 + c.val)) () Nfull
  | 1 => owe c 2 + tallyAt (dcell (hop 3 c) (12 + c.val)) () Nfull
  | 2 => owe c 3 + tallyAt (dcell (hop 2 c) (12 + c.val)) () Nhalf
  | 3 => 0 + tallyAt (dcell (hop 2 c) 16) () Nhalf
  | _ => 0
termination_by k => 4 - k

def oweB (c : Dev nD) : CellTallies nD τ sig Unit := owe c 0 + tallyAt (bcell (hop 3 c)) () 1
def oweA (c : Dev nD) : CellTallies nD τ sig Unit := oweB c + tallyAt (bcell (hop 2 c)) () 1
/-- What device `c` owes at launch: a unit to each other device's barrier, and its four messages. -/
def O₀ (c : Dev nD) : CellTallies nD τ sig Unit := oweA c + tallyAt (bcell (hop 1 c)) () 1

theorem owe_0 (c : Dev nD) : owe c 0 = owe c 1 + tallyAt (dcell (hop 1 c) (12 + c.val)) () Nfull := by rw [owe]
theorem owe_1 (c : Dev nD) : owe c 1 = owe c 2 + tallyAt (dcell (hop 3 c) (12 + c.val)) () Nfull := by rw [owe]
theorem owe_2 (c : Dev nD) : owe c 2 = owe c 3 + tallyAt (dcell (hop 2 c) (12 + c.val)) () Nhalf := by rw [owe]
theorem owe_3 (c : Dev nD) : owe c 3 = 0 + tallyAt (dcell (hop 2 c) 16) () Nhalf := by rw [owe]
theorem owe_4 (c : Dev nD) : owe c 4 = 0 := by rw [owe] <;> omega

def L (g : GSem nD τ sig) : Finset Unit := if g.1.2 = .tc then {()} else ∅
/-- Local copies and sends first, then the barrier, then what is received. -/
def lv (g : GSem nD τ sig) (_ : Unit) : ℕ := match g.2 with
  | .reg _ => 1
  | .dma q => if (show Fin 17 from q).val < 12 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_dma (c : Dev nD) {n : ℕ} (h : n < 17) : lv (dcell c n) () = if n < 12 then 0 else 2 := by
  show (if (show Fin 17 from semN n).val < 12 then 0 else 2) = _
  rw [semN_val h]

/-- Everything owed is owed at levels above `b`. -/
def Above (b : ℕ) (O : CellTallies nD τ sig Unit) : Prop := ∀ g i, 0 < O g i → i ∈ L g ∧ b < lv g i

theorem above_zero (b : ℕ) : Above b 0 := fun _ _ h => absurd h (Nat.lt_irrefl 0)
theorem above_add {b : ℕ} {O O' : CellTallies nD τ sig Unit} (h : Above b O) (h' : Above b O') : Above b (O + O') := fun g i hg => by
  rw [Pi.add_apply, Finsupp.add_apply] at hg
  rcases (show 0 < O g i ∨ 0 < O' g i by omega) with hg | hg
  · exact h g i hg
  · exact h' g i hg
theorem above_mono {b b' : ℕ} (hb : b' ≤ b) {O : CellTallies nD τ sig Unit} (h : Above b O) : Above b' O :=
  fun g i hg => ⟨(h g i hg).1, lt_of_le_of_lt hb (h g i hg).2⟩
theorem above_tally {b n : ℕ} (c : Dev nD) (sm : SemLoc sig) (h : b < lv ((c : Thread nD τ), sm) ()) :
    Above b (tallyAt ((c : Thread nD τ), sm) () n) := fun g i hg => by
  rw [tallyAt_apply] at hg
  by_cases hgi : g = ((c : Thread nD τ), sm) ∧ i = ()
  · rw [hgi.1, L_tc]; exact ⟨Finset.mem_singleton_self _, h⟩
  · rw [if_neg hgi] at hg; exact absurd hg (Nat.lt_irrefl 0)
theorem above_recv (c d : Dev nD) (k : ℕ) : Above 1 (tallyAt (dcell d (12 + c.val)) () k) :=
  above_tally d _ (by
    have : c.val < 4 := c.isLt
    rw [lv_dma d (by omega), if_neg (by omega)]; decide)

theorem above_owe (c : Dev nD) (k : ℕ) : Above 1 (owe c k) := by
  have h3 : Above 1 (owe c 3) := by rw [owe_3]; exact above_add (above_zero _) (above_tally _ _ (Nat.lt_succ_self 1))
  have h2 : Above 1 (owe c 2) := by rw [owe_2]; exact above_add h3 (above_recv _ _ _)
  have h1 : Above 1 (owe c 1) := by rw [owe_1]; exact above_add h2 (above_recv _ _ _)
  match k with
  | 0 => rw [owe_0]; exact above_add h1 (above_recv _ _ _)
  | 1 => exact h1
  | 2 => exact h2
  | 3 => exact h3
  | k + 4 => rw [owe] <;> first | exact above_zero _ | omega

theorem above_O₀ (c : Dev nD) : Above 0 (O₀ c) := by
  unfold O₀ oweA oweB
  exact above_add (above_add (above_add (above_mono (Nat.zero_le 1) (above_owe c 0)) (above_tally _ _ Nat.one_pos)) (above_tally _ _ Nat.one_pos)) (above_tally _ _ Nat.one_pos)

theorem mayWait_of_above {b : ℕ} {O : CellTallies nD τ sig Unit} (h : Above b O) (c : Dev nD) (sm : SemLoc sig)
    (hb : lv ((c : Thread nD τ), sm) () ≤ b) : (levAts L lv : sProp 𝕄) ⊢ MayWait (c : Thread nD τ) sm () O :=
  Pipeline.mayWait_of_levAts (by rw [L_tc]; exact Finset.mem_singleton_self _)
    fun g i hg => ⟨(h g i hg).1, lt_of_le_of_lt hb (h g i hg).2⟩

/-- A device with messages to send may wait for its local copies and for its sends. -/
theorem mayWait_local (c : Dev nD) (k : ℕ) {n : ℕ} (hn : n < 12) :
    (levAts L lv : sProp 𝕄) ⊢ MayWait (c : Thread nD τ) (.dma (semN n)) () (owe c k) :=
  mayWait_of_above (above_mono (Nat.zero_le 1) (above_owe c k)) c _ (by
    rw [show lv ((c : Thread nD τ), .dma (semN n)) () = lv (dcell c n) () from rfl, lv_dma c (by omega), if_pos hn])
theorem mayWait_bar (c : Dev nD) : (levAts L lv : sProp 𝕄) ⊢ MayWait (c : Thread nD τ) (.reg barS) () (owe c 0) :=
  mayWait_of_above (above_owe c 0) c _ le_rfl

/-! ## What each device holds of the protocol -/

/-- Every cell's invariant, and that its round is open. -/
def records (X : Dev nD → Vec F S8192x2048 .f32) (K : Dev nD × Fin 10 → ℕ) : sProp 𝕄 :=
  iprop(bigSep Finset.univ (fun ck => cellInv ER (rd X) (K ck) (kcell ck)) ∗ bigSep Finset.univ (fun ck => reached ER (kcell ck) 0))

instance records_persistent (X : Dev nD → Vec F S8192x2048 .f32) (K) : BI.Persistent (records X K) := by unfold records; infer_instance

theorem record_at (X : Dev nD → Vec F S8192x2048 .f32) (K) {g : GSem nD τ sig} (ck : Dev nD × Fin 10) (h : kcell ck = g) :
    records X K ⊢ iprop(cellInv ER (rd X) (K ck) g ∗ reached ER g 0) := by
  subst h
  unfold records
  exact BI.sep_mono (bigSep_elim (Finset.mem_univ ck)) (bigSep_elim (Finset.mem_univ ck))

end Cert.KernelIdeal.Run

end
-- ==== Proof.IdealMove.lean ====
/- The kernel's single steps: a signal, a message sent, a message or a send waited for, the copies a loop starts
   from and the copies into the left operand's buffer. -/
module

public import proofs.«01_k».proof.Proof.IdealProto

@[expose] public section

noncomputable section

namespace Cert.KernelIdeal.Run

open Cert.KernelIdeal Cert.KernelIdeal.Gen Cert.Copies
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What device `c` owes, whatever it has waited for. -/
abbrev debt (c : Dev nD) (O : CellTallies nD τ sig Unit) : sProp 𝕄 := iprop(∃ Wt, owes (c : Thread nD τ) O Wt)
/-- The right to pay what device `c` owes DMA cell `n` of device `d`. -/
abbrev tokD (d : Dev nD) (n : ℕ) : sProp 𝕄 := dutyTok ER (dcell d n) 0 (0 : Fin 4)
/-- The right to raise device `d`'s barrier in device `c`'s name. -/
abbrev tokB (d c : Dev nD) : sProp 𝕄 := dutyTok ER (bcell d) 0 (show Fin 4 from c)
/-- Nothing yet received on a cell. -/
abbrev fresh (g : GSem nD τ sig) : sProp 𝕄 := atPos ER g 0 ∅ 0
/-- The credit of one message to device `c`'s DMA cell `n`. -/
abbrev due (c : Dev nD) (n : ℕ) : sProp 𝕄 := cred (tallyAt (dcell c n) () (worth c n))

/-! ## What the cells carry -/

section Carry
variable (X : Dev nD → Vec F S8192x2048 .f32) (c : Dev nD)

theorem carry_8 : carry X c 8 = xsPts X c (blk c 1) 2048 := rfl
theorem carry_9 : carry X c 9 = xsPts X c (blk c 2) 1024 := rfl
theorem carry_10 : carry X c 10 = xsPts X c (blk c 3) 2048 := rfl
theorem carry_11 : carry X c 11 = xsPts X c (blk c 2 + 1024) 1024 := rfl
theorem carry_16 : carry X c 16 = rvPts X c (hop 2 c).val 1024 1024 := rfl
theorem carry_half : carry X c (12 + (hop 2 c).val) = rvPts X c (hop 2 c).val 0 1024 := by
  have h : (hop 2 c).val < 4 := (hop 2 c).isLt
  unfold carry
  rw [if_neg (by omega), if_neg (by omega), if_neg (by omega), if_neg (by omega), if_neg (by omega), if_pos rfl]
theorem carry_full {s : ℕ} (h : s < 4) (hs : s ≠ (hop 2 c).val) : carry X c (12 + s) = rvPts X c s 0 2048 := by
  unfold carry
  rw [if_neg (by omega), if_neg (by omega), if_neg (by omega), if_neg (by omega), if_neg (by omega), if_neg (by omega),
    show 12 + s - 12 = s by omega]
theorem worth_full {s : ℕ} (h : s < 4) (hs : s ≠ (hop 2 c).val) : worth c (12 + s) = Nfull := if_neg (by omega)
theorem worth_half : worth c (12 + (hop 2 c).val) = Nhalf := if_pos (by omega)
theorem hop_ne (j k : ℕ) (h : (j + 4 - k % 4) % 4 ≠ 0) : (hop j c).val ≠ (hop k c).val := by
  rw [hop_val, hop_val]; have : c.val < 4 := c.isLt; omega
theorem hop_ne_self (j : ℕ) (h : j % 4 ≠ 0) : (hop j c).val ≠ c.val := by
  rw [hop_val]; have : c.val < 4 := c.isLt; omega

end Carry

/-! ## Messages -/

section Steps
variable {X : Dev nD → Vec F S8192x2048 .f32} {K : Dev nD × Fin 10 → ℕ} {c : Dev nD} {O : CellTallies nD τ sig Unit} {α : Type}

/-- Device `c` raises another device's barrier, handing over its receive slot for that device. -/
theorem signal_step {d d' : Dev nD} {k' : ℕ} {k : PUnit → Prog (TpuEff nD τ sig (Elt F) Λ₀ .tc) α} {Q : α → sProp 𝕄}
    (hd : d' = d) (hcd : c ≠ d) (hk : k' = 1) :
    iprop(records X K ∗ debt c (O + tallyAt (bcell d) () 1) ∗ tokB d c ∗ slotFor (F := F) c d)
      ⊢ iprop((debt c O -∗ wpc c (k ⟨⟩) Q) -∗ wpc c (.op (.semSignal (d' : Thread nD τ) barS k') k) Q) := by
  subst hd; subst hk
  iintro ⟨#HR, ⟨%Wt, HO⟩, Ht, Hs⟩ Hk
  ihave Hc := (record_at X K (d', 9) (kcell_bar d')) $$ HR
  icases Hc with ⟨#Hinv, #Hre⟩
  iapply (Rounds.wp_signal 𝒱₀ ER (rd X) (c : Thread nD τ) none (dst := (d' : Thread nD τ)) (κ := K (d', 9)) (d := (show Fin 4 from c))
    (by rw [duties_bar]; exact Finset.mem_erase.2 ⟨hcd, Finset.mem_univ _⟩) rfl () O rfl) $$ [HO Ht Hs]
  · isplitr; · iexact Hinv
    isplitl [HO]; · iexact HO
    isplitl [Ht]; · iexact Ht
    isplitl [Hs]; · iapply (Entails.of_eq (show slotFor (F := F) c d' = (rd X).payload (bcell d') 0 (show Fin 4 from c) from rfl)) $$ Hs
    iexact Hre
  iintro HO
  iapply Hk
  iexists _; iexact HO

/-- Device `c` waits for the three others: it gets their receive slots for its messages. -/
theorem barrier_step {k' : ℕ} {k : PUnit → Prog (TpuEff nD τ sig (Elt F) Λ₀ .tc) α} {Q : α → sProp 𝕄} (hk : k' = 3)
    (hmw : (levAts L lv : sProp 𝕄) ⊢ MayWait (c : Thread nD τ) (.reg barS) () O) :
    iprop(records X K ∗ levAts L lv ∗ debt c O ∗ cred (tallyAt (bcell c) () 3) ∗ fresh (bcell c))
      ⊢ iprop(((debt c O ∗ semVal (bcell c) 0 ∗ slotFor (F := F) (hop 1 c) c ∗ slotFor (F := F) (hop 2 c) c ∗ slotFor (F := F) (hop 3 c) c)
          -∗ wpc c (k ⟨⟩) Q) -∗ wpc c (.op (.semWait barS k') k) Q) := by
  subst hk
  iintro ⟨#HR, #HL, ⟨%Wt, HO⟩, Hc, Hat⟩ Hk
  ihave Hr := (record_at X K (c, 9) (kcell_bar c)) $$ HR
  icases Hr with ⟨#Hinv, -⟩
  iapply (Rounds.wp_wait_rest_token 𝒱₀ ER (rd X) (c : Thread nD τ) none (κ := K (c, 9))
    (wpE_semWait_eq 𝒱₀ (c : Thread nD τ) none Set.univ) (Set.mem_univ _) () (O := O) (W := Wt) (R := 0) (m := 0) (T := ∅)
    (by rw [expect_bar])) $$ [HO Hc Hat]
  · isplitr; · iexact Hinv
    isplitl [Hc]; · iexact Hc
    isplitl [HO]; · iexact HO
    isplitr; · iapply hmw; iexact HL
    iexact Hat
  iintro ⟨HO, Hat, -, Hp⟩
  imod (Rounds.cell_close ER (rd X) (Set.mem_univ (K (c, 9))) (fun h => h) (R := 0 + 1) (fun r hr => duties_later X (bcell c) r hr)) $$ [Hat] with Hz
  · isplitr; · iexact Hinv
    iexact Hat
  iapply Hk
  isplitl [HO]; · iexists _; iexact HO
  isplitl [Hz]; · iexact Hz
  iapply (Entails.of_eq (rest_bar X c)) $$ Hp

/-- Device `c` waits for what completes on its DMA cell `n`. -/
theorem arrive_step {n : ℕ} {sp sp' : Space} {s s' : Shape} {e e' : EltTy} {κ' : Kind} {q : DmaSem sig} {D P : sProp 𝕄}
    {srcw : Memref sig (c : Thread nD τ).2.kind sp' s' e'} {dstw : Memref sig κ' sp s e} {hsrc : srcw.view.WordExact} {hdst : dstw.view.WordExact}
    {k : PUnit → Prog (TpuEff nD τ sig (Elt F) Λ₀ .tc) α} {Q : α → sProp 𝕄}
    (hq : q = semN n) (hn : 8 ≤ n ∧ n < 17) (hc : Carries c n) (hN : dstw.view.dmaCredit = worth c n) (hD : carry X c n = D)
    (hmw : P ⊢ MayWait (c : Thread nD τ) (.dma (semN n)) () O) :
    iprop(records X K ∗ P ∗ debt c O ∗ due c n ∗ fresh (dcell c n))
      ⊢ iprop(((debt c O ∗ sv c n ∗ D) -∗ wpc c (k ⟨⟩) Q) -∗ wpc c (.op (.waitDma2 q srcw dstw hsrc hdst) k) Q) := by
  subst hq; subst hD
  iintro ⟨#HR, HL, ⟨%Wt, HO⟩, Hc, Hat⟩ Hk
  ihave Hr := (record_at X K (c, ⟨n - 8, by omega⟩) (kcell_dma c hn)) $$ HR
  icases Hr with ⟨#Hinv, -⟩
  iapply (Rounds.wp_wait_rest_token 𝒱₀ ER (rd X) (c : Thread nD τ) none (κ := K (c, ⟨n - 8, by omega⟩)) (k' := dstw.view.dmaCredit)
    (wpE_waitDma2_eq 𝒱₀ (c : Thread nD τ) none Set.univ) (Set.mem_univ _) () (O := O) (W := Wt) (R := 0) (m := 0) (T := ∅)
    (by rw [Nat.zero_add, hN, expect_dma X c hn.2 hc])) $$ [HO Hc Hat HL]
  · isplitr; · iexact Hinv
    isplitl [Hc]; · rw [hN]; iexact Hc
    isplitl [HO]; · iexact HO
    isplitl [HL]; · iapply hmw $$ HL
    iexact Hat
  iintro ⟨HO, Hat, -, Hp⟩
  imod (Rounds.cell_close ER (rd X) (Set.mem_univ (K (c, ⟨n - 8, by omega⟩))) (fun h => h) (R := 0 + 1) (fun r hr => duties_later X (dcell c n) r hr)) $$ [Hat] with Hz
  · isplitr; · iexact Hinv
    iexact Hat
  iapply Hk
  isplitl [HO]; · iexists _; iexact HO
  isplitl [Hz]; · iexact Hz
  iapply (Entails.of_eq (rest_dma X c hn.2 hc)) $$ Hp

/-- Device `c` sends rows of its cast to its part of another device's receive buffer: what is left is the credit of the send. -/
theorem send_step {d d' : Dev nD} {n n' N : ℕ} {s : Shape} {src dst : Memref sig .tc .hbm s .bf16}
    {q q' : DmaSem sig} {hsc : dst.view.ref.isScScratch = false}
    {hsrc : src.view.WordExact} {hdst : dst.view.WordExact} {hsem : DmaTarget.Typed .hbm (.dma q') (.remote (d' : Thread nD τ) dst (.dma q) hsc)}
    {k : PUnit → Prog (TpuEff nD τ sig (Elt F) Λ₀ .tc) α} {Q : α → sProp 𝕄}
    {fs : Buf (Elt F) (src.view.loc (c : Thread nD τ))} {gd : Buf (Elt F) (dst.view.loc (d : Thread nD τ))}
    {S : Finset (Idx (src.view.loc (c : Thread nD τ)))} {D : Finset (Idx (dst.view.loc (d : Thread nD τ)))}
    (hd : d' = d) (hq : q = semN n) (hq' : q' = semN n') (hn : 8 ≤ n ∧ n < 17) (hn' : 8 ≤ n' ∧ n' < 17)
    (hc : Carries c n) (hc' : Carries d n') (hN : dst.view.dmaCredit = N) (hw : worth c n = N) (hw' : worth d n' = N)
    (hS : src.view.set = S) (hD : dst.view.set = D)
    (hp : carry X c n = (src.view.loc (c : Thread nD τ) ↦[S]{fullShare} fs)) (hp' : carry X d n' = (dst.view.loc (d : Thread nD τ) ↦[D]{fullShare} gd))
    (hv : ∀ x, src.view.read (Elt F) fs x = dst.view.read (Elt F) gd x) :
    iprop(records X K ∗ debt c (O + tallyAt (dcell d n') () N) ∗ tokD c n ∗ tokD d n'
        ∗ (src.view.loc (c : Thread nD τ) ↦[S]{fullShare} fs) ∗ (∃ g : Buf (Elt F) (dst.view.loc (d : Thread nD τ)), dst.view.loc (d : Thread nD τ) ↦[D]{fullShare} g))
      ⊢ iprop(((debt c O ∗ due c n) -∗ wpc c (k ⟨⟩) Q)
          -∗ wpc c (.op (.enqueueDma src (.remote (d' : Thread nD τ) dst (.dma q) hsc) (.dma q') hsrc hdst hsem) k) Q) := by
  subst hd; subst hq; subst hq'; subst hS; subst hD
  iintro ⟨#HR, ⟨%Wt, HO⟩, Ht, Ht', Hs, ⟨%g, Hd⟩⟩ Hk
  ihave Hr := (record_at X K (c, ⟨n - 8, by omega⟩) (kcell_dma c hn)) $$ HR
  icases Hr with ⟨#Hi, #Hre⟩
  ihave Hr' := (record_at X K (d', ⟨n' - 8, by omega⟩) (kcell_dma d' hn')) $$ HR
  icases Hr' with ⟨#Hi', #Hre'⟩
  iapply (Rounds.wp_send_pointsTo 𝒱₀ ER (rd X) (c : Thread nD τ) none (κ₁ := K (c, ⟨n - 8, by omega⟩)) (κ₂ := K (d', ⟨n' - 8, by omega⟩))
    (r₁ := 0) (r₂ := 0) (d₁ := (0 : Fin 4)) (d₂ := (0 : Fin 4)) (fd := g)
    (by rw [duties_dma X c hn.2, if_pos hc]; exact Finset.mem_singleton_self _)
    (by rw [duties_dma X d' hn'.2, if_pos hc']; exact Finset.mem_singleton_self _)
    () () N (show dst.view.amount (.dma (semN n')) = N from hN) ((amount_dma X c hn.2 _ _).trans hw) ((amount_dma X d' hn'.2 _ _).trans hw') O rfl (W := Wt)
    (Entails.of_eq (by rw [payload_dma X c hn.2, hp]))
    (Entails.of_eq (by
      rw [payload_dma X d' hn'.2, hp']
      refine pointsTo_congr fun i hi => ?_
      obtain ⟨x, -, rfl⟩ := Finset.mem_map.1 hi
      have hx : dst.view.read (Elt F) (dst.view.write (Elt F) g (src.view.read (Elt F) fs) Finset.univ) x = dst.view.read (Elt F) gd x := by
        rw [View.read_write_univ]; exact hv x
      rw [View.read_apply, View.read_apply] at hx
      exact (cast_inj _).1 hx))) $$ [HO Ht Ht' Hs Hd]
  · isplitr; · iexact Hi
    isplitr; · iexact Hi'
    isplitl [Hs]; · iexact Hs
    isplitl [Hd]; · iexact Hd
    isplitl [HO]; · iexact HO
    isplitl [Ht]; · iexact Ht
    isplitr; · iexact Hre
    isplitl [Ht']; · iexact Ht'
    iexact Hre'
  iintro ⟨Hc, HO⟩
  iapply Hk
  isplitl [HO]; · iexists _; iexact HO
  iapply (Entails.of_eq (show (cred (tallyAt (dcell c n) () N) : sProp 𝕄) = due c n by show cred (tallyAt (dcell c n) () N) = cred (tallyAt (dcell c n) () (worth c n)); rw [hw])) $$ Hc

end Steps

/-! ## What the copies read -/

/-- The rows of device `s`'s cast from `lo`, as a left operand. -/
def left (Y : Vec F S8192x2048 .f32) (lo : ℕ) : Vec F S2048x2048 .bf16 := fun i => at2 (castX Y) (lo + (i 0).val) (i 1).val

section Reads
variable (X : Dev nD → Vec F S8192x2048 .f32) {c d : Dev nD} {lo r s : ℕ} {off offz : Fin 2 → ℕ} {off3 : Fin 3 → ℕ} {inb : _} {h : _} {inb' : _} {h' : _} {sq : _}

theorem own_reads (Y : Vec F S8192x2048 .f32) (ho : off = ![lo, 0]) (hz : offz = ![0, 0]) (x : S2048x2048.Idx) :
    (xsM.slice (Rect.unit (s := S8192x2048) off S2048x2048.size inb) h).view.read (Elt F) (castX Y) x
      = (bM.slice (Rect.unit (s := S2048x2048) offz S2048x2048.size inb') h').view.read (Elt F) (left Y lo) x := by
  subst ho; subst hz
  refine (at2_eq (castX Y) _ ?_ ?_).symm
  · show lo + 1 * (x 0).val = lo + (0 + 1 * (x 0).val); omega
  · show 0 + 1 * (x 1).val = 0 + 1 * (x 1).val; rfl

theorem slot_reads (ho : off3 = ![(s : ℕ), 0, 0]) (hs : s = d.val) (hz : offz = ![0, 0]) (x : S2048x2048.Idx) :
    ((rvM.slice (Rect.unit (s := S4x2048x2048) off3 S1x2048x2048.size inb) h).squeeze S2048x2048 sq).view.read (Elt F) (rvC X c) x
      = (bM.slice (Rect.unit (s := S2048x2048) offz S2048x2048.size inb') h').view.read (Elt F) (left (X d) (blk c 0)) x := by
  subst ho; subst hz; subst hs
  refine (congrArg (fun e : Dev nD => at2 (castX (X e)) _ _) (Fin.ext ?_)).trans (at2_congr (castX (X d)) ?_ ?_)
  · show d.val + 1 * (Shape.reshapeEquiv _ x 0).val = d.val
    rw [unsqueeze_zero]; omega
  · show blk c 0 + (0 + 1 * (Shape.reshapeEquiv _ x 1).val) = blk c 0 + (0 + 1 * (x 0).val)
    rw [unsqueeze_one]
  · show 0 + 1 * (Shape.reshapeEquiv _ x 2).val = 0 + 1 * (x 1).val
    rw [unsqueeze_two]

theorem half_reads (ho : off3 = ![(s : ℕ), r, 0]) (hs : s = d.val) (hz : offz = ![0, 0]) (x : S1024x2048.Idx) :
    ((rvM.slice (Rect.unit (s := S4x2048x2048) off3 S1x1024x2048.size inb) h).squeeze S1024x2048 sq).view.read (Elt F) (rvC X c) x
      = (bM.slice (Rect.unit (s := S2048x2048) offz S1024x2048.size inb') h').view.read (Elt F) (left (X d) (blk c 0 + r)) x := by
  subst ho; subst hz; subst hs
  refine (congrArg (fun e : Dev nD => at2 (castX (X e)) _ _) (Fin.ext ?_)).trans (at2_congr (castX (X d)) ?_ ?_)
  · show d.val + 1 * (Shape.reshapeEquiv _ x 0).val = d.val
    rw [unsqueeze_zero]; omega
  · show blk c 0 + (r + 1 * (Shape.reshapeEquiv _ x 1).val) = blk c 0 + r + (0 + 1 * (x 0).val)
    rw [unsqueeze_one]; omega
  · show 0 + 1 * (Shape.reshapeEquiv _ x 2).val = 0 + 1 * (x 1).val
    rw [unsqueeze_two]

theorem full_lands (ho : off = ![lo, 0]) (ho' : off3 = ![c.val, 0, 0]) (hl : lo = blk d 0) (x : S2048x2048.Idx) :
    (xsM.slice (Rect.unit (s := S8192x2048) off S2048x2048.size inb) h).view.read (Elt F) (castX (X c)) x
      = ((rvM.slice (Rect.unit (s := S4x2048x2048) off3 S1x2048x2048.size inb') h').squeeze S2048x2048 sq).view.read (Elt F) (rvC X d) x := by
  subst ho; subst ho'; subst hl
  refine ((congrArg (fun e : Dev nD => at2 (castX (X e)) _ _) (Fin.ext ?_)).trans (at2_eq (castX (X c)) _ ?_ ?_)).symm
  · show c.val + 1 * (Shape.reshapeEquiv _ x 0).val = c.val
    rw [unsqueeze_zero]; omega
  · show blk d 0 + 1 * (x 0).val = blk d 0 + (0 + 1 * (Shape.reshapeEquiv _ x 1).val)
    rw [unsqueeze_one]; omega
  · show 0 + 1 * (x 1).val = 0 + 1 * (Shape.reshapeEquiv _ x 2).val
    rw [unsqueeze_two]

theorem half_lands (ho : off = ![lo, 0]) (ho' : off3 = ![c.val, r, 0]) (hl : lo = blk d 0 + r) (x : S1024x2048.Idx) :
    (xsM.slice (Rect.unit (s := S8192x2048) off S1024x2048.size inb) h).view.read (Elt F) (castX (X c)) x
      = ((rvM.slice (Rect.unit (s := S4x2048x2048) off3 S1x1024x2048.size inb') h').squeeze S1024x2048 sq).view.read (Elt F) (rvC X d) x := by
  subst ho; subst ho'; subst hl
  refine ((congrArg (fun e : Dev nD => at2 (castX (X e)) _ _) (Fin.ext ?_)).trans (at2_eq (castX (X c)) _ ?_ ?_)).symm
  · show c.val + 1 * (Shape.reshapeEquiv _ x 0).val = c.val
    rw [unsqueeze_zero]; omega
  · show blk d 0 + r + 1 * (x 0).val = blk d 0 + (r + 1 * (Shape.reshapeEquiv _ x 1).val)
    rw [unsqueeze_one]; omega
  · show 0 + 1 * (x 1).val = 0 + 1 * (Shape.reshapeEquiv _ x 2).val
    rw [unsqueeze_two]

end Reads

/-! ## What the loops start from and leave -/

section Ends
variable {c : Dev nD} {O : CellTallies nD τ sig Unit}

/-- What a cast loop leaves: its two last chunks being written back. -/
def castDone (c : Dev nD) (O : CellTallies nD τ sig Unit) (Y : Vec F S8192x2048 .f32) (lo : ℕ) : sProp 𝕄 :=
  iprop(debt c O ∗ inFree c Y 0 ∗ inFree c Y 1 ∗ outFly c Y (lo + 1536) 0 ∗ outFly c Y (lo + 1792) 1
    ∗ (xsL c ↦[rows lo 1536]{fullShare} castX Y))

theorem castInv_start {P : sProp 𝕄} {Y : Vec F S8192x2048 .f32} {lo : ℕ} :
    iprop(P ∗ debt c O ∗ inFly c Y lo 0 ∗ inFree c Y 1 ∗ outFree c 0 ∗ outFree c 1
        ∗ (∃ g : Buf (Elt F) (xsL c), xsL c ↦[rows lo 2048]{fullShare} g))
      ⊢ castInv P c O Y lo 0 := by
  have h0 : (rows lo (256 * (0 - 2)) : Finset S8192x2048.Idx) = ∅ :=
    Finset.eq_empty_of_forall_notMem fun i hi => by rw [mem_rowsOf] at hi; omega
  unfold castInv
  rw [if_pos (by decide), if_neg (by decide), if_neg (by decide), h0]
  iintro ⟨HP, HO, Hi, Hi', Ho, Ho', Hx⟩
  isplitl [HP]; · iexact HP
  isplitl [HO]; · iexact HO
  isplitl [Hi]; · iexact Hi
  isplitl [Hi']; · iexact Hi'
  isplitl [Ho]; · iexact Ho
  isplitl [Ho']; · iexact Ho'
  isplitr
  · rw [pointsTo_empty]; iempintro
  iexact Hx

theorem castInv_end {P : sProp 𝕄} {Y : Vec F S8192x2048 .f32} {lo : ℕ} : castInv P c O Y lo 8 ⊢ castDone c O Y lo := by
  unfold castInv castDone
  rw [if_neg (by decide), if_pos (by decide), if_pos (by decide)]
  iintro ⟨-, HO, Hi, Hi', Ho, Ho', Hx, -⟩
  isplitl [HO]; · iexact HO
  isplitl [Hi]; · iexact Hi
  isplitl [Hi']; · iexact Hi'
  isplitl [Ho]; · iexact Ho
  isplitl [Ho']; · iexact Ho'
  iexact Hx

/-- What a product holds but for the weights' slots: the left operand, and its rows of the result. -/
def gemmHas (c : Dev nD) (n : ℕ) (A : Vec F S2048x2048 .bf16) (r : ℕ) (f : Vec F S2048x4096 .f32) : sProp 𝕄 :=
  iprop((bL c ↦[brows n]{fullShare} A) ∗ (oL c ↦[otile r n 0 4096]{fullShare} f))

theorem gemmInv_start {P : sProp 𝕄} {n : ℕ} [NeZero n] {pay : Pay F n} {W : Vec F S8192x4096 .f32} {A : Vec F S2048x2048 .bf16} {r j : ℕ} {f : Vec F S2048x4096 .f32} :
    iprop(P ∗ debt c O ∗ wFly c W j 0 0 ∗ wFree c W 1 ∗ gemmHas c n A r f) ⊢ gemmInv P c O n pay W A r j f 0 := by
  have h0 : (otile r n 0 (512 * 0) : Finset S2048x4096.Idx) = ∅ :=
    Finset.eq_empty_of_forall_notMem fun i hi => by rw [mem_tileOf] at hi; omega
  unfold gemmInv gemmHas
  rw [if_pos (by decide), h0]
  iintro ⟨HP, HO, Hw, Hw', Hb, Ho⟩
  isplitl [HP]; · iexact HP
  isplitl [HO]; · iexact HO
  isplitl [Hw]; · iexact Hw
  isplitl [Hw']; · iexact Hw'
  isplitl [Hb]; · iexact Hb
  isplitr
  · rw [pointsTo_empty]; iempintro
  iexact Ho

theorem gemmInv_end {P : sProp 𝕄} {n : ℕ} [NeZero n] {pay : Pay F n} {W : Vec F S8192x4096 .f32} {A : Vec F S2048x2048 .bf16} {r j : ℕ} {f : Vec F S2048x4096 .f32} :
    gemmInv P c O n pay W A r j f 8 ⊢ iprop(debt c O ∗ wFree c W 0 ∗ wFree c W 1 ∗ gemmHas c n A r (gemmOut n pay W A r j f)) := by
  unfold gemmInv gemmHas
  rw [if_neg (by decide)]
  iintro ⟨-, HO, Hw, Hw', Hb, Ho, -⟩
  isplitl [HO]; · iexact HO
  isplitl [Hw]; · iexact Hw
  isplitl [Hw']; · iexact Hw'
  isplitl [Hb]; · iexact Hb
  iexact Ho

end Ends

/-! ## The local copies outside the loops -/

section Locals
variable {c : Dev nD} {O : CellTallies nD τ sig Unit} {α : Type} {k : PUnit → Prog (TpuEff nD τ sig (Elt F) Λ₀ .tc) α}

/-- The first chunk's fetch. -/
theorem chunk_start {Q : α → sProp 𝕄} {Y : Vec F S8192x2048 .f32} {lo : ℕ} {o2 o3 o4 i2 i3 i4 hsrc hdst hsem}
    (h2 : o2 = ![0]) (h3 : o3 = ![0, 0, 0]) (h4 : o4 = ![lo, 0]) :
    inFree c Y 0 ⊢ iprop((inFly c Y lo 0 -∗ wpc c (k ⟨⟩) Q)
      -∗ wpc c (.op (.enqueueDma (xM.slice (Rect.unit (s := S8192x2048) o4 S256x2048.size i4) (fun _ => rfl))
          (.here ((ciM.slice (Rect.unit (s := S2x256x2048) o3 S1x256x2048.size i3) (fun _ => rfl)).squeeze S256x2048 squeezes_S1x256x2048_S256x2048))
          (.dma ((cc0_scratch4.slice (Rect.unit (s := S2) o2 S1.size i2)).squeeze S_ squeezes_S1_S_).sem) hsrc hdst hsem) k) Q) := by
  unfold inFree inFly
  iintro ⟨Hg, Hv, Hx⟩ Hk
  iapply (copy_start (c := (c : Thread nD τ)) (sh := sh 0) (S := rows lo 256) (T := Finset.univ) (D := slot 0) (f := Y) (chunk Y lo) () Nin
    (sem_in h2) rfl (by decide) ((View.set_slice_whole _ _).trans (unit_rows h4 rfl)) (Finset.subset_univ _)
    ((View.set_reshape _ _).trans ((View.set_slice_whole _ _).trans (unit_slot h3 rfl)))
    (fetch_reads Y lo 0 o4 o3 _ _ _ _ _ h4 h3)) $$ [Hg Hv Hx]
  · isplitl [Hx]; · iexact Hx
    isplitl [Hg]; · iexact Hg
    iexact Hv
  iexact Hk

/-- The first weight tile's fetch. -/
theorem tile_start {Q : α → sProp 𝕄} {W : Vec F S8192x4096 .f32} {r : ℕ} {oa ob oc ia ib ic hsrc hdst hsem}
    (ha : oa = ![0]) (hb : ob = ![0, 0, 0]) (hc : oc = ![r, 0]) :
    wFree c W 0 ⊢ iprop((wFly c W r 0 0 -∗ wpc c (k ⟨⟩) Q)
      -∗ wpc c (.op (.enqueueDma (wM.slice (Rect.unit (s := S8192x4096) oc S2048x512.size ic) (fun _ => rfl))
          (.here ((wbM.slice (Rect.unit (s := S2x2048x512) ob S1x2048x512.size ib) (fun _ => rfl)).squeeze S2048x512 squeezes_S1x2048x512_S2048x512))
          (.dma ((cc0_scratch7.slice (Rect.unit (s := S2) oa S1.size ia)).squeeze S_ squeezes_S1_S_).sem) hsrc hdst hsem) k) Q) := by
  unfold wFree wFly
  iintro ⟨Hg, Hv, Hw⟩ Hk
  iapply (copy_start (c := (c : Thread nD τ)) (sh := sh 0) (S := wtile r 0) (T := Finset.univ) (D := wslot 0) (f := W) (wTile W r 0) () Nw
    (sem_w ha) rfl (by decide) ((View.set_slice_whole _ _).trans (unit_tile hc rfl)) (Finset.subset_univ _)
    ((View.set_reshape _ _).trans ((View.set_slice_whole _ _).trans (unit_slot hb rfl)))
    (tile_reads W hc hb)) $$ [Hg Hv Hw]
  · isplitl [Hw]; · iexact Hw
    isplitl [Hg]; · iexact Hg
    iexact Hv
  iexact Hk

/-- A chunk's write-back waited for: its rows join those below. -/
theorem out_wait {Q : α → sProp 𝕄} {P : sProp 𝕄} [Persistent P] {Y : Vec F S8192x2048 .f32} {lo n s : ℕ} {o8 i8 o9 i9}
    {srcw : Memref sig .tc .vmem S256x2048 .bf16} {hsrc : srcw.view.WordExact} {hdst : _} (h8 : o8 = ![s]) (hs : s < 2)
    (hmw : ∀ n < 12, P ⊢ MayWait (c : Thread nD τ) (.dma (semN n)) () O) :
    iprop(P ∗ debt c O ∗ outFly c Y (lo + n) s ∗ (xsL c ↦[rows lo n]{fullShare} castX Y))
      ⊢ iprop(((debt c O ∗ outFree c s ∗ (xsL c ↦[rows lo (n + 256)]{fullShare} castX Y)) -∗ wpc c (k ⟨⟩) Q)
        -∗ wpc c (.op (.waitDma2 ((cc0_scratch5.slice (Rect.unit (s := S2) o8 S1.size i8)).squeeze S_ squeezes_S1_S_).sem
          srcw (xsM.slice (Rect.unit (s := S8192x2048) o9 S256x2048.size i9) (fun _ => rfl)) hsrc hdst) k) Q) := by
  unfold outFly outFree
  iintro ⟨#HP, HO, HF, Hd⟩ Hk
  iapply (copy_wait (c := (c : Thread nD τ)) (N := Nout) (sem_out h8) rfl (hmw (3 + s) (by omega))) $$ [HF HO]
  · isplitl [HF]; · iexact HF
    isplitl [HO]; · iexact HO
    iexact HP
  iintro ⟨⟨Hx, Hc⟩, Hv, HO⟩
  iapply Hk
  isplitl [HO]; · iexact HO
  isplitl [Hc Hv]
  · isplitl [Hc]; · iexists _; iexact Hc
    iexact Hv
  iapply (rows_cut (castX Y) (n := n) (m := 256) rfl).2
  isplitl [Hd]; · iexact Hd
  iexact Hx

/-- A block received, in flight to the left operand's buffer. -/
abbrev fullFly (X : Dev nD → Vec F S8192x2048 .f32) (c d : Dev nD) : sProp 𝕄 :=
  Fly (c : Thread nD τ) (semN 5) () ((cc0_scratch2 : Ref sig .tc).dmaCredit S2048x2048 .bf16)
    iprop((bL c ↦[brows 2048]{fullShare} left (X d) (blk c 0)) ∗ rvPts X c d.val 0 2048)
/-- Half a block received, in flight to the left operand's buffer. -/
abbrev halfFly (X : Dev nD → Vec F S8192x2048 .f32) (c d : Dev nD) (r : ℕ) : sProp 𝕄 :=
  Fly (c : Thread nD τ) (semN 5) () ((cc0_scratch2 : Ref sig .tc).dmaCredit S1024x2048 .bf16)
    iprop((bL c ↦[brows 1024]{fullShare} left (X d) (blk c 0 + r)) ∗ rvPts X c d.val r 1024)
/-- The own block, in flight to the left operand's buffer. -/
abbrev ownFly (Y : Vec F S8192x2048 .f32) (c : Dev nD) (lo : ℕ) : sProp 𝕄 :=
  Fly (c : Thread nD τ) (semN 5) () ((cc0_scratch2 : Ref sig .tc).dmaCredit S2048x2048 .bf16)
    iprop((bL c ↦[brows 2048]{fullShare} left Y lo) ∗ (xsL c ↦[rows lo 2048]{fullShare} castX Y))
/-- The left operand's buffer free, its first `n` rows. -/
abbrev bFree (c : Dev nD) (n : ℕ) : sProp 𝕄 := iprop((∃ g : Buf (Elt F) (bL c), bL c ↦[brows n]{fullShare} g) ∗ sv c 5)

theorem own_start {Q : α → sProp 𝕄} {Y : Vec F S8192x2048 .f32} {lo : ℕ} {off offz ix iz hsrc hdst hsem} (ho : off = ![lo, 0]) (hz : offz = ![0, 0]) :
    iprop((xsL c ↦[rows lo 2048]{fullShare} castX Y) ∗ bFree c 2048)
      ⊢ iprop((ownFly Y c lo -∗ wpc c (k ⟨⟩) Q)
        -∗ wpc c (.op (.enqueueDma (xsM.slice (Rect.unit (s := S8192x2048) off S2048x2048.size ix) (fun _ => rfl))
          (.here (bM.slice (Rect.unit (s := S2048x2048) offz S2048x2048.size iz) (fun _ => rfl)))
          (.dma (cc0_scratch6 : DmaSems sig S_).sem) hsrc hdst hsem) k) Q) := by
  iintro ⟨Hx, Hb, Hv⟩ Hk
  iapply (copy_start (c := (c : Thread nD τ)) (sh := fullShare) (S := rows lo 2048) (T := rows lo 2048) (D := brows 2048) (f := castX Y) (left Y lo) () _
    sem_b rfl (show 0 < S2048x2048.numel by decide) ((View.set_slice_whole _ _).trans (unit_rows ho rfl)) (Finset.Subset.refl _)
    ((View.set_slice_whole _ _).trans (unit_rows hz rfl)) (own_reads Y ho hz)) $$ [Hx Hb Hv]
  · isplitl [Hx]; · iexact Hx
    isplitl [Hb]; · iexact Hb
    iexact Hv
  iintro ⟨H, -⟩
  iapply Hk $$ H

theorem full_start {Q : α → sProp 𝕄} {X : Dev nD → Vec F S8192x2048 .f32} {d : Dev nD} {off3 offz ix iz hsrc hdst hsem} (ho : off3 = ![d.val, 0, 0]) (hz : offz = ![0, 0]) :
    iprop(rvPts X c d.val 0 2048 ∗ bFree c 2048)
      ⊢ iprop((fullFly X c d -∗ wpc c (k ⟨⟩) Q)
        -∗ wpc c (.op (.enqueueDma ((rvM.slice (Rect.unit (s := S4x2048x2048) off3 S1x2048x2048.size ix) (fun _ => rfl)).squeeze S2048x2048 squeezes_S1x2048x2048_S2048x2048)
          (.here (bM.slice (Rect.unit (s := S2048x2048) offz S2048x2048.size iz) (fun _ => rfl)))
          (.dma (cc0_scratch6 : DmaSems sig S_).sem) hsrc hdst hsem) k) Q) := by
  unfold fullFly rvPts
  iintro ⟨Hx, Hb, Hv⟩ Hk
  iapply (copy_start (c := (c : Thread nD τ)) (sh := fullShare) (S := rslab d.val 0 2048) (T := rslab d.val 0 2048) (D := brows 2048) (f := rvC X c)
    (left (X d) (blk c 0)) () _
    sem_b rfl (by decide) ((View.set_reshape _ _).trans ((View.set_slice_whole _ _).trans (unit_slab ho rfl))) (Finset.Subset.refl _)
    ((View.set_slice_whole _ _).trans (unit_rows hz rfl)) (slot_reads X ho rfl hz)) $$ [Hx Hb Hv]
  · isplitl [Hx]; · iexact Hx
    isplitl [Hb]; · iexact Hb
    iexact Hv
  iintro ⟨H, -⟩
  iapply Hk $$ H

theorem half_start {Q : α → sProp 𝕄} {X : Dev nD → Vec F S8192x2048 .f32} {d : Dev nD} {r : ℕ} {off3 offz ix iz hsrc hdst hsem} (ho : off3 = ![d.val, r, 0]) (hz : offz = ![0, 0]) :
    iprop(rvPts X c d.val r 1024 ∗ bFree c 1024)
      ⊢ iprop((halfFly X c d r -∗ wpc c (k ⟨⟩) Q)
        -∗ wpc c (.op (.enqueueDma ((rvM.slice (Rect.unit (s := S4x2048x2048) off3 S1x1024x2048.size ix) (fun _ => rfl)).squeeze S1024x2048 squeezes_S1x1024x2048_S1024x2048)
          (.here (bM.slice (Rect.unit (s := S2048x2048) offz S1024x2048.size iz) (fun _ => rfl)))
          (.dma (cc0_scratch6 : DmaSems sig S_).sem) hsrc hdst hsem) k) Q) := by
  unfold halfFly rvPts
  iintro ⟨Hx, Hb, Hv⟩ Hk
  iapply (copy_start (c := (c : Thread nD τ)) (sh := fullShare) (S := rslab d.val r 1024) (T := rslab d.val r 1024) (D := brows 1024) (f := rvC X c)
    (left (X d) (blk c 0 + r)) () _
    sem_b rfl (by decide) ((View.set_reshape _ _).trans ((View.set_slice_whole _ _).trans (unit_slab ho rfl))) (Finset.Subset.refl _)
    ((View.set_slice_whole _ _).trans (unit_rows hz rfl)) (half_reads X ho rfl hz)) $$ [Hx Hb Hv]
  · isplitl [Hx]; · iexact Hx
    isplitl [Hb]; · iexact Hb
    iexact Hv
  iintro ⟨H, -⟩
  iapply Hk $$ H

end Locals

end Cert.KernelIdeal.Run

end
-- ==== Proof.IdealParts.lean ====
/- The first half of the kernel's body: the handshake, and the four casts with the messages sent between them. -/
module

public import proofs.«01_k».proof.Proof.IdealMove

@[expose] public section

noncomputable section

namespace Cert.KernelIdeal.Run

open Cert.KernelIdeal Cert.KernelIdeal.Gen Cert.Copies
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Where the copies outside the loops start -/

section Offsets
variable (c : Dev nD)

theorem off1_1 : k0_off1 c 1#32 0#32 = ![blk c 1, 0] := by revert c; decide +kernel
theorem off1_3 : k0_off1 c 3#32 0#32 = ![blk c 3, 0] := by revert c; decide +kernel
theorem off1_2 : k0_off1 c 2#32 0#32 = ![blk c 2, 0] := by revert c; decide +kernel
theorem off35_0 : k0_off35 c 0#32 = ![blk c 0, 0] := by revert c; decide +kernel
theorem off12_0 : k0_off12 c = ![c.val] := by revert c; decide +kernel
theorem off13_0 : k0_off13 c = ![c.val, 0, 0] := by revert c; decide +kernel
theorem off14_1 : k0_off14 c 1#32 = ![blk c 1, 0] := by revert c; decide +kernel
theorem off14_3 : k0_off14 c 3#32 = ![blk c 3, 0] := by revert c; decide +kernel
theorem off46_0 : k0_off46 c = ![blk c 0, 0] := by revert c; decide +kernel
theorem off47_0 : k0_off47 c = ![blk c 0, 0] := by revert c; decide +kernel
theorem off56_0 : k0_off56 c = ![c.val, 0, 0] := by revert c; decide +kernel
theorem off57_0 : k0_off57 c 0#32 = ![blk c 2, 0] := by revert c; decide +kernel
theorem off57_1 : k0_off57 c 1024#32 = ![blk c 2 + 1024, 0] := by revert c; decide +kernel
theorem off58_0 : k0_off58 c = ![c.val, 1024, 0] := by revert c; decide +kernel
theorem off59_1 : k0_off59 c 1#32 = ![(hop 1 c).val] := by revert c; decide +kernel
theorem off59_2 : k0_off59 c 2#32 = ![(hop 2 c).val] := by revert c; decide +kernel
theorem off59_3 : k0_off59 c 3#32 = ![(hop 3 c).val] := by revert c; decide +kernel
theorem off60_1 : k0_off60 c 1#32 = ![(hop 1 c).val, 0, 0] := by revert c; decide +kernel
theorem off60_3 : k0_off60 c 3#32 = ![(hop 3 c).val, 0, 0] := by revert c; decide +kernel
theorem off61_1 : k0_off61 c 1#32 = ![blk c 1, 0] := by revert c; decide +kernel
theorem off61_2 : k0_off61 c 2#32 = ![blk c 2, 0] := by revert c; decide +kernel
theorem off61_3 : k0_off61 c 3#32 = ![blk c 3, 0] := by revert c; decide +kernel
theorem off78_0 : k0_off78 c = ![(hop 2 c).val, 0, 0] := by revert c; decide +kernel
theorem off87_0 : k0_off87 c = ![(hop 2 c).val, 1024, 0] := by revert c; decide +kernel

end Offsets

section Parts
variable {X : Dev nD → Vec F S8192x2048 .f32} {K : Dev nD × Fin 10 → ℕ} {c : Dev nD} {W : Vec F S8192x4096 .f32} {f : Vec F S2048x4096 .f32}

theorem worth_whole (c : Dev nD) {n : ℕ} (h : n = 8 ∨ n = 10) : worth c n = Nfull := if_neg (by omega)
theorem worth_part (c : Dev nD) {n : ℕ} (h : n = 9 ∨ n = 11 ∨ n = 16) : worth c n = Nhalf := if_pos (by omega)

/-- A whole block sent to the device `j` on. -/
theorem send_full {O : CellTallies nD τ sig Unit} {j n : ℕ} {d' : Dev nD} {off : Fin 2 → ℕ} {off3 : Fin 3 → ℕ} {offr : Fin 1 → ℕ} {q : DmaSem sig} {ix iz ir hsc hsrc hdst hsem}
    {α : Type} {k : PUnit → Prog (TpuEff nD τ sig (Elt F) Λ₀ .tc) α} {Q : α → sProp 𝕄}
    (hd : d' = hop j c) (ho : off = ![blk c j, 0]) (hz : off3 = ![c.val, 0, 0]) (hr : offr = ![c.val]) (hq : q = semN n) (hn : 8 ≤ n ∧ n < 12)
    (hj : j % 4 = 1 ∨ j % 4 = 3) (hw : worth c n = Nfull) (hp : carry X c n = xsPts X c (blk c j) 2048) :
    iprop(records X K ∗ debt c (O + tallyAt (dcell (hop j c) (12 + c.val)) () Nfull) ∗ tokD c n ∗ tokD (hop j c) (12 + c.val)
        ∗ slotFor (F := F) (hop j c) c ∗ xsPts X c (blk c j) 2048)
      ⊢ iprop(((debt c O ∗ due c n) -∗ wpc c (k ⟨⟩) Q)
        -∗ wpc c (.op (.enqueueDma (xsM.slice (Rect.unit (s := S8192x2048) off S2048x2048.size ix) (fun _ => rfl))
          (.remote (Dev.tc d') ((rvM.slice (Rect.unit (s := S4x2048x2048) off3 S1x2048x2048.size iz) (fun _ => rfl)).squeeze S2048x2048 squeezes_S1x2048x2048_S2048x2048)
            (.dma q) hsc)
          (.dma ((cc0_scratch9.slice (Rect.unit (s := S5) offr S1.size ir)).squeeze S_ squeezes_S1_S_).sem) hsrc hdst hsem) k) Q) := by
  have hc4 : c.val < 4 := c.isLt
  have hv := hop_val j c
  have hv2 := hop_val 2 (hop j c)
  have hs : c.val ≠ (hop 2 (hop j c)).val := by rw [hv2, hv]; omega
  unfold slotFor xsPts
  iintro ⟨#HR, HO, Ht, Ht', Hs, Hx⟩ Hk
  iapply (send_step (X := X) (K := K) (c := c) (d := hop j c) (O := O) (N := Nfull) (n := n) (n' := 12 + c.val)
    (src := xsM.slice (Rect.unit (s := S8192x2048) off S2048x2048.size ix) (fun _ => rfl))
    (dst := (rvM.slice (Rect.unit (s := S4x2048x2048) off3 S1x2048x2048.size iz) (fun _ => rfl)).squeeze S2048x2048 squeezes_S1x2048x2048_S2048x2048) (fs := castX (X c)) (gd := rvC X (hop j c))
    (S := rows (blk c j) 2048) (D := rslab c.val 0 2048) hd hq (sem_recv hr) ⟨hn.1, by omega⟩ ⟨by omega, by omega⟩
    ⟨hn.1, by omega⟩ ⟨by omega, by omega⟩ rfl hw (worth_full (hop j c) hc4 hs)
    ((View.set_slice_whole _ _).trans (unit_rows ho rfl)) ((View.set_reshape _ _).trans ((View.set_slice_whole _ _).trans (unit_slab hz rfl)))
    hp (carry_full X (hop j c) hc4 hs) (full_lands X ho hz (by rw [blk_hop, Nat.zero_add]))) $$ [HO Ht Ht' Hs Hx]
  · isplitr; · iexact HR
    isplitl [HO]; · iexact HO
    isplitl [Ht]; · iexact Ht
    isplitl [Ht']; · iexact Ht'
    isplitl [Hx]; · iexact Hx
    iexact Hs
  iexact Hk

/-- Half a block sent to the device two on. -/
theorem send_half {O : CellTallies nD τ sig Unit} {r n n' : ℕ} {d' : Dev nD} {off : Fin 2 → ℕ} {off3 : Fin 3 → ℕ} {q q' : DmaSem sig} {ix iz hsc hsrc hdst hsem}
    {α : Type} {k : PUnit → Prog (TpuEff nD τ sig (Elt F) Λ₀ .tc) α} {Q : α → sProp 𝕄}
    (hd : d' = hop 2 c) (ho : off = ![blk c 2 + r, 0]) (hz : off3 = ![c.val, r, 0]) (hq : q = semN n) (hq' : q' = semN n') (hn : 8 ≤ n ∧ n < 12)
    (hn' : 12 ≤ n' ∧ n' < 17) (hc' : n' ≠ 12 + (hop 2 c).val) (hw : worth c n = Nhalf) (hw' : worth (hop 2 c) n' = Nhalf)
    (hp : carry X c n = xsPts X c (blk c 2 + r) 1024) (hp' : carry X (hop 2 c) n' = rvPts X (hop 2 c) c.val r 1024) :
    iprop(records X K ∗ debt c (O + tallyAt (dcell (hop 2 c) n') () Nhalf) ∗ tokD c n ∗ tokD (hop 2 c) n'
        ∗ (∃ g : Buf (Elt F) (rvL (hop 2 c)), rvL (hop 2 c) ↦[rslab c.val r 1024]{fullShare} g) ∗ xsPts X c (blk c 2 + r) 1024)
      ⊢ iprop(((debt c O ∗ due c n) -∗ wpc c (k ⟨⟩) Q)
        -∗ wpc c (.op (.enqueueDma (xsM.slice (Rect.unit (s := S8192x2048) off S1024x2048.size ix) (fun _ => rfl))
          (.remote (Dev.tc d') ((rvM.slice (Rect.unit (s := S4x2048x2048) off3 S1x1024x2048.size iz) (fun _ => rfl)).squeeze S1024x2048 squeezes_S1x1024x2048_S1024x2048)
            (.dma q) hsc)
          (.dma q') hsrc hdst hsem) k) Q) := by
  have hc4 : c.val < 4 := c.isLt
  unfold xsPts
  iintro ⟨#HR, HO, Ht, Ht', Hs, Hx⟩ Hk
  iapply (send_step (X := X) (K := K) (c := c) (d := hop 2 c) (O := O) (N := Nhalf) (n := n) (n' := n')
    (src := xsM.slice (Rect.unit (s := S8192x2048) off S1024x2048.size ix) (fun _ => rfl))
    (dst := (rvM.slice (Rect.unit (s := S4x2048x2048) off3 S1x1024x2048.size iz) (fun _ => rfl)).squeeze S1024x2048 squeezes_S1x1024x2048_S1024x2048) (fs := castX (X c)) (gd := rvC X (hop 2 c))
    (S := rows (blk c 2 + r) 1024) (D := rslab c.val r 1024) hd hq hq' ⟨hn.1, by omega⟩ ⟨by omega, hn'.2⟩
    ⟨hn.1, by omega⟩ ⟨by omega, hc'⟩ rfl hw hw'
    ((View.set_slice_whole _ _).trans (unit_rows ho rfl)) ((View.set_reshape _ _).trans ((View.set_slice_whole _ _).trans (unit_slab hz rfl)))
    hp hp' (half_lands X ho hz (by rw [blk_hop]))) $$ [HO Ht Ht' Hs Hx]
  · isplitr; · iexact HR
    isplitl [HO]; · iexact HO
    isplitl [Ht]; · iexact Ht
    isplitl [Ht']; · iexact Ht'
    isplitl [Hx]; · iexact Hx
    iexact Hs
  iexact Hk

theorem xs_all {lo : ℕ} : (xsL c ↦[rows lo (1792 + 256)]{fullShare} castX (X c) : sProp 𝕄) ⊢ xsPts X c lo 2048 := Entails.of_eq rfl

/-- The two signals to the next devices. -/
theorem part2_step (v2 : BitVec 32) {β : Type}
    {kk : (Σ' (v36 : Sems sig S_) (v65 : BitVec 32) (v66 : BitVec 32) (v67 : BitVec 1), BitVec 32) → Prog (TpuEff nD τ sig (Elt F) Λ₀ .tc) β} {Q : β → sProp 𝕄} :
    iprop(records X K ∗ debt c (O₀ c) ∗ tokB (hop 1 c) c ∗ slotFor (F := F) c (hop 1 c) ∗ tokB (hop 2 c) c ∗ slotFor (F := F) c (hop 2 c))
      ⊢ iprop((debt c (oweB c) -∗ ∀ v65, ∀ v66, ∀ v67, ∀ c0, wpc c (kk ⟨SemArray.scalar (sig.barrier 0 rfl), v65, v66, v67, c0⟩) Q)
        -∗ wpc c (k0_part2 xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v2 >>= kk) Q) := by
  rw [k0_part2_eq_skeleton]
  unfold k0_part2_skel
  simp only [semSignalWord, Prog.lift, Prog.bind_op, Prog.bind_ret, Prog.pure_eq_ret, Prog.bind_assoc]
  unfold O₀ oweA
  iintro ⟨#HR, HO, Ht1, Hs1, Ht2, Hs2⟩ Hk
  iapply (signal_step (X := X) (K := K) (c := c) (O := oweB c + tallyAt (bcell (hop 2 c)) () 1) (dev1_eq c) (fun h => hop_ne_self c 1 (by decide) (congrArg Fin.val h).symm) rfl) $$ [HO Ht1 Hs1]
  · isplitr; · iexact HR
    isplitl [HO]; · iexact HO
    isplitl [Ht1]; · iexact Ht1
    iexact Hs1
  iintro HO
  iapply (signal_step (X := X) (K := K) (c := c) (O := oweB c) (dev2_eq c) (fun h => hop_ne_self c 2 (by decide) (congrArg Fin.val h).symm) rfl) $$ [HO Ht2 Hs2]
  · isplitr; · iexact HR
    isplitl [HO]; · iexact HO
    isplitl [Ht2]; · iexact Ht2
    iexact Hs2
  iintro HO
  iapply Hk $$ HO

/-- The third signal, the barrier, the first cast and its first write-back waited for. -/
theorem part3_step (v13 : BitVec 32) (v65 v66 : BitVec 32) (v67 : BitVec 1) (c0 : BitVec 32) :
    iprop(records X K ∗ levAts L lv ∗ debt c (oweB c) ∗ tokB (hop 3 c) c ∗ slotFor (F := F) c (hop 3 c) ∗ cred (tallyAt (bcell c) () 3) ∗ fresh (bcell c)
        ∗ inFree c (X c) 0 ∗ inFree c (X c) 1 ∗ outFree c 0 ∗ outFree c 1 ∗ (∃ g : Buf (Elt F) (xsL c), xsL c ↦[rows (blk c 1) 2048]{fullShare} g))
      ⊢ wpc c (k0_part3 xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v13 (SemArray.scalar (sig.barrier 0 rfl)) v65 v66 v67 c0)
      (fun _ => iprop(debt c (owe c 0) ∗ semVal (bcell c) 0 ∗ slotFor (F := F) (hop 1 c) c ∗ slotFor (F := F) (hop 2 c) c ∗ slotFor (F := F) (hop 3 c) c
        ∗ inFree c (X c) 0 ∗ inFree c (X c) 1 ∗ outFree c 0 ∗ outFly c (X c) (blk c 1 + 1792) 1 ∗ (xsL c ↦[rows (blk c 1) 1792]{fullShare} castX (X c)))) := by
  rw [k0_part3_eq_skeleton]
  unfold k0_part3_skel
  simp only [semSignalWord, semWaitWord, Prog.lift, Prog.bind_op, Prog.bind_ret, Prog.pure_eq_ret, Prog.bind_assoc]
  unfold oweB
  iintro ⟨#HR, #HL, HO, Ht, Hs, Hc, Hat, Hi, Hi', Ho, Ho', Hx⟩
  iapply (signal_step (X := X) (K := K) (c := c) (O := owe c 0) (dev3_eq c) (fun h => hop_ne_self c 3 (by decide) (congrArg Fin.val h).symm) rfl) $$ [HO Ht Hs]
  · isplitr; · iexact HR
    isplitl [HO]; · iexact HO
    isplitl [Ht]; · iexact Ht
    iexact Hs
  iintro HO
  iapply (barrier_step (X := X) (K := K) (c := c) (O := owe c 0) rfl (mayWait_bar c)) $$ [HO Hc Hat]
  · isplitr; · iexact HR
    isplitr; · iexact HL
    isplitl [HO]; · iexact HO
    isplitl [Hc]; · iexact Hc
    iexact Hat
  iintro ⟨HO, Hz, Hs1, Hs2, Hs3⟩
  iapply (chunk_start (c := c) rfl rfl (off1_1 c)) $$ Hi
  iintro Hi
  ihave HI := (castInv_start (P := levAts L lv) (c := c) (O := owe c 0) (Y := X c) (lo := blk c 1)) $$ [HO Hi Hi' Ho Ho' Hx]
  · isplitr; · iexact HL
    isplitl [HO]; · iexact HO
    isplitl [Hi]; · iexact Hi
    isplitl [Hi']; · iexact Hi'
    isplitl [Ho]; · iexact Ho
    isplitl [Ho']; · iexact Ho'
    iexact Hx
  iapply (loop_run (c := c) (n := 8) (by decide) (castInv (levAts L lv) c (owe c 0) (X c) (blk c 1))
    (t1_step (fun n hn => mayWait_local c 0 (by omega)) v13 _ v65 v66 v67 c0)) $$ HI
  iintro HI
  ihave HI := castInv_end $$ HI
  unfold castDone
  icases HI with ⟨HO, Hi, Hi', Ho, Ho', Hx⟩
  iapply (out_wait (P := levAts L lv) (n := 1536) rfl (by decide) (fun n hn => mayWait_local c 0 hn)) $$ [HO Ho Hx]
  · isplitr; · iexact HL
    isplitl [HO]; · iexact HO
    isplitl [Ho]; · iexact Ho
    iexact Hx
  iintro ⟨HO, Ho, Hx⟩
  iapply le_wp_ret
  isplitl [HO]; · iexact HO
  isplitl [Hz]; · iexact Hz
  isplitl [Hs1]; · iexact Hs1
  isplitl [Hs2]; · iexact Hs2
  isplitl [Hs3]; · iexact Hs3
  isplitl [Hi]; · iexact Hi
  isplitl [Hi']; · iexact Hi'
  isplitl [Ho]; · iexact Ho
  isplitl [Ho']; · iexact Ho'
  iexact Hx

/-- The last write-back of the first cast waited for, the block sent one on, and the second cast. -/
theorem part4_step (v13 v35 : BitVec 32) :
    iprop(records X K ∗ levAts L lv ∗ debt c (owe c 0) ∗ outFly c (X c) (blk c 1 + 1792) 1 ∗ (xsL c ↦[rows (blk c 1) 1792]{fullShare} castX (X c))
        ∗ inFree c (X c) 0 ∗ inFree c (X c) 1 ∗ outFree c 0 ∗ slotFor (F := F) (hop 1 c) c ∗ tokD c 8 ∗ tokD (hop 1 c) (12 + c.val)
        ∗ (∃ g : Buf (Elt F) (xsL c), xsL c ↦[rows (blk c 3) 2048]{fullShare} g))
      ⊢ wpc c (k0_part4 xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v13 v35)
      (fun _ => iprop(due c 8 ∗ castDone c (owe c 1) (X c) (blk c 3))) := by
  rw [k0_part4_eq_skeleton]
  unfold k0_part4_skel
  simp only [Prog.lift, Prog.bind_op, Prog.bind_ret, Prog.pure_eq_ret, Prog.bind_assoc]
  iintro ⟨#HR, #HL, HO, Ho', Hx, Hi, Hi', Ho, Hs, Ht, Ht', Hg⟩
  iapply (out_wait (P := levAts L lv) (n := 1792) rfl (by decide) (fun n hn => mayWait_local c 0 hn)) $$ [HO Ho' Hx]
  · isplitr; · iexact HL
    isplitl [HO]; · iexact HO
    isplitl [Ho']; · iexact Ho'
    iexact Hx
  iintro ⟨HO, Ho', Hx⟩
  ihave Hx := (xs_all (X := X) (c := c)) $$ Hx
  ihave HO := (Entails.of_eq (congrArg (fun O => debt (F := F) c O) (owe_0 c))) $$ HO
  iapply (send_full (X := X) (K := K) (c := c) (O := owe c 1) (j := 1) (n := 8) (dev4_eq c) (off14_1 c) (off13_0 c) (off12_0 c) (sem_send rfl) (by decide)
    (by decide) (worth_whole c (by decide)) (carry_8 X c)) $$ [HO Ht Ht' Hs Hx]
  · isplitr; · iexact HR
    isplitl [HO]; · iexact HO
    isplitl [Ht]; · iexact Ht
    isplitl [Ht']; · iexact Ht'
    isplitl [Hs]; · iexact Hs
    iexact Hx
  iintro ⟨HO, Hdue⟩
  irename Hg => Hx
  iapply (chunk_start (c := c) rfl rfl (off1_3 c)) $$ Hi
  iintro Hi
  ihave HI := (castInv_start (P := levAts L lv) (c := c) (O := owe c 1) (Y := X c) (lo := blk c 3)) $$ [HO Hi Hi' Ho Ho' Hx]
  · isplitr; · iexact HL
    isplitl [HO]; · iexact HO
    isplitl [Hi]; · iexact Hi
    isplitl [Hi']; · iexact Hi'
    isplitl [Ho]; · iexact Ho
    isplitl [Ho']; · iexact Ho'
    iexact Hx
  iapply (loop_run (c := c) (n := 8) (by decide) (castInv (levAts L lv) c (owe c 1) (X c) (blk c 3))
    (t2_step (fun n hn => mayWait_local c 1 (by omega)) v13 v35)) $$ HI
  iintro HI
  ihave HI := castInv_end $$ HI
  iapply le_wp_ret
  isplitl [Hdue]; · iexact Hdue
  iexact HI

/-- The second cast's write-backs waited for, the block sent three on, and the third cast. -/
theorem part5_step (v24 v35 : BitVec 32) {β : Type} {kk : BitVec 32 → Prog (TpuEff nD τ sig (Elt F) Λ₀ .tc) β} {Q : β → sProp 𝕄} :
    iprop(records X K ∗ levAts L lv ∗ castDone c (owe c 1) (X c) (blk c 3) ∗ slotFor (F := F) (hop 3 c) c ∗ tokD c 10 ∗ tokD (hop 3 c) (12 + c.val)
        ∗ (∃ g : Buf (Elt F) (xsL c), xsL c ↦[rows (blk c 2) 2048]{fullShare} g))
      ⊢ iprop(((due c 10 ∗ castDone c (owe c 2) (X c) (blk c 2)) -∗ ∀ v, wpc c (kk v) Q)
        -∗ wpc c (k0_part5 xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v24 v35 >>= kk) Q) := by
  rw [k0_part5_eq_skeleton]
  unfold k0_part5_skel
  simp only [Prog.lift, Prog.bind_op, Prog.bind_ret, Prog.pure_eq_ret, Prog.bind_assoc]
  unfold castDone
  iintro ⟨#HR, #HL, ⟨HO, Hi, Hi', Ho, Ho', Hx⟩, Hs, Ht, Ht', Hg⟩ Hk
  iapply (out_wait (P := levAts L lv) (n := 1536) rfl (by decide) (fun n hn => mayWait_local c 1 hn)) $$ [HO Ho Hx]
  · isplitr; · iexact HL
    isplitl [HO]; · iexact HO
    isplitl [Ho]; · iexact Ho
    iexact Hx
  iintro ⟨HO, Ho, Hx⟩
  iapply (out_wait (P := levAts L lv) (n := 1792) rfl (by decide) (fun n hn => mayWait_local c 1 hn)) $$ [HO Ho' Hx]
  · isplitr; · iexact HL
    isplitl [HO]; · iexact HO
    isplitl [Ho']; · iexact Ho'
    iexact Hx
  iintro ⟨HO, Ho', Hx⟩
  ihave Hx := (xs_all (X := X) (c := c)) $$ Hx
  ihave HO := (Entails.of_eq (congrArg (fun O => debt (F := F) c O) (owe_1 c))) $$ HO
  iapply (send_full (X := X) (K := K) (c := c) (O := owe c 2) (j := 3) (n := 10) (dev5_eq c) (off14_3 c) (off13_0 c) (off12_0 c) (sem_send rfl) (by decide)
    (by decide) (worth_whole c (by decide)) (carry_10 X c)) $$ [HO Ht Ht' Hs Hx]
  · isplitr; · iexact HR
    isplitl [HO]; · iexact HO
    isplitl [Ht]; · iexact Ht
    isplitl [Ht']; · iexact Ht'
    isplitl [Hs]; · iexact Hs
    iexact Hx
  iintro ⟨HO, Hdue⟩
  irename Hg => Hx
  iapply (chunk_start (c := c) rfl rfl (off1_2 c)) $$ Hi
  iintro Hi
  ihave HI := (castInv_start (P := levAts L lv) (c := c) (O := owe c 2) (Y := X c) (lo := blk c 2)) $$ [HO Hi Hi' Ho Ho' Hx]
  · isplitr; · iexact HL
    isplitl [HO]; · iexact HO
    isplitl [Hi]; · iexact Hi
    isplitl [Hi']; · iexact Hi'
    isplitl [Ho]; · iexact Ho
    isplitl [Ho']; · iexact Ho'
    iexact Hx
  iapply (loop_run (c := c) (n := 8) (by decide) (castInv (levAts L lv) c (owe c 2) (X c) (blk c 2))
    (t3_step (fun n hn => mayWait_local c 2 (by omega)) v24 v35)) $$ HI
  iintro HI
  ihave HI := castInv_end $$ HI
  unfold castDone
  iapply Hk $$ [Hdue HI]
  isplitl [Hdue]; · iexact Hdue
  iexact HI

/-- The third cast's write-backs waited for, and the fourth cast. -/
theorem part6_step (v2 v24 v : BitVec 32) :
    iprop(levAts L lv ∗ castDone c (owe c 2) (X c) (blk c 2) ∗ (∃ g : Buf (Elt F) (xsL c), xsL c ↦[rows (blk c 0) 2048]{fullShare} g))
      ⊢ wpc c (k0_part6 xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v2 v24 v)
      (fun _ => iprop(xsPts X c (blk c 2) 2048 ∗ castDone c (owe c 2) (X c) (blk c 0))) := by
  rw [k0_part6_eq_skeleton]
  unfold k0_part6_skel
  simp only [Prog.lift, Prog.bind_op, Prog.bind_ret, Prog.pure_eq_ret, Prog.bind_assoc]
  unfold castDone xsPts
  iintro ⟨#HL, ⟨HO, Hi, Hi', Ho, Ho', Hx⟩, Hg⟩
  iapply (out_wait (P := levAts L lv) (n := 1536) rfl (by decide) (fun n hn => mayWait_local c 2 hn)) $$ [HO Ho Hx]
  · isplitr; · iexact HL
    isplitl [HO]; · iexact HO
    isplitl [Ho]; · iexact Ho
    iexact Hx
  iintro ⟨HO, Ho, Hx⟩
  iapply (out_wait (P := levAts L lv) (n := 1792) rfl (by decide) (fun n hn => mayWait_local c 2 hn)) $$ [HO Ho' Hx]
  · isplitr; · iexact HL
    isplitl [HO]; · iexact HO
    isplitl [Ho']; · iexact Ho'
    iexact Hx
  iintro ⟨HO, Ho', Hx⟩
  irename Hx => Hdone
  irename Hg => Hx
  iapply (chunk_start (c := c) rfl rfl (off35_0 c)) $$ Hi
  iintro Hi
  ihave HI := (castInv_start (P := levAts L lv) (c := c) (O := owe c 2) (Y := X c) (lo := blk c 0)) $$ [HO Hi Hi' Ho Ho' Hx]
  · isplitr; · iexact HL
    isplitl [HO]; · iexact HO
    isplitl [Hi]; · iexact Hi
    isplitl [Hi']; · iexact Hi'
    isplitl [Ho]; · iexact Ho
    isplitl [Ho']; · iexact Ho'
    iexact Hx
  iapply (loop_run (c := c) (n := 8) (by decide) (castInv (levAts L lv) c (owe c 2) (X c) (blk c 0))
    (t4_step (fun n hn => mayWait_local c 2 (by omega)) v2 v24 v)) $$ HI
  iintro HI
  ihave HI := castInv_end $$ HI
  unfold castDone
  iapply le_wp_ret
  isplitl [Hdone]; · iexact Hdone
  iexact HI

end Parts

end Cert.KernelIdeal.Run

end
-- ==== Proof.IdealBlocks.lean ====
/- The second half of the kernel's body: the own block's product, and the products of the blocks received. -/
module

public import proofs.«01_k».proof.Proof.IdealParts

@[expose] public section

noncomputable section

namespace Cert.KernelIdeal.Run

open Cert.KernelIdeal Cert.KernelIdeal.Gen Cert.Copies
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem whole_tile : (oM.access (Rect.unit (s := S2048x4096) ![0, 0] S2048x4096.size inb_S2048x4096_S2048x4096_0_0)).set = (otile 0 2048 0 4096 : Finset S2048x4096.Idx) :=
  (View.set_slice_whole _ _).trans (unit_tile rfl rfl)

theorem clear_reads (x) : (k0_pay5 (F := F)) x
    = (oM.access (Rect.unit (s := S2048x4096) ![0, 0] S2048x4096.size inb_S2048x4096_S2048x4096_0_0)).read (Elt F) (k0_pay5 (F := F)) x := rfl

/-- Once every message is sent any wait is allowed. -/
theorem mayWait_paid (c : Dev nD) (sm : SemLoc sig) : (levAts L lv : sProp 𝕄) ⊢ MayWait (c : Thread nD τ) sm () (owe c 4) := by
  rw [owe_4, MayWait_zero]
  iintro -
  iempintro

section Parts
variable {X : Dev nD → Vec F S8192x2048 .f32} {K : Dev nD × Fin 10 → ℕ} {c : Dev nD} {W : Vec F S8192x4096 .f32} {f : Vec F S2048x4096 .f32}

/-- A whole block's send is waited for: the rows sent come back. -/
theorem sent_full {O : CellTallies nD τ sig Unit} {n : ℕ} {q : DmaSem sig} {sp' : Space} {s' : Shape} {e' : EltTy} {off} {ix}
    {srcw : Memref sig (c : Thread nD τ).2.kind sp' s' e'} {hsrc : srcw.view.WordExact} {hdst} {α : Type} {D P : sProp 𝕄}
    {k : PUnit → Prog (TpuEff nD τ sig (Elt F) Λ₀ .tc) α} {Q : α → sProp 𝕄}
    (hq : q = semN n) (hn : 8 ≤ n ∧ n < 17) (hc : n ≠ 12 + c.val) (hw : worth c n = Nfull) (hD : carry X c n = D)
    (hmw : P ⊢ MayWait (c : Thread nD τ) (.dma (semN n)) () O) :
    iprop(records X K ∗ P ∗ debt c O ∗ due c n ∗ fresh (dcell c n))
      ⊢ iprop(((debt c O ∗ sv c n ∗ D) -∗ wpc c (k ⟨⟩) Q) -∗ wpc c (.op (.waitDma2 q srcw
        (xsM.slice (Rect.unit (s := S8192x2048) off S2048x2048.size ix) (fun _ => rfl)) hsrc hdst) k) Q) :=
  arrive_step (dstw := (xsM.slice (Rect.unit (s := S8192x2048) off S2048x2048.size ix) (fun _ => rfl))) hq hn ⟨hn.1, hc⟩ hw.symm hD hmw

/-- Half a block's send is waited for: the rows sent come back. -/
theorem sent_half {O : CellTallies nD τ sig Unit} {n : ℕ} {q : DmaSem sig} {sp' : Space} {s' : Shape} {e' : EltTy} {off} {ix}
    {srcw : Memref sig (c : Thread nD τ).2.kind sp' s' e'} {hsrc : srcw.view.WordExact} {hdst} {α : Type} {D P : sProp 𝕄}
    {k : PUnit → Prog (TpuEff nD τ sig (Elt F) Λ₀ .tc) α} {Q : α → sProp 𝕄}
    (hq : q = semN n) (hn : 8 ≤ n ∧ n < 17) (hc : n ≠ 12 + c.val) (hw : worth c n = Nhalf) (hD : carry X c n = D)
    (hmw : P ⊢ MayWait (c : Thread nD τ) (.dma (semN n)) () O) :
    iprop(records X K ∗ P ∗ debt c O ∗ due c n ∗ fresh (dcell c n))
      ⊢ iprop(((debt c O ∗ sv c n ∗ D) -∗ wpc c (k ⟨⟩) Q) -∗ wpc c (.op (.waitDma2 q srcw
        (xsM.slice (Rect.unit (s := S8192x2048) off S1024x2048.size ix) (fun _ => rfl)) hsrc hdst) k) Q) :=
  arrive_step (dstw := (xsM.slice (Rect.unit (s := S8192x2048) off S1024x2048.size ix) (fun _ => rfl))) hq hn ⟨hn.1, hc⟩ hw.symm hD hmw

/-- A whole block is received. -/
theorem recv_full {O : CellTallies nD τ sig Unit} {n : ℕ} {q : DmaSem sig} {sp' : Space} {s' : Shape} {e' : EltTy} {off} {ix}
    {srcw : Memref sig (c : Thread nD τ).2.kind sp' s' e'} {hsrc : srcw.view.WordExact} {hdst} {α : Type} {D P : sProp 𝕄}
    {k : PUnit → Prog (TpuEff nD τ sig (Elt F) Λ₀ .tc) α} {Q : α → sProp 𝕄}
    (hq : q = semN n) (hn : 8 ≤ n ∧ n < 17) (hc : n ≠ 12 + c.val) (hw : worth c n = Nfull) (hD : carry X c n = D)
    (hmw : P ⊢ MayWait (c : Thread nD τ) (.dma (semN n)) () O) :
    iprop(records X K ∗ P ∗ debt c O ∗ due c n ∗ fresh (dcell c n))
      ⊢ iprop(((debt c O ∗ sv c n ∗ D) -∗ wpc c (k ⟨⟩) Q) -∗ wpc c (.op (.waitDma2 q srcw
        ((rvM.slice (Rect.unit (s := S4x2048x2048) off S1x2048x2048.size ix) (fun _ => rfl)).squeeze S2048x2048 squeezes_S1x2048x2048_S2048x2048) hsrc hdst) k) Q) :=
  arrive_step (dstw := ((rvM.slice (Rect.unit (s := S4x2048x2048) off S1x2048x2048.size ix) (fun _ => rfl)).squeeze S2048x2048 squeezes_S1x2048x2048_S2048x2048)) hq hn ⟨hn.1, hc⟩ hw.symm hD hmw

/-- Half a block is received. -/
theorem recv_half {O : CellTallies nD τ sig Unit} {n : ℕ} {q : DmaSem sig} {sp' : Space} {s' : Shape} {e' : EltTy} {off} {ix}
    {srcw : Memref sig (c : Thread nD τ).2.kind sp' s' e'} {hsrc : srcw.view.WordExact} {hdst} {α : Type} {D P : sProp 𝕄}
    {k : PUnit → Prog (TpuEff nD τ sig (Elt F) Λ₀ .tc) α} {Q : α → sProp 𝕄}
    (hq : q = semN n) (hn : 8 ≤ n ∧ n < 17) (hc : n ≠ 12 + c.val) (hw : worth c n = Nhalf) (hD : carry X c n = D)
    (hmw : P ⊢ MayWait (c : Thread nD τ) (.dma (semN n)) () O) :
    iprop(records X K ∗ P ∗ debt c O ∗ due c n ∗ fresh (dcell c n))
      ⊢ iprop(((debt c O ∗ sv c n ∗ D) -∗ wpc c (k ⟨⟩) Q) -∗ wpc c (.op (.waitDma2 q srcw
        ((rvM.slice (Rect.unit (s := S4x2048x2048) off S1x1024x2048.size ix) (fun _ => rfl)).squeeze S1024x2048 squeezes_S1x1024x2048_S1024x2048) hsrc hdst) k) Q) :=
  arrive_step (dstw := ((rvM.slice (Rect.unit (s := S4x2048x2048) off S1x1024x2048.size ix) (fun _ => rfl)).squeeze S1024x2048 squeezes_S1x1024x2048_S1024x2048)) hq hn ⟨hn.1, hc⟩ hw.symm hD hmw

/-- The last cast's write-backs waited for, the result cleared, and the own block's product. -/
theorem part7_step (v2 : BitVec 32) :
    iprop(levAts L lv ∗ castDone c (owe c 2) (X c) (blk c 0) ∗ (∃ g : Buf (Elt F) (oL c), oL c ↦[otile 0 2048 0 4096]{fullShare} g)
        ∗ bFree (F := F) c 2048 ∗ wFree c W 0 ∗ wFree c W 1)
      ⊢ wpc c (k0_part7 xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v2)
      (fun _ => iprop(debt c (owe c 2) ∗ inFree c (X c) 0 ∗ inFree c (X c) 1 ∗ outFree c 0 ∗ outFree c 1 ∗ xsPts X c (blk c 0) 2048
        ∗ sv (F := F) c 5 ∗ wFree c W 0 ∗ wFree c W 1
        ∗ gemmHas c 2048 (left (X c) (blk c 0)) 0 (gemmOut 2048 k0_pay6 W (left (X c) (blk c 0)) 0 (blk c 0) k0_pay5))) := by
  rw [k0_part7_eq_skeleton]
  unfold k0_part7_skel
  simp only [Prog.lift, Prog.bind_op, Prog.bind_ret, Prog.pure_eq_ret, Prog.bind_assoc]
  unfold castDone xsPts
  iintro ⟨#HL, ⟨HO, Hi, Hi', Ho, Ho', Hx⟩, Hout, ⟨Hb, Hv⟩, Hw, Hw'⟩
  iapply (out_wait (P := levAts L lv) (n := 1536) rfl (by decide) (fun n hn => mayWait_local c 2 hn)) $$ [HO Ho Hx]
  · isplitr; · iexact HL
    isplitl [HO]; · iexact HO
    isplitl [Ho]; · iexact Ho
    iexact Hx
  iintro ⟨HO, Ho, Hx⟩
  iapply (out_wait (P := levAts L lv) (n := 1792) rfl (by decide) (fun n hn => mayWait_local c 2 hn)) $$ [HO Ho' Hx]
  · isplitr; · iexact HL
    isplitl [HO]; · iexact HO
    isplitl [Ho']; · iexact Ho'
    iexact Hx
  iintro ⟨HO, Ho', Hx⟩
  iapply (load_any (c := (c : Thread nD τ)) (Val := Elt F) (m := oM) (r := Rect.unit (s := S2048x4096) ![0, 0] S2048x4096.size inb_S2048x4096_S2048x4096_0_0)
    (D := otile 0 2048 0 4096) whole_tile.subset) $$ Hout
  iintro %w0 Hout
  iapply (store_at (c := (c : Thread nD τ)) (Val := Elt F) (m := oM) (r := Rect.unit (s := S2048x4096) ![0, 0] S2048x4096.size inb_S2048x4096_S2048x4096_0_0)
    (w := k0_pay5) (D := otile 0 2048 0 4096) k0_pay5 whole_tile clear_reads) $$ Hout
  iintro Hout
  iapply (own_start (c := c) (Y := X c) (lo := blk c 0) (off46_0 c) rfl) $$ [Hx Hb Hv]
  · isplitl [Hx]; · iexact Hx
    isplitl [Hb]; · iexact Hb
    iexact Hv
  iintro HF
  iapply (tile_start (c := c) rfl rfl (off47_0 c)) $$ Hw
  iintro Hw
  iapply (copy_wait (c := (c : Thread nD τ)) (P := levAts L lv) (O := owe c 2) sem_b rfl (mayWait_local c 2 (by decide))) $$ [HF HO]
  · isplitl [HF]; · iexact HF
    isplitl [HO]; · iexact HO
    iexact HL
  iintro ⟨⟨Hb, Hx⟩, Hv, HO⟩
  ihave HI := (gemmInv_start (P := levAts L lv) (c := c) (O := owe c 2) (n := 2048) (pay := k0_pay6) (W := W) (A := left (X c) (blk c 0)) (r := 0) (j := blk c 0) (f := k0_pay5)) $$ [HO Hw Hw' Hb Hout]
  · isplitr; · iexact HL
    isplitl [HO]; · iexact HO
    isplitl [Hw]; · iexact Hw
    isplitl [Hw']; · iexact Hw'
    unfold gemmHas
    isplitl [Hb]; · iexact Hb
    iexact Hout
  iapply (loop_run (c := c) (n := 8) (by decide) (gemmInv (levAts L lv) c (owe c 2) 2048 k0_pay6 W (left (X c) (blk c 0)) 0 (blk c 0) k0_pay5)
    (t5_step (fun n hn => mayWait_local c 2 (by omega)) v2)) $$ HI
  iintro HI
  ihave HI := gemmInv_end $$ HI
  unfold gemmHas
  icases HI with ⟨HO, Hw, Hw', Hb, Hout⟩
  iapply le_wp_ret
  isplitl [HO]; · iexact HO
  isplitl [Hi]; · iexact Hi
  isplitl [Hi']; · iexact Hi'
  isplitl [Ho]; · iexact Ho
  isplitl [Ho']; · iexact Ho'
  isplitl [Hx]; · iexact Hx
  isplitl [Hv]; · iexact Hv
  isplitl [Hw]; · iexact Hw
  isplitl [Hw']; · iexact Hw'
  isplitl [Hb]; · iexact Hb
  iexact Hout

/-- The two whole blocks' sends waited for, and the first half of the third block sent. -/
theorem part8_step (v24 : BitVec 32) :
    iprop(records X K ∗ levAts L lv ∗ debt c (owe c 2) ∗ due c 8 ∗ fresh (dcell c 8) ∗ due c 10 ∗ fresh (dcell c 10)
        ∗ tokD c 9 ∗ tokD (hop 2 c) (12 + c.val) ∗ (∃ g : Buf (Elt F) (rvL (hop 2 c)), rvL (hop 2 c) ↦[rslab c.val 0 1024]{fullShare} g)
        ∗ xsPts X c (blk c 2 + 0) 1024)
      ⊢ wpc c (k0_part8 xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v24)
      (fun _ => iprop(debt c (owe c 3) ∗ sv (F := F) c 8 ∗ sv (F := F) c 10 ∗ due c 9 ∗ xsPts X c (blk c 1) 2048 ∗ xsPts X c (blk c 3) 2048)) := by
  rw [k0_part8_eq_skeleton]
  unfold k0_part8_skel
  simp only [Prog.lift, Prog.bind_op, Prog.bind_ret, Prog.pure_eq_ret, Prog.bind_assoc]
  have h2 : (c : Dev nD).val = (hop 2 (hop 2 c)).val := by
    have := hop_val 2 (hop 2 c); have := hop_val 2 c; have : c.val < 4 := c.isLt; omega
  iintro ⟨#HR, #HL, HO, Hd, Hf, Hd', Hf', Ht, Ht', Hs, Hx⟩
  iapply (sent_full (X := X) (K := K) (c := c) (n := 8) (P := levAts L lv) (O := owe c 2) (sem_send rfl) (by decide) (by omega)
    (worth_whole c (by decide)) (carry_8 X c) (mayWait_local c 2 (by decide))) $$ [HO Hd Hf]
  · isplitr; · iexact HR
    isplitr; · iexact HL
    isplitl [HO]; · iexact HO
    isplitl [Hd]; · iexact Hd
    iexact Hf
  iintro ⟨HO, Hv, Hx1⟩
  iapply (sent_full (X := X) (K := K) (c := c) (n := 10) (P := levAts L lv) (O := owe c 2) (sem_send rfl) (by decide) (by omega)
    (worth_whole c (by decide)) (carry_10 X c) (mayWait_local c 2 (by decide))) $$ [HO Hd' Hf']
  · isplitr; · iexact HR
    isplitr; · iexact HL
    isplitl [HO]; · iexact HO
    isplitl [Hd']; · iexact Hd'
    iexact Hf'
  iintro ⟨HO, Hv', Hx3⟩
  ihave HO := (Entails.of_eq (congrArg (fun O => debt (F := F) c O) (owe_2 c))) $$ HO
  iapply (send_half (X := X) (K := K) (c := c) (O := owe c 3) (r := 0) (n := 9) (n' := 12 + c.val) (dev6_eq c) (off57_0 c) (off56_0 c) (sem_send rfl)
    (sem_recv (off12_0 c)) (by decide) ⟨by omega, by have : c.val < 4 := c.isLt; omega⟩ (by have := hop_ne_self c 2 (by decide); omega)
    (worth_part c (by decide)) (h2 ▸ worth_half (hop 2 c)) (carry_9 X c) (h2 ▸ carry_half X (hop 2 c))) $$ [HO Ht Ht' Hs Hx]
  · isplitr; · iexact HR
    isplitl [HO]; · iexact HO
    isplitl [Ht]; · iexact Ht
    isplitl [Ht']; · iexact Ht'
    isplitl [Hs]; · iexact Hs
    iexact Hx
  iintro ⟨HO, Hdue⟩
  iapply le_wp_ret
  isplitl [HO]; · iexact HO
  isplitl [Hv]; · iexact Hv
  isplitl [Hv']; · iexact Hv'
  isplitl [Hdue]; · iexact Hdue
  isplitl [Hx1]; · iexact Hx1
  iexact Hx3

/-- The second half of the third block sent; the block from three on received and multiplied. -/
theorem part9_step (v13 v35 : BitVec 32) :
    iprop(records X K ∗ levAts L lv ∗ debt c (owe c 3) ∗ tokD c 11 ∗ tokD (hop 2 c) 16
        ∗ (∃ g : Buf (Elt F) (rvL (hop 2 c)), rvL (hop 2 c) ↦[rslab c.val 1024 1024]{fullShare} g) ∗ xsPts X c (blk c 2 + 1024) 1024
        ∗ due c (12 + (hop 3 c).val) ∗ fresh (dcell c (12 + (hop 3 c).val)) ∗ bFree (F := F) c 2048 ∗ wFree c W 0 ∗ wFree c W 1
        ∗ (oL c ↦[otile 0 2048 0 4096]{fullShare} f))
      ⊢ wpc c (k0_part9 xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v13 v35)
      (fun _ => iprop(debt c (owe c 4) ∗ due c 11 ∗ sv (F := F) c (12 + (hop 3 c).val) ∗ rvPts X c (hop 3 c).val 0 2048
        ∗ sv (F := F) c 5 ∗ wFree c W 0 ∗ wFree c W 1
        ∗ gemmHas c 2048 (left (X (hop 3 c)) (blk c 0)) 0 (gemmOut 2048 k0_pay7 W (left (X (hop 3 c)) (blk c 0)) 0 (blk c 3) f))) := by
  rw [k0_part9_eq_skeleton]
  unfold k0_part9_skel
  simp only [Prog.lift, Prog.bind_op, Prog.bind_ret, Prog.pure_eq_ret, Prog.bind_assoc]
  have h2 : (c : Dev nD).val = (hop 2 (hop 2 c)).val := by
    have := hop_val 2 (hop 2 c); have := hop_val 2 c; have : c.val < 4 := c.isLt; omega
  iintro ⟨#HR, #HL, HO, Ht, Ht', Hs, Hx, Hd, Hf, ⟨Hb, Hv⟩, Hw, Hw', Hout⟩
  ihave HO := (Entails.of_eq (congrArg (fun O => debt (F := F) c O) ((owe_3 c).trans (congrArg (· + tallyAt (dcell (hop 2 c) 16) () Nhalf) (owe_4 c).symm)))) $$ HO
  iapply (send_half (X := X) (K := K) (c := c) (O := owe c 4) (r := 1024) (n := 11) (n' := 16) (dev7_eq c) (off57_1 c) (off58_0 c) (sem_send rfl)
    (sem_recv rfl) (by decide) (by decide) (by have : (hop 2 c).val < 4 := (hop 2 c).isLt; omega)
    (worth_part c (by decide)) (worth_part (hop 2 c) (by decide)) (carry_11 X c) (h2 ▸ carry_16 X (hop 2 c))) $$ [HO Ht Ht' Hs Hx]
  · isplitr; · iexact HR
    isplitl [HO]; · iexact HO
    isplitl [Ht]; · iexact Ht
    isplitl [Ht']; · iexact Ht'
    isplitl [Hs]; · iexact Hs
    iexact Hx
  iintro ⟨HO, Hdue⟩
  iapply (recv_full (X := X) (K := K) (c := c) (n := 12 + (hop 3 c).val) (P := levAts L lv) (O := owe c 4) (sem_recv (off59_3 c)) (by have : (hop 3 c).val < 4 := (hop 3 c).isLt; omega)
    (by have := hop_ne_self c 3 (by decide); omega) (worth_full c (hop 3 c).isLt (hop_ne c 3 2 (by decide))) (carry_full X c (hop 3 c).isLt (hop_ne c 3 2 (by decide))) (mayWait_paid c (.dma (semN (12 + (hop 3 c).val))))) $$ [HO Hd Hf]
  · isplitr; · iexact HR
    isplitr; · iexact HL
    isplitl [HO]; · iexact HO
    isplitl [Hd]; · iexact Hd
    iexact Hf
  iintro ⟨HO, Hvr, Hr⟩
  iapply (full_start (X := X) (c := c) (d := hop 3 c) (off60_3 c) rfl) $$ [Hr Hb Hv]
  · isplitl [Hr]; · iexact Hr
    isplitl [Hb]; · iexact Hb
    iexact Hv
  iintro HF
  iapply (tile_start (c := c) rfl rfl (off61_3 c)) $$ Hw
  iintro Hw
  iapply (copy_wait (c := (c : Thread nD τ)) (P := levAts L lv) (O := owe c 4) sem_b rfl (mayWait_local c 4 (by decide))) $$ [HF HO]
  · isplitl [HF]; · iexact HF
    isplitl [HO]; · iexact HO
    iexact HL
  iintro ⟨⟨Hb, Hr⟩, Hv, HO⟩
  ihave HI := (gemmInv_start (P := levAts L lv) (c := c) (O := owe c 4) (n := 2048) (pay := k0_pay7) (W := W) (A := left (X (hop 3 c)) (blk c 0)) (r := 0) (j := blk c 3) (f := f)) $$ [HO Hw Hw' Hb Hout]
  · isplitr; · iexact HL
    isplitl [HO]; · iexact HO
    isplitl [Hw]; · iexact Hw
    isplitl [Hw']; · iexact Hw'
    unfold gemmHas
    isplitl [Hb]; · iexact Hb
    iexact Hout
  iapply (loop_run (c := c) (n := 8) (by decide) (gemmInv (levAts L lv) c (owe c 4) 2048 k0_pay7 W (left (X (hop 3 c)) (blk c 0)) 0 (blk c 3) f)
    (t6_step (fun n hn => mayWait_local c 4 (by omega)) v13 v35)) $$ HI
  iintro HI
  ihave HI := gemmInv_end $$ HI
  unfold gemmHas
  icases HI with ⟨HO, Hw, Hw', Hb, Hout⟩
  iapply le_wp_ret
  isplitl [HO]; · iexact HO
  isplitl [Hdue]; · iexact Hdue
  isplitl [Hvr]; · iexact Hvr
  isplitl [Hr]; · iexact Hr
  isplitl [Hv]; · iexact Hv
  isplitl [Hw]; · iexact Hw
  isplitl [Hw']; · iexact Hw'
  isplitl [Hb]; · iexact Hb
  iexact Hout

/-- The block from one on received and multiplied; the first half of the block from two on received. -/
theorem part10_step (v13 v24 : BitVec 32) :
    iprop(records X K ∗ levAts L lv ∗ debt c (owe c 4) ∗ due c (12 + (hop 1 c).val) ∗ fresh (dcell c (12 + (hop 1 c).val))
        ∗ due c (12 + (hop 2 c).val) ∗ fresh (dcell c (12 + (hop 2 c).val)) ∗ bFree (F := F) c 2048 ∗ wFree c W 0 ∗ wFree c W 1
        ∗ (oL c ↦[otile 0 2048 0 4096]{fullShare} f))
      ⊢ wpc c (k0_part10 xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v13 v24)
      (fun _ => iprop(debt c (owe c 4) ∗ sv (F := F) c (12 + (hop 1 c).val) ∗ rvPts X c (hop 1 c).val 0 2048
        ∗ sv (F := F) c (12 + (hop 2 c).val) ∗ rvPts X c (hop 2 c).val 0 1024
        ∗ sv (F := F) c 5 ∗ wFree c W 0 ∗ wFree c W 1
        ∗ gemmHas c 2048 (left (X (hop 1 c)) (blk c 0)) 0 (gemmOut 2048 k0_pay8 W (left (X (hop 1 c)) (blk c 0)) 0 (blk c 1) f))) := by
  rw [k0_part10_eq_skeleton]
  unfold k0_part10_skel
  simp only [Prog.lift, Prog.bind_op, Prog.bind_ret, Prog.pure_eq_ret, Prog.bind_assoc]
  iintro ⟨#HR, #HL, HO, Hd, Hf, Hd', Hf', ⟨Hb, Hv⟩, Hw, Hw', Hout⟩
  iapply (recv_full (X := X) (K := K) (c := c) (n := 12 + (hop 1 c).val) (P := levAts L lv) (O := owe c 4) (sem_recv (off59_1 c)) (by have : (hop 1 c).val < 4 := (hop 1 c).isLt; omega)
    (by have := hop_ne_self c 1 (by decide); omega) (worth_full c (hop 1 c).isLt (hop_ne c 1 2 (by decide))) (carry_full X c (hop 1 c).isLt (hop_ne c 1 2 (by decide))) (mayWait_paid c (.dma (semN (12 + (hop 1 c).val))))) $$ [HO Hd Hf]
  · isplitr; · iexact HR
    isplitr; · iexact HL
    isplitl [HO]; · iexact HO
    isplitl [Hd]; · iexact Hd
    iexact Hf
  iintro ⟨HO, Hvr, Hr⟩
  iapply (full_start (X := X) (c := c) (d := hop 1 c) (off60_1 c) rfl) $$ [Hr Hb Hv]
  · isplitl [Hr]; · iexact Hr
    isplitl [Hb]; · iexact Hb
    iexact Hv
  iintro HF
  iapply (tile_start (c := c) rfl rfl (off61_1 c)) $$ Hw
  iintro Hw
  iapply (copy_wait (c := (c : Thread nD τ)) (P := levAts L lv) (O := owe c 4) sem_b rfl (mayWait_local c 4 (by decide))) $$ [HF HO]
  · isplitl [HF]; · iexact HF
    isplitl [HO]; · iexact HO
    iexact HL
  iintro ⟨⟨Hb, Hr⟩, Hv, HO⟩
  ihave HI := (gemmInv_start (P := levAts L lv) (c := c) (O := owe c 4) (n := 2048) (pay := k0_pay8) (W := W) (A := left (X (hop 1 c)) (blk c 0)) (r := 0) (j := blk c 1) (f := f)) $$ [HO Hw Hw' Hb Hout]
  · isplitr; · iexact HL
    isplitl [HO]; · iexact HO
    isplitl [Hw]; · iexact Hw
    isplitl [Hw']; · iexact Hw'
    unfold gemmHas
    isplitl [Hb]; · iexact Hb
    iexact Hout
  iapply (loop_run (c := c) (n := 8) (by decide) (gemmInv (levAts L lv) c (owe c 4) 2048 k0_pay8 W (left (X (hop 1 c)) (blk c 0)) 0 (blk c 1) f)
    (t7_step (fun n hn => mayWait_local c 4 (by omega)) v13 v24)) $$ HI
  iintro HI
  ihave HI := gemmInv_end $$ HI
  unfold gemmHas
  icases HI with ⟨HO, Hw, Hw', Hb, Hout⟩
  iapply (recv_half (X := X) (K := K) (c := c) (n := 12 + (hop 2 c).val) (P := levAts L lv) (O := owe c 4) (sem_recv (off59_2 c)) (by have : (hop 2 c).val < 4 := (hop 2 c).isLt; omega)
    (by have := hop_ne_self c 2 (by decide); omega) (worth_half c) (carry_half X c) (mayWait_paid c (.dma (semN (12 + (hop 2 c).val))))) $$ [HO Hd' Hf']
  · isplitr; · iexact HR
    isplitr; · iexact HL
    isplitl [HO]; · iexact HO
    isplitl [Hd']; · iexact Hd'
    iexact Hf'
  iintro ⟨HO, Hvr', Hr'⟩
  iapply le_wp_ret
  isplitl [HO]; · iexact HO
  isplitl [Hvr]; · iexact Hvr
  isplitl [Hr]; · iexact Hr
  isplitl [Hvr']; · iexact Hvr'
  isplitl [Hr']; · iexact Hr'
  isplitl [Hv]; · iexact Hv
  isplitl [Hw]; · iexact Hw
  isplitl [Hw']; · iexact Hw'
  isplitl [Hb]; · iexact Hb
  iexact Hout

/-- The first half of the block from two on multiplied; its second half received and on its way to the left operand. -/
theorem part11_step (v24 : BitVec 32) :
    iprop(records X K ∗ levAts L lv ∗ debt c (owe c 4) ∗ due c 16 ∗ fresh (dcell c 16) ∗ rvPts X c (hop 2 c).val 0 1024
        ∗ bFree (F := F) c 1024 ∗ wFree c W 0 ∗ wFree c W 1 ∗ (oL c ↦[otile 0 1024 0 4096]{fullShare} f))
      ⊢ wpc c (k0_part11 xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9 c v24)
      (fun _ => iprop(debt c (owe c 4) ∗ rvPts X c (hop 2 c).val 0 1024 ∗ sv (F := F) c 16 ∗ halfFly X c (hop 2 c) 1024
        ∗ wFree c W 0 ∗ wFree c W 1
        ∗ (oL c ↦[otile 0 1024 0 4096]{fullShare} gemmOut 1024 k0_pay9 W (left (X (hop 2 c)) (blk c 0)) 0 (blk c 2) f))) := by
  rw [k0_part11_eq_skeleton]
  unfold k0_part11_skel
  simp only [Prog.lift, Prog.bind_op, Prog.bind_ret, Prog.pure_eq_ret, Prog.bind_assoc]
  iintro ⟨#HR, #HL, HO, Hd, Hf, Hr, ⟨Hb, Hv⟩, Hw, Hw', Hout⟩
  iapply (half_start (X := X) (c := c) (d := hop 2 c) (r := 0) (off78_0 c) rfl) $$ [Hr Hb Hv]
  · isplitl [Hr]; · iexact Hr
    isplitl [Hb]; · iexact Hb
    iexact Hv
  iintro HF
  iapply (tile_start (c := c) rfl rfl (off61_2 c)) $$ Hw
  iintro Hw
  iapply (copy_wait (c := (c : Thread nD τ)) (P := levAts L lv) (O := owe c 4) sem_b rfl (mayWait_local c 4 (by decide))) $$ [HF HO]
  · isplitl [HF]; · iexact HF
    isplitl [HO]; · iexact HO
    iexact HL
  iintro ⟨⟨Hb, Hr⟩, Hv, HO⟩
  ihave HI := (gemmInv_start (P := levAts L lv) (c := c) (O := owe c 4) (n := 1024) (pay := k0_pay9) (W := W) (A := left (X (hop 2 c)) (blk c 0)) (r := 0) (j := blk c 2) (f := f)) $$ [HO Hw Hw' Hb Hout]
  · isplitr; · iexact HL
    isplitl [HO]; · iexact HO
    isplitl [Hw]; · iexact Hw
    isplitl [Hw']; · iexact Hw'
    unfold gemmHas
    isplitl [Hb]; · iexact Hb
    iexact Hout
  iapply (loop_run (c := c) (n := 8) (by decide) (gemmInv (levAts L lv) c (owe c 4) 1024 k0_pay9 W (left (X (hop 2 c)) (blk c 0)) 0 (blk c 2) f)
    (t8_step (fun n hn => mayWait_local c 4 (by omega)) v24)) $$ HI
  iintro HI
  ihave HI := gemmInv_end $$ HI
  unfold gemmHas
  icases HI with ⟨HO, Hw, Hw', Hb, Hout⟩
  iapply (recv_half (X := X) (K := K) (c := c) (n := 16) (P := levAts L lv) (O := owe c 4) (sem_recv rfl) (by decide)
    (by have : c.val < 4 := c.isLt; omega) (worth_part c (by decide)) (carry_16 X c) (mayWait_paid c (.dma (semN 16)))) $$ [HO Hd Hf]
  · isplitr; · iexact HR
    isplitr; · iexact HL
    isplitl [HO]; · iexact HO
    isplitl [Hd]; · iexact Hd
    iexact Hf
  iintro ⟨HO, Hvr, Hr'⟩
  iapply (half_start (X := X) (c := c) (d := hop 2 c) (r := 1024) (off87_0 c) rfl) $$ [Hr' Hb Hv]
  · isplitl [Hr']; · iexact Hr'
    isplitl [Hb]; · iexists _; iexact Hb
    iexact Hv
  iintro HF
  iapply le_wp_ret
  isplitl [HO]; · iexact HO
  isplitl [Hr]; · iexact Hr
  isplitl [Hvr]; · iexact Hvr
  isplitl [HF]; · iexact HF
  isplitl [Hw]; · iexact Hw
  isplitl [Hw']; · iexact Hw'
  iexact Hout

end Parts

end Cert.KernelIdeal.Run

end
-- ==== Proof.IdealBody.lean ====
/- The kernel's body as a whole: its pieces one after another, from what a device starts with to what it ends with. -/
module

public import proofs.«01_k».proof.Proof.IdealBlocks

@[expose] public section

noncomputable section

namespace Cert.KernelIdeal.Run

open Cert.KernelIdeal Cert.KernelIdeal.Gen Cert.Copies
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device starts with and ends with -/

section Holds
variable (c : Dev nD)

/-- The tokens of the duties device `c` pays. -/
def pays : sProp 𝕄 :=
  iprop(tokB (hop 1 c) c ∗ tokB (hop 2 c) c ∗ tokB (hop 3 c) c ∗ tokD c 8 ∗ tokD c 9 ∗ tokD c 10 ∗ tokD c 11
    ∗ tokD (hop 1 c) (12 + c.val) ∗ tokD (hop 2 c) (12 + c.val) ∗ tokD (hop 3 c) (12 + c.val) ∗ tokD (hop 2 c) 16)
/-- Its own cells, each at the start of its round. -/
def opens : sProp 𝕄 :=
  iprop(fresh (dcell c 8) ∗ fresh (dcell c 9) ∗ fresh (dcell c 10) ∗ fresh (dcell c 11)
    ∗ fresh (dcell c (12 + (hop 1 c).val)) ∗ fresh (dcell c (12 + (hop 2 c).val)) ∗ fresh (dcell c (12 + (hop 3 c).val)) ∗ fresh (dcell c (12 + c.val))
    ∗ fresh (dcell c 16) ∗ fresh (bcell c))
/-- What the other devices owe it. -/
def gains : sProp 𝕄 :=
  iprop(cred (tallyAt (bcell c) () 3) ∗ due c (12 + (hop 1 c).val) ∗ due c (12 + (hop 2 c).val) ∗ due c (12 + (hop 3 c).val) ∗ due c 16)
/-- The scratch buffers and the semaphores of the local copies, all free. -/
def room (Y : Vec F S8192x2048 .f32) (W : Vec F S8192x4096 .f32) : sProp 𝕄 :=
  iprop(inFree c Y 0 ∗ inFree c Y 1 ∗ outFree c 0 ∗ outFree c 1 ∗ bFree (F := F) c 2048 ∗ wFree c W 0 ∗ wFree c W 1)
/-- The cast's buffer and the receive buffer, block by block. -/
def blocks : sProp 𝕄 :=
  iprop((∃ g : Buf (Elt F) (xsL c), xsL c ↦[rows (blk c 1) 2048]{fullShare} g) ∗ (∃ g : Buf (Elt F) (xsL c), xsL c ↦[rows (blk c 2) 2048]{fullShare} g)
    ∗ (∃ g : Buf (Elt F) (xsL c), xsL c ↦[rows (blk c 3) 2048]{fullShare} g) ∗ (∃ g : Buf (Elt F) (xsL c), xsL c ↦[rows (blk c 0) 2048]{fullShare} g)
    ∗ slotFor (F := F) c (hop 1 c) ∗ slotFor (F := F) c (hop 2 c) ∗ slotFor (F := F) c (hop 3 c))
/-- Its cells closed, their counters at zero. -/
def zeros : sProp 𝕄 :=
  iprop(sv c 8 ∗ sv c 9 ∗ sv c 10 ∗ sv c 11 ∗ sv c (12 + (hop 1 c).val) ∗ sv c (12 + (hop 2 c).val) ∗ sv c (12 + (hop 3 c).val) ∗ sv c (12 + c.val)
    ∗ sv c 16 ∗ semVal (bcell c) 0)

variable (X : Dev nD → Vec F S8192x2048 .f32) (W : Vec F S8192x4096 .f32)

/-- The result once the own block's product has been added, -/
def out1 : Vec F S2048x4096 .f32 := gemmOut 2048 k0_pay6 W (left (X c) (blk c 0)) 0 (blk c 0) k0_pay5
/-- then that of the block from three on, -/
def out2 : Vec F S2048x4096 .f32 := gemmOut 2048 k0_pay7 W (left (X (hop 3 c)) (blk c 0)) 0 (blk c 3) (out1 c X W)
/-- then that of the block from one on, -/
def out3 : Vec F S2048x4096 .f32 := gemmOut 2048 k0_pay8 W (left (X (hop 1 c)) (blk c 0)) 0 (blk c 1) (out2 c X W)
/-- and then, half by half, that of the block from two on. -/
def outC : Vec F S2048x4096 .f32 := fun i =>
  if (i 0).val < 1024 then gemmOut 1024 k0_pay9 W (left (X (hop 2 c)) (blk c 0)) 0 (blk c 2) (out3 c X W) i
  else gemmOut 1024 k0_pay10 W (left (X (hop 2 c)) (blk c 0 + 1024)) 1024 (blk c 2) (out3 c X W) i

end Holds

/-! ## Buffers cut and put together -/

theorem brows_cut (f : S2048x2048.Idx → Elt F .bf16) {c : Dev nD} :
    (bL c ↦[brows 2048]{fullShare} f : sProp 𝕄) ⊣⊢ iprop((bL c ↦[brows 1024]{fullShare} f) ∗ (bL c ↦[rowsOf 1024 1024]{fullShare} f)) := by
  refine pts_union (Finset.disjoint_left.2 fun i hi hj => ?_) (Finset.ext fun i => ?_)
  · rw [mem_rowsOf] at hi hj; omega
  · rw [Finset.mem_union, mem_rowsOf, mem_rowsOf, mem_rowsOf]; omega

theorem brows_join {c : Dev nD} :
    iprop((∃ g : Buf (Elt F) (bL c), bL c ↦[brows 1024]{fullShare} g) ∗ (∃ g : Buf (Elt F) (bL c), bL c ↦[rowsOf 1024 1024]{fullShare} g))
      ⊢ (iprop(∃ g : Buf (Elt F) (bL c), bL c ↦[brows 2048]{fullShare} g) : sProp 𝕄) := by
  iintro ⟨⟨%g, H⟩, ⟨%g', H'⟩⟩
  ihave H := (pointsTo_join (ℓ := bL c) (I := brows 1024) (J := rowsOf 1024 1024) (q := fullShare) (f := g) (g := g')
    (Finset.disjoint_left.2 fun (i : S2048x2048.Idx) hi hj => by rw [mem_rowsOf] at hi hj; omega)) $$ [H H']
  · isplitl [H]; · iexact H
    iexact H'
  rw [show (brows 1024 ∪ rowsOf 1024 1024 : Finset S2048x2048.Idx) = brows 2048 from Finset.ext fun i => by
    rw [Finset.mem_union, mem_rowsOf, mem_rowsOf, mem_rowsOf]; omega]
  iexists _; iexact H

theorem orows_cut (f : S2048x4096.Idx → Elt F .f32) {c : Dev nD} :
    (oL c ↦[otile 0 2048 0 4096]{fullShare} f : sProp 𝕄) ⊣⊢ iprop((oL c ↦[otile 0 1024 0 4096]{fullShare} f) ∗ (oL c ↦[otile 1024 1024 0 4096]{fullShare} f)) := by
  refine pts_union (Finset.disjoint_left.2 fun i hi hj => ?_) (Finset.ext fun i => ?_)
  · rw [mem_tileOf] at hi hj; omega
  · rw [Finset.mem_union, mem_tileOf, mem_tileOf, mem_tileOf]; omega

theorem slab_cut (f : S4x2048x2048.Idx → Elt F .bf16) {d : Dev nD} {s : ℕ} :
    (rvL d ↦[rslab s 0 2048]{fullShare} f : sProp 𝕄) ⊣⊢ iprop((rvL d ↦[rslab s 0 1024]{fullShare} f) ∗ (rvL d ↦[rslab s 1024 1024]{fullShare} f)) := by
  refine pts_union (Finset.disjoint_left.2 fun i hi hj => ?_) (Finset.ext fun i => ?_)
  · rw [mem_slabOf] at hi hj; omega
  · rw [Finset.mem_union, mem_slabOf, mem_slabOf, mem_slabOf]; omega

/-- The result's two halves are the result. -/
theorem out_join (c : Dev nD) (X : Dev nD → Vec F S8192x2048 .f32) (W : Vec F S8192x4096 .f32) :
    iprop((oL c ↦[otile 0 1024 0 4096]{fullShare} gemmOut 1024 k0_pay9 W (left (X (hop 2 c)) (blk c 0)) 0 (blk c 2) (out3 c X W))
        ∗ (oL c ↦[otile 1024 1024 0 4096]{fullShare} gemmOut 1024 k0_pay10 W (left (X (hop 2 c)) (blk c 0 + 1024)) 1024 (blk c 2) (out3 c X W)))
      ⊢ (oL c ↦[otile 0 2048 0 4096]{fullShare} outC c X W : sProp 𝕄) := by
  rw [pointsTo_congr (ℓ := oL c) (I := otile 0 1024 0 4096) (g := outC c X W) (fun (i : S2048x4096.Idx) hi => by
      rw [mem_tileOf] at hi; exact (if_pos (by omega)).symm),
    pointsTo_congr (ℓ := oL c) (I := otile 1024 1024 0 4096) (g := outC c X W) (fun (i : S2048x4096.Idx) hi => by
      rw [mem_tileOf] at hi; exact (if_neg (by omega)).symm)]
  exact (orows_cut (outC c X W)).2

/-- The receive semaphore a device's own messages name at the others has nothing to wait for on the device itself. -/
theorem idle_close (X : Dev nD → Vec F S8192x2048 .f32) (K : Dev nD × Fin 10 → ℕ) (c : Dev nD) :
    iprop(records X K ∗ fresh (dcell c (12 + c.val))) ⊢ |={Set.univ}=> sv (F := F) c (12 + c.val) := by
  have hc : c.val < 4 := c.isLt
  iintro ⟨#HR, Hat⟩
  ihave Hr := (record_at X K (c, ⟨12 + c.val - 8, by omega⟩) (kcell_dma c (n := 12 + c.val) ⟨by omega, by omega⟩)) $$ HR
  icases Hr with ⟨#Hi, -⟩
  iapply (Rounds.cell_close ER (rd X) (Set.mem_univ (K (c, ⟨12 + c.val - 8, by omega⟩))) (fun h => h) (R := 0) (fun r _ => by
    rcases Nat.eq_zero_or_pos r with h | h
    · subst h; rw [duties_dma X c (by omega), if_neg (fun h => h.2 rfl)]
    · exact duties_later X _ r h))
  isplitr; · iexact Hi
  iexact Hat

/-! ## The body -/

section Body
variable {X : Dev nD → Vec F S8192x2048 .f32} {K : Dev nD × Fin 10 → ℕ} {c : Dev nD} {W : Vec F S8192x4096 .f32}

set_option maxHeartbeats 1600000 in
/-- The body run on what a device starts with. -/
theorem body_runs :
    iprop(records X K ∗ levAts L lv ∗ debt c (O₀ c) ∗ pays (F := F) c ∗ opens (F := F) c ∗ gains (F := F) c ∗ room c (X c) W ∗ blocks (F := F) c
        ∗ (∃ g : Buf (Elt F) (oL c), oL c ↦[otile 0 2048 0 4096]{fullShare} g))
      ⊢ wpc c (cc0_body xM (Memref.isWhole_whole _) wM (Memref.isWhole_whole _) oM (Memref.isWhole_whole _)
      xsM (Memref.isWhole_whole _) rvM (Memref.isWhole_whole _) ciM (Memref.isWhole_whole _) coM (Memref.isWhole_whole _) bM (Memref.isWhole_whole _)
      wbM (Memref.isWhole_whole _) cc0_scratch4 cc0_scratch5 cc0_scratch6 cc0_scratch7 cc0_scratch8 cc0_scratch9)
      (fun _ => iprop(debt c 0 ∗ room c (X c) W ∗ zeros (F := F) c ∗ (oL c ↦[otile 0 2048 0 4096]{fullShare} outC c X W))) := by
  rw [cc0_body_eq_skeleton]
  unfold cc0_body_skel
  rw [k0_part12_eq_skeleton]
  unfold k0_part12_skel
  rw [k0_part1_eq_skeleton]
  unfold k0_part1_skel
  simp only [Prog.lift, Prog.bind_op, Prog.bind_ret, Prog.pure_eq_ret, Prog.bind_assoc, wp_deviceId]
  unfold pays opens gains blocks
  iintro ⟨#HR, #HL, HO, ⟨HtB1, HtB2, HtB3, Ht8, Ht9, Ht10, Ht11, HtR1, HtR2, HtR3, HtR16⟩, ⟨Hf8, Hf9, Hf10, Hf11, HfR1, HfR2, HfR3, HfR0, Hf16, HfB⟩,
    ⟨HcB, Hd1, Hd2, Hd3, Hd16⟩, Hroom, ⟨Hx1, Hx2, Hx3, Hx0, Hs1, Hs2, Hs3⟩, Hout⟩
  unfold room
  icases Hroom with ⟨Hi, Hi', Ho, Ho', ⟨Hb, Hv⟩, Hw, Hw'⟩
  imod (idle_close X K c) $$ [HfR0] with Hz0
  · isplitr; · iexact HR
    iexact HfR0
  iapply (part2_step (X := X) (K := K) (c := c)) $$ [HO HtB1 Hs1 HtB2 Hs2]
  · isplitr; · iexact HR
    isplitl [HO]; · iexact HO
    isplitl [HtB1]; · iexact HtB1
    isplitl [Hs1]; · iexact Hs1
    isplitl [HtB2]; · iexact HtB2
    iexact Hs2
  iintro HO %v65 %v66 %v67 %c0
  simp only [Prog.bind_assoc]
  iapply (seq (part3_step (X := X) (K := K) (c := c) _ _ _ _ _)) $$ [HO HtB3 Hs3 HcB HfB Hi Hi' Ho Ho' Hx1]
  · isplitr; · iexact HR
    isplitr; · iexact HL
    isplitl [HO]; · iexact HO
    isplitl [HtB3]; · iexact HtB3
    isplitl [Hs3]; · iexact Hs3
    isplitl [HcB]; · iexact HcB
    isplitl [HfB]; · iexact HfB
    isplitl [Hi]; · iexact Hi
    isplitl [Hi']; · iexact Hi'
    isplitl [Ho]; · iexact Ho
    isplitl [Ho']; · iexact Ho'
    iexact Hx1
  iintro ⟨HO, HzB, Hs1, Hs2, Hs3, Hi, Hi', Ho, Ho', Hx⟩
  iapply (seq (part4_step (X := X) (K := K) (c := c) _ _)) $$ [HO Ho' Hx Hi Hi' Ho Hs1 Ht8 HtR1 Hx3]
  · isplitr; · iexact HR
    isplitr; · iexact HL
    isplitl [HO]; · iexact HO
    isplitl [Ho']; · iexact Ho'
    isplitl [Hx]; · iexact Hx
    isplitl [Hi]; · iexact Hi
    isplitl [Hi']; · iexact Hi'
    isplitl [Ho]; · iexact Ho
    isplitl [Hs1]; · iexact Hs1
    isplitl [Ht8]; · iexact Ht8
    isplitl [HtR1]; · iexact HtR1
    iexact Hx3
  iintro ⟨Hd8, HI⟩
  iapply (part5_step (X := X) (K := K) (c := c) _ _) $$ [HI Hs3 Ht10 HtR3 Hx2]
  · isplitr; · iexact HR
    isplitr; · iexact HL
    isplitl [HI]; · iexact HI
    isplitl [Hs3]; · iexact Hs3
    isplitl [Ht10]; · iexact Ht10
    isplitl [HtR3]; · iexact HtR3
    iexact Hx2
  iintro ⟨Hd10, HI⟩ %v
  iapply (seq (part6_step (X := X) (c := c) _ _ _)) $$ [HI Hx0]
  · isplitr; · iexact HL
    isplitl [HI]; · iexact HI
    iexact Hx0
  iintro ⟨Hx2, HI⟩
  iapply (seq (part7_step (X := X) (c := c) (W := W) _)) $$ [HI Hout Hb Hv Hw Hw']
  · isplitr; · iexact HL
    isplitl [HI]; · iexact HI
    isplitl [Hout]; · iexact Hout
    isplitl [Hb Hv]
    · isplitl [Hb]; · iexact Hb
      iexact Hv
    isplitl [Hw]; · iexact Hw
    iexact Hw'
  unfold gemmHas
  iintro ⟨HO, Hi, Hi', Ho, Ho', Hx0, Hv, Hw, Hw', Hb, Hout⟩
  unfold xsPts
  ihave Hx2 := ((rows_cut (c := c) (lo := blk c 2) (castX (X c)) (n := 1024) (m := 1024) (t := 2048) rfl).1) $$ Hx2
  icases Hx2 with ⟨Hx2, Hx2'⟩
  unfold slotFor
  icases Hs2 with ⟨%g2, Hs2⟩
  ihave Hs2 := (slab_cut g2).1 $$ Hs2
  icases Hs2 with ⟨Hs2, Hs2'⟩
  iapply (seq (part8_step (X := X) (K := K) (c := c) _)) $$ [HO Hd8 Hf8 Hd10 Hf10 Ht9 HtR2 Hs2 Hx2]
  · isplitr; · iexact HR
    isplitr; · iexact HL
    isplitl [HO]; · iexact HO
    isplitl [Hd8]; · iexact Hd8
    isplitl [Hf8]; · iexact Hf8
    isplitl [Hd10]; · iexact Hd10
    isplitl [Hf10]; · iexact Hf10
    isplitl [Ht9]; · iexact Ht9
    isplitl [HtR2]; · iexact HtR2
    isplitl [Hs2]; · iexists _; iexact Hs2
    unfold xsPts
    iexact Hx2
  iintro ⟨HO, Hz8, Hz10, Hd9, Hx1, Hx3⟩
  iapply (seq (part9_step (X := X) (K := K) (c := c) (W := W) (f := out1 c X W) _ _)) $$ [HO Ht11 HtR16 Hs2' Hx2' Hd3 HfR3 Hb Hv Hw Hw' Hout]
  · isplitr; · iexact HR
    isplitr; · iexact HL
    isplitl [HO]; · iexact HO
    isplitl [Ht11]; · iexact Ht11
    isplitl [HtR16]; · iexact HtR16
    isplitl [Hs2']; · iexists _; iexact Hs2'
    isplitl [Hx2']; · unfold xsPts; iexact Hx2'
    isplitl [Hd3]; · iexact Hd3
    isplitl [HfR3]; · iexact HfR3
    isplitl [Hb Hv]
    · isplitl [Hb]; · iexists _; iexact Hb
      iexact Hv
    isplitl [Hw]; · iexact Hw
    isplitl [Hw']; · iexact Hw'
    iexact Hout
  unfold gemmHas
  iintro ⟨HO, Hd11, HzR3, Hr3, Hv, Hw, Hw', Hb, Hout⟩
  iapply (seq (part10_step (X := X) (K := K) (c := c) (W := W) (f := out2 c X W) _ _)) $$ [HO Hd1 HfR1 Hd2 HfR2 Hb Hv Hw Hw' Hout]
  · isplitr; · iexact HR
    isplitr; · iexact HL
    isplitl [HO]; · iexact HO
    isplitl [Hd1]; · iexact Hd1
    isplitl [HfR1]; · iexact HfR1
    isplitl [Hd2]; · iexact Hd2
    isplitl [HfR2]; · iexact HfR2
    isplitl [Hb Hv]
    · isplitl [Hb]; · iexists _; iexact Hb
      iexact Hv
    isplitl [Hw]; · iexact Hw
    isplitl [Hw']; · iexact Hw'
    iexact Hout
  unfold gemmHas
  iintro ⟨HO, HzR1, Hr1, HzR2, Hr2, Hv, Hw, Hw', Hb, Hout⟩
  ihave Hb := (brows_cut _).1 $$ Hb
  icases Hb with ⟨Hb, Hrest⟩
  ihave Hout := (orows_cut (c := c) (gemmOut 2048 k0_pay8 W (left (X (hop 1 c)) (blk c 0)) 0 (blk c 1) (out2 c X W))).1 $$ Hout
  icases Hout with ⟨Hout, Hout'⟩
  iapply (seq (part11_step (X := X) (K := K) (c := c) (W := W) (f := out3 c X W) _)) $$ [HO Hd16 Hf16 Hr2 Hb Hv Hw Hw' Hout]
  · isplitr; · iexact HR
    isplitr; · iexact HL
    isplitl [HO]; · iexact HO
    isplitl [Hd16]; · iexact Hd16
    isplitl [Hf16]; · iexact Hf16
    isplitl [Hr2]; · iexact Hr2
    isplitl [Hb Hv]
    · isplitl [Hb]; · iexists _; iexact Hb
      iexact Hv
    isplitl [Hw]; · iexact Hw
    isplitl [Hw']; · iexact Hw'
    iexact Hout
  iintro ⟨HO, Hr2, Hz16, HF, Hw, Hw', Hout⟩
  iapply (tile_start (c := c) rfl rfl (off61_2 c)) $$ Hw
  iintro Hw
  iapply (copy_wait (c := (c : Thread nD τ)) (P := levAts L lv) (O := owe c 4) sem_b rfl (mayWait_local c 4 (by decide))) $$ [HF HO]
  · isplitl [HF]; · iexact HF
    isplitl [HO]; · iexact HO
    iexact HL
  iintro ⟨⟨Hb, Hr2'⟩, Hv, HO⟩
  ihave HI := (gemmInv_start (P := levAts L lv) (c := c) (O := owe c 4) (n := 1024) (pay := k0_pay10) (W := W) (A := left (X (hop 2 c)) (blk c 0 + 1024)) (r := 1024) (j := blk c 2) (f := out3 c X W)) $$ [HO Hw Hw' Hb Hout']
  · isplitr; · iexact HL
    isplitl [HO]; · iexact HO
    isplitl [Hw]; · iexact Hw
    isplitl [Hw']; · iexact Hw'
    unfold gemmHas
    isplitl [Hb]; · iexact Hb
    iexact Hout'
  iapply (loop_run (c := c) (n := 8) (by decide) (gemmInv (levAts L lv) c (owe c 4) 1024 k0_pay10 W (left (X (hop 2 c)) (blk c 0 + 1024)) 1024 (blk c 2) (out3 c X W))
    (t9_step (fun n hn => mayWait_local c 4 (by omega)) )) $$ HI
  iintro HI
  ihave HI := gemmInv_end $$ HI
  unfold gemmHas
  icases HI with ⟨HO, Hw, Hw', Hb, Hout'⟩
  iapply (sent_half (X := X) (K := K) (c := c) (n := 9) (P := levAts L lv) (O := owe c 4) (sem_send rfl) (by decide) (by omega)
    (worth_part c (by decide)) (carry_9 X c) (mayWait_local c 4 (by decide))) $$ [HO Hd9 Hf9]
  · isplitr; · iexact HR
    isplitr; · iexact HL
    isplitl [HO]; · iexact HO
    isplitl [Hd9]; · iexact Hd9
    iexact Hf9
  iintro ⟨HO, Hz9, Hx2⟩
  iapply (sent_half (X := X) (K := K) (c := c) (n := 11) (P := levAts L lv) (O := owe c 4) (sem_send rfl) (by decide) (by omega)
    (worth_part c (by decide)) (carry_11 X c) (mayWait_local c 4 (by decide))) $$ [HO Hd11 Hf11]
  · isplitr; · iexact HR
    isplitr; · iexact HL
    isplitl [HO]; · iexact HO
    isplitl [Hd11]; · iexact Hd11
    iexact Hf11
  iintro ⟨HO, Hz11, Hx2'⟩
  iapply le_wp_ret
  ihave Hout := (out_join c X W) $$ [Hout Hout']
  · isplitl [Hout]; · iexact Hout
    iexact Hout'
  ihave HO := (Entails.of_eq (congrArg (fun O => debt (F := F) c O) (owe_4 c))) $$ HO
  ihave Hb := (brows_join (F := F) (c := c)) $$ [Hb Hrest]
  · isplitl [Hb]; · iexists _; iexact Hb
    iexists _; iexact Hrest
  isplitl [HO]; · iexact HO
  isplitl [Hi Hi' Ho Ho' Hb Hv Hw Hw']
  · isplitl [Hi]; · iexact Hi
    isplitl [Hi']; · iexact Hi'
    isplitl [Ho]; · iexact Ho
    isplitl [Ho']; · iexact Ho'
    isplitl [Hb Hv]
    · isplitl [Hb]; · iexact Hb
      iexact Hv
    isplitl [Hw]; · iexact Hw
    iexact Hw'
  isplitr [Hout]
  · unfold zeros
    isplitl [Hz8]; · iexact Hz8
    isplitl [Hz9]; · iexact Hz9
    isplitl [Hz10]; · iexact Hz10
    isplitl [Hz11]; · iexact Hz11
    isplitl [HzR1]; · iexact HzR1
    isplitl [HzR2]; · iexact HzR2
    isplitl [HzR3]; · iexact HzR3
    isplitl [Hz0]; · iexact Hz0
    isplitl [Hz16]; · iexact Hz16
    iexact HzB
  iexact Hout

end Body

end Cert.KernelIdeal.Run

end
-- ==== Proof.IdealSetup.lean ====
/- What the launch deals every device: its buffers cut into what the body names, its semaphores, the tokens of the
   duties it pays, and the credit for what it is owed. -/
module

public import proofs.«01_k».proof.Proof.IdealBody

@[expose] public section

noncomputable section

namespace Cert.KernelIdeal.Run

open Cert.KernelIdeal Cert.KernelIdeal.Gen Cert.Copies
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers -/

section Buffers
variable {c : Dev nD}

/-- The two slots of a double buffer are the whole of it. -/
theorem slots_all {A B : ℕ} : (slotOf 0 ∪ slotOf 1 : Finset (⟨3, ![2, A, B]⟩ : Shape).Idx) = Finset.univ :=
  Finset.ext fun i => by
    have h : (i 0).val < 2 := (i 0).isLt
    rw [Finset.mem_union, mem_slotOf, mem_slotOf]
    exact ⟨fun _ => Finset.mem_univ _, fun _ => by omega⟩
theorem slots_apart {A B : ℕ} : Disjoint (slotOf 0 : Finset (⟨3, ![2, A, B]⟩ : Shape).Idx) (slotOf 1) :=
  Finset.disjoint_left.2 fun i hi hj => by rw [mem_slotOf] at hi hj; omega

/-- A buffer at some contents is its two parts, each at some contents. -/
theorem parts {ℓ : Loc nD τ sig} {I J : Finset (Idx ℓ)} (hd : Disjoint I J) (hU : I ∪ J = Finset.univ) :
    (iprop(∃ g : Buf (Elt F) ℓ, ℓ ↦{fullShare} g) : sProp 𝕄)
      ⊣⊢ iprop((∃ g : Buf (Elt F) ℓ, ℓ ↦[I]{fullShare} g) ∗ (∃ g : Buf (Elt F) ℓ, ℓ ↦[J]{fullShare} g)) := by
  constructor
  · iintro ⟨%g, H⟩
    ihave H := (pts_union (f := g) hd hU).1 $$ H
    icases H with ⟨H, H'⟩
    isplitl [H]; · iexists g; iexact H
    iexists g; iexact H'
  · iintro ⟨⟨%g, H⟩, ⟨%g', H'⟩⟩
    ihave H := (pointsTo_join (f := g) (g := g') hd) $$ [H H']
    · isplitl [H]; · iexact H
      iexact H'
    rw [hU]
    iexists _; iexact H

/-- Part of what is held, the rest kept. -/
theorem part {ℓ : Loc nD τ sig} {I S : Finset (Idx ℓ)} (g : Buf (Elt F) ℓ) (h : I ⊆ S) :
    (ℓ ↦[S]{fullShare} g : sProp 𝕄) ⊢ iprop((∃ g : Buf (Elt F) ℓ, ℓ ↦[I]{fullShare} g) ∗ (ℓ ↦[S \ I]{fullShare} g)) := by
  iintro H
  ihave H := (pointsTo_split_subset h).1 $$ H
  icases H with ⟨H, H'⟩
  isplitl [H]; · iexists g; iexact H
  iexact H'

/-- An argument is its two halves. -/
theorem halves {ℓ : Loc nD τ sig} (g : Buf (Elt F) ℓ) :
    (ℓ ↦{fullShare} g : sProp 𝕄) ⊣⊢ iprop((ℓ ↦[Finset.univ]{sh 0} g) ∗ (ℓ ↦[Finset.univ]{sh 1} g)) :=
  pointsTo_share (PosShare.mem_left_op_right fullShare)

theorem b_all : (brows 2048 : Finset S2048x2048.Idx) = Finset.univ :=
  Finset.eq_univ_of_forall fun i => by
    have h : (i 0).val < 2048 := (i 0).isLt
    rw [mem_rowsOf]; omega
theorem o_all : (otile 0 2048 0 4096 : Finset S2048x4096.Idx) = Finset.univ :=
  Finset.eq_univ_of_forall fun i => by
    have h : (i 0).val < 2048 := (i 0).isLt
    have h' : (i 1).val < 4096 := (i 1).isLt
    rw [mem_tileOf]; omega

/-- The semaphores of the local copies, at zero. -/
def locals (c : Dev nD) : sProp 𝕄 := iprop(sv c 1 ∗ sv c 2 ∗ sv c 3 ∗ sv c 4 ∗ sv c 5 ∗ sv c 6 ∗ sv c 7)
/-- The scratch buffers, at some contents. -/
def scratch (c : Dev nD) : sProp 𝕄 :=
  iprop((∃ g : Buf (Elt F) (ciL c), ciL c ↦{fullShare} g) ∗ (∃ g : Buf (Elt F) (coL c), coL c ↦{fullShare} g)
    ∗ (∃ g : Buf (Elt F) (bL c), bL c ↦{fullShare} g) ∗ (∃ g : Buf (Elt F) (wbL c), wbL c ↦{fullShare} g))

theorem room_intro (Y : Vec F S8192x2048 .f32) (W : Vec F S8192x4096 .f32) :
    iprop(scratch (F := F) c ∗ locals (F := F) c ∗ (xL c ↦{fullShare} Y) ∗ (wL c ↦{fullShare} W)) ⊢ room c Y W := by
  unfold scratch locals room inFree outFree wFree
  iintro ⟨⟨Hi, Ho, ⟨%g, Hb⟩, Hw⟩, ⟨H1, H2, H3, H4, H5, H6, H7⟩, HX, HW⟩
  ihave Hi := (parts (ℓ := ciL c) (I := slot 0) (J := slot 1) slots_apart slots_all).1 $$ Hi
  icases Hi with ⟨Hi, Hi'⟩
  ihave Ho := (parts (ℓ := coL c) (I := slot 0) (J := slot 1) slots_apart slots_all).1 $$ Ho
  icases Ho with ⟨Ho, Ho'⟩
  ihave Hw := (parts (ℓ := wbL c) (I := wslot 0) (J := wslot 1) slots_apart slots_all).1 $$ Hw
  icases Hw with ⟨Hw, Hw'⟩
  ihave HX := (halves (ℓ := xL c) Y).1 $$ HX
  icases HX with ⟨HX, HX'⟩
  ihave HW := (halves (ℓ := wL c) W).1 $$ HW
  icases HW with ⟨HW, HW'⟩
  isplitl [Hi H1 HX]
  · isplitl [Hi]; · iexact Hi
    isplitl [H1]; · iexact H1
    iexact HX
  isplitl [Hi' H2 HX']
  · isplitl [Hi']; · iexact Hi'
    isplitl [H2]; · iexact H2
    iexact HX'
  isplitl [Ho H3]
  · isplitl [Ho]; · iexact Ho
    iexact H3
  isplitl [Ho' H4]
  · isplitl [Ho']; · iexact Ho'
    iexact H4
  isplitl [Hb H5]
  · isplitl [Hb]; · iexists g; rw [b_all]; iexact Hb
    iexact H5
  isplitl [Hw H6 HW]
  · isplitl [Hw]; · iexact Hw
    isplitl [H6]; · iexact H6
    iexact HW
  isplitl [Hw']; · iexact Hw'
  isplitl [H7]; · iexact H7
  iexact HW'

theorem room_elim (Y : Vec F S8192x2048 .f32) (W : Vec F S8192x4096 .f32) :
    room c Y W ⊢ iprop(scratch (F := F) c ∗ locals (F := F) c ∗ (xL c ↦{fullShare} Y) ∗ (wL c ↦{fullShare} W)) := by
  unfold scratch locals room inFree outFree wFree bFree
  rw [b_all]
  iintro ⟨⟨Hi, H1, HX⟩, ⟨Hi', H2, HX'⟩, ⟨Ho, H3⟩, ⟨Ho', H4⟩, ⟨Hb, H5⟩, ⟨Hw, H6, HW⟩, ⟨Hw', H7, HW'⟩⟩
  isplitl [Hi Hi' Ho Ho' Hb Hw Hw']
  · isplitl [Hi Hi']
    · iapply (parts (ℓ := ciL c) (I := slot 0) (J := slot 1) slots_apart slots_all).2
      isplitl [Hi]; · iexact Hi
      iexact Hi'
    isplitl [Ho Ho']
    · iapply (parts (ℓ := coL c) (I := slot 0) (J := slot 1) slots_apart slots_all).2
      isplitl [Ho]; · iexact Ho
      iexact Ho'
    isplitl [Hb]; · iexact Hb
    iapply (parts (ℓ := wbL c) (I := wslot 0) (J := wslot 1) slots_apart slots_all).2
    isplitl [Hw]; · iexact Hw
    iexact Hw'
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  isplitl [HX HX']
  · iapply (halves (ℓ := xL c) Y).2
    isplitl [HX]; · iexact HX
    iexact HX'
  iapply (halves (ℓ := wL c) W).2
  isplitl [HW]; · iexact HW
  iexact HW'

theorem blocks_intro :
    iprop((∃ g : Buf (Elt F) (xsL c), xsL c ↦{fullShare} g) ∗ (∃ g : Buf (Elt F) (rvL c), rvL c ↦{fullShare} g)) ⊢ (blocks (F := F) c : sProp 𝕄) := by
  have hc : c.val < 4 := c.isLt
  unfold blocks slotFor
  iintro ⟨⟨%g, Hx⟩, ⟨%r, Hr⟩⟩
  ihave Hx := (part (ℓ := xsL c) (I := rows (blk c 1) 2048) g (Finset.subset_univ _)) $$ Hx
  icases Hx with ⟨Hx1, Hx⟩
  ihave Hx := (part (ℓ := xsL c) (I := rows (blk c 2) 2048) g (fun (i : S8192x2048.Idx) hi => by
    unfold blk at hi; rw [mem_rowsOf] at hi; rw [Finset.mem_sdiff]; unfold blk; rw [mem_rowsOf]; exact ⟨Finset.mem_univ _, by omega⟩)) $$ Hx
  icases Hx with ⟨Hx2, Hx⟩
  ihave Hx := (part (ℓ := xsL c) (I := rows (blk c 3) 2048) g (fun (i : S8192x2048.Idx) hi => by
    unfold blk at hi; rw [mem_rowsOf] at hi; rw [Finset.mem_sdiff, Finset.mem_sdiff]; unfold blk; rw [mem_rowsOf, mem_rowsOf]
    exact ⟨⟨Finset.mem_univ _, by omega⟩, by omega⟩)) $$ Hx
  icases Hx with ⟨Hx3, Hx⟩
  ihave Hx := (part (ℓ := xsL c) (I := rows (blk c 0) 2048) g (fun (i : S8192x2048.Idx) hi => by
    unfold blk at hi; rw [mem_rowsOf] at hi; rw [Finset.mem_sdiff, Finset.mem_sdiff, Finset.mem_sdiff]; unfold blk; rw [mem_rowsOf, mem_rowsOf, mem_rowsOf]
    exact ⟨⟨⟨Finset.mem_univ _, by omega⟩, by omega⟩, by omega⟩)) $$ Hx
  icases Hx with ⟨Hx0, -⟩
  ihave Hr := (part (ℓ := rvL c) (I := rslab (hop 1 c).val 0 2048) r (Finset.subset_univ _)) $$ Hr
  icases Hr with ⟨Hr1, Hr⟩
  ihave Hr := (part (ℓ := rvL c) (I := rslab (hop 2 c).val 0 2048) r (fun (i : S4x2048x2048.Idx) hi => by
    rw [hop_val, mem_slabOf] at hi; rw [hop_val, Finset.mem_sdiff, mem_slabOf]; exact ⟨Finset.mem_univ _, by omega⟩)) $$ Hr
  icases Hr with ⟨Hr2, Hr⟩
  ihave Hr := (part (ℓ := rvL c) (I := rslab (hop 3 c).val 0 2048) r (fun (i : S4x2048x2048.Idx) hi => by
    rw [hop_val, mem_slabOf] at hi; rw [hop_val, hop_val, Finset.mem_sdiff, Finset.mem_sdiff, mem_slabOf, mem_slabOf]
    exact ⟨⟨Finset.mem_univ _, by omega⟩, by omega⟩)) $$ Hr
  icases Hr with ⟨Hr3, -⟩
  isplitl [Hx1]; · iexact Hx1
  isplitl [Hx2]; · iexact Hx2
  isplitl [Hx3]; · iexact Hx3
  isplitl [Hx0]; · iexact Hx0
  isplitl [Hr1]; · iexact Hr1
  isplitl [Hr2]; · iexact Hr2
  iexact Hr3

end Buffers

/-! ## The semaphores -/

/-- The kernel's own semaphores. -/
def osem (k : Fin 16) : SemLoc sig := .dma (semN (1 + k.val))

theorem ownSemFacts : Pipeline.OwnSemFacts cfg0.spec osem := by decide

theorem kcell_injective : Function.Injective (kcell : Dev nD × Fin 10 → GSem nD τ sig) := by
  rintro ⟨c, k⟩ ⟨c', k'⟩ h
  have h1 : c = c' := congrArg (fun g : GSem nD τ sig => g.1.1) h
  have h2 : csem k = csem k' := congrArg Prod.snd h
  have h3 : k = k' := by clear h h1; revert k k'; decide +kernel
  rw [h1, h3]

/-- A device's ten cells, in the order the body names them. -/
theorem ten (Ψ : GSem nD τ sig → sProp 𝕄) (c : Dev nD) : bigSep Finset.univ (fun k : Fin 10 => Ψ (kcell (c, k)))
    = iprop(Ψ (dcell c 8) ∗ Ψ (dcell c 9) ∗ Ψ (dcell c 10) ∗ Ψ (dcell c 11) ∗ Ψ (dcell c (12 + (hop 1 c).val)) ∗ Ψ (dcell c (12 + (hop 2 c).val))
      ∗ Ψ (dcell c (12 + (hop 3 c).val)) ∗ Ψ (dcell c (12 + c.val)) ∗ Ψ (dcell c 16) ∗ Ψ (bcell c)) := by
  have hd (d : Dev nD) : kcell (c, ⟨4 + d.val, by have : d.val < 4 := d.isLt; omega⟩) = dcell c (12 + d.val) := by
    have hd : d.val < 4 := d.isLt
    unfold kcell csem
    rw [if_pos (show 4 + d.val < 9 by omega), show 8 + (4 + d.val) = 12 + d.val by omega]
  rw [← hd (hop 1 c), ← hd (hop 2 c), ← hd (hop 3 c), ← hd c,
    bigSep_univ_eq_bigSepL [(0 : Fin 10), 1, 2, 3, ⟨4 + (hop 1 c).val, by have : (hop 1 c).val < 4 := (hop 1 c).isLt; omega⟩,
      ⟨4 + (hop 2 c).val, by have : (hop 2 c).val < 4 := (hop 2 c).isLt; omega⟩, ⟨4 + (hop 3 c).val, by have : (hop 3 c).val < 4 := (hop 3 c).isLt; omega⟩,
      ⟨4 + c.val, by have : c.val < 4 := c.isLt; omega⟩, 8, 9] (by revert c; decide +kernel) (by revert c; decide +kernel)]
  rfl

/-- The sixteen semaphores of the kernel are those of its local copies and those its messages complete on. -/
theorem ownSems0_eq (c : Dev nD) : (Pipeline.ownSems0 (Ix := Unit) (Name := ℕ) (U := UU) (Lvl := ℕ) (Val := Elt F) (τ := τ) osem c : sProp 𝕄)
    = iprop(sv c 1 ∗ sv c 2 ∗ sv c 3 ∗ sv c 4 ∗ sv c 5 ∗ sv c 6 ∗ sv c 7 ∗ sv c 8 ∗ sv c 9 ∗ sv c 10 ∗ sv c 11 ∗ sv c (12 + (hop 1 c).val)
      ∗ sv c (12 + (hop 2 c).val) ∗ sv c (12 + (hop 3 c).val) ∗ sv c (12 + c.val) ∗ sv c 16) := by
  have hd (d : Dev nD) : (semVal ((c : Thread nD τ), osem ⟨11 + d.val, by have : d.val < 4 := d.isLt; omega⟩) 0 : sProp 𝕄) = sv c (12 + d.val) := by
    unfold osem
    rw [show 1 + (11 + d.val) = 12 + d.val by omega]
  rw [← hd (hop 1 c), ← hd (hop 2 c), ← hd (hop 3 c), ← hd c,
    Pipeline.ownSems0_eq_of_list c osem [(0 : Fin 16), 1, 2, 3, 4, 5, 6, 7, 8, 9, 10, ⟨11 + (hop 1 c).val, by have : (hop 1 c).val < 4 := (hop 1 c).isLt; omega⟩,
      ⟨11 + (hop 2 c).val, by have : (hop 2 c).val < 4 := (hop 2 c).isLt; omega⟩, ⟨11 + (hop 3 c).val, by have : (hop 3 c).val < 4 := (hop 3 c).isLt; omega⟩,
      ⟨11 + c.val, by have : c.val < 4 := c.isLt; omega⟩, 15] (by clear hd; revert c; decide +kernel) (by clear hd; revert c; decide +kernel)]
  rfl

/-- The barrier's is the one semaphore the kernel does not own. -/
theorem unscopedSems0_eq (c : Dev nD) : (unscopedSems0 c : sProp 𝕄) = semVal (bcell c) 0 := by
  unfold unscopedSems0; rw [bigSep_eq_bigSepL_of_eq [SemLoc.reg barS] (by decide) (by decide)]; rfl

theorem sems_split (c : Dev nD) :
    iprop(Pipeline.ownSems0 (Ix := Unit) (Name := ℕ) (U := UU) (Lvl := ℕ) (Val := Elt F) (τ := τ) osem c ∗ unscopedSems0 c)
      ⊢ (iprop(locals (F := F) c ∗ zeros (F := F) c) : sProp 𝕄) := by
  rw [ownSems0_eq, unscopedSems0_eq]
  unfold locals zeros
  iintro ⟨⟨H1, H2, H3, H4, H5, H6, H7, Z8, Z9, Z10, Z11, ZR1, ZR2, ZR3, ZR0, Z16⟩, ZB⟩
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  isplitl [Z8]; · iexact Z8
  isplitl [Z9]; · iexact Z9
  isplitl [Z10]; · iexact Z10
  isplitl [Z11]; · iexact Z11
  isplitl [ZR1]; · iexact ZR1
  isplitl [ZR2]; · iexact ZR2
  isplitl [ZR3]; · iexact ZR3
  isplitl [ZR0]; · iexact ZR0
  isplitl [Z16]; · iexact Z16
  iexact ZB

theorem sems_join (c : Dev nD) :
    iprop(locals (F := F) c ∗ zeros (F := F) c)
      ⊢ (iprop(unscopedSems0 c ∗ Pipeline.ownSems0 (Ix := Unit) (Name := ℕ) (U := UU) (Lvl := ℕ) (Val := Elt F) (τ := τ) osem c) : sProp 𝕄) := by
  rw [ownSems0_eq, unscopedSems0_eq]
  unfold locals zeros
  iintro ⟨⟨H1, H2, H3, H4, H5, H6, H7⟩, ⟨Z8, Z9, Z10, Z11, ZR1, ZR2, ZR3, ZR0, Z16, ZB⟩⟩
  isplitl [ZB]; · iexact ZB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Z8]; · iexact Z8
  isplitl [Z9]; · iexact Z9
  isplitl [Z10]; · iexact Z10
  isplitl [Z11]; · iexact Z11
  isplitl [ZR1]; · iexact ZR1
  isplitl [ZR2]; · iexact ZR2
  isplitl [ZR3]; · iexact ZR3
  isplitl [ZR0]; · iexact ZR0
  iexact Z16

/-! ## The tokens -/

section Tokens
variable (X : Dev nD → Vec F S8192x2048 .f32)

/-- The duties of a device's own cells: who raises its barrier, and the messages completing on its semaphores. -/
abbrev tokOf (cj : Dev nD × Fin 11) : GSem nD τ sig × ℕ × Fin 4 := match cj.2 with
  | 0 => (bcell cj.1, 0, hop 1 cj.1) | 1 => (bcell cj.1, 0, hop 2 cj.1) | 2 => (bcell cj.1, 0, hop 3 cj.1)
  | 3 => (dcell cj.1 8, 0, 0) | 4 => (dcell cj.1 9, 0, 0) | 5 => (dcell cj.1 10, 0, 0) | 6 => (dcell cj.1 11, 0, 0)
  | 7 => (dcell cj.1 (12 + (hop 1 cj.1).val), 0, 0) | 8 => (dcell cj.1 (12 + (hop 2 cj.1).val), 0, 0)
  | 9 => (dcell cj.1 (12 + (hop 3 cj.1).val), 0, 0) | 10 => (dcell cj.1 16, 0, 0)

theorem tokOf_injective : Function.Injective (tokOf : Dev nD × Fin 11 → GSem nD τ sig × ℕ × Fin 4) := by
  rintro ⟨c, j⟩ ⟨c', j'⟩ h
  have h1 : c = c' := by
    have := congrArg (fun x : GSem nD τ sig × ℕ × Fin 4 => x.1.1.1) h
    fin_cases j <;> fin_cases j' <;> exact this
  subst h1
  have h2 : (tokOf (c, j)).1.2 = (tokOf (c, j')).1.2 ∧ (tokOf (c, j)).2.2 = (tokOf (c, j')).2.2 := by rw [h]; exact ⟨rfl, rfl⟩
  have h3 : j = j' := by clear h; revert c j j'; decide +kernel
  rw [h3]

def cells : Finset (GSem nD τ sig) := Finset.univ.map ⟨kcell, kcell_injective⟩
def tokens : Finset (GSem nD τ sig × ℕ × Fin 4) := Finset.univ.map ⟨tokOf, tokOf_injective⟩

/-- The tokens of the duties of device `c`'s own cells. -/
def minted (c : Dev nD) : sProp 𝕄 :=
  iprop(tokB c (hop 1 c) ∗ tokB c (hop 2 c) ∗ tokB c (hop 3 c) ∗ tokD c 8 ∗ tokD c 9 ∗ tokD c 10 ∗ tokD c 11
    ∗ tokD c (12 + (hop 1 c).val) ∗ tokD c (12 + (hop 2 c).val) ∗ tokD c (12 + (hop 3 c).val) ∗ tokD c 16)

/-- What the launch deals device `c`. -/
def G (c : Dev nD) : sProp 𝕄 :=
  iprop((bigSep Finset.univ fun k : Fin 10 => roundState ER (rd X) (kcell (c, k)) 0)
    ∗ (bigSep Finset.univ fun k : Fin 10 => iprop(fresh (kcell (c, k)) ∗ reached ER (kcell (c, k)) 0)) ∗ minted (F := F) c)

/-- What it makes of it with the other devices. -/
def G' (c : Dev nD) : sProp 𝕄 := iprop(locals (F := F) c ∗ ∃ K, records X K ∗ opens (F := F) c ∗ pays (F := F) c)

theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

theorem fund_all : BI.own (ER (initOf cells tokens)) ⊢ (|==> bigSep Finset.univ (G X) : sProp 𝕄) := by
  have hX (Φ : GSem nD τ sig → sProp 𝕄) : bigSep cells Φ = bigSep Finset.univ fun c : Dev nD => bigSep Finset.univ fun k : Fin 10 => Φ (kcell (c, k)) := by
    unfold cells; rw [bigSep_map, bigSep_univ_prod]; rfl
  have hT : bigSep tokens (fun x => (dutyTok ER x.1 x.2.1 x.2.2 : sProp 𝕄)) = bigSep Finset.univ fun c : Dev nD => minted (F := F) c := by
    unfold tokens; rw [bigSep_map, bigSep_univ_prod]
    exact bigSep_congr fun c _ => by unfold minted; rw [bigSep_fin11]; rfl
  iintro H
  imod (Rounds.fund ER (rd X) cells tokens) $$ H with ⟨Hst, Hr, Hat, Htok⟩
  imodintro
  ihave Hst := (Entails.of_eq (hX fun g => roundState ER (rd X) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-- A family over the devices and those `j` places on is that over the devices `k` places on, `j + k` a full turn. -/
theorem around (j k : ℕ) (h : (j + k) % 4 = 0) (Φ : Dev nD → Dev nD → sProp 𝕄) :
    bigSep Finset.univ (fun c : Dev nD => Φ c (hop j c)) = bigSep Finset.univ (fun c : Dev nD => Φ (hop k c) c) := by
  rw [bigSep_univ_equiv (turn k j (by omega)) (fun c : Dev nD => Φ c (hop j c))]
  exact bigSep_congr fun c _ => by
    show Φ (hop k c) (hop j (hop k c)) = _
    rw [hop_hop j k h]

/-- The tokens in the hands of those who pay the duties. -/
theorem dealt : (bigSep Finset.univ fun c : Dev nD => (minted (F := F) c : sProp 𝕄)) ⊢ bigSep Finset.univ fun c : Dev nD => pays (F := F) c := by
  unfold minted pays
  simp only [bigSep_sep']
  rw [around 1 3 rfl (fun d c => tokB (F := F) d c), around 2 2 rfl (fun d c => tokB (F := F) d c), around 3 1 rfl (fun d c => tokB (F := F) d c),
    around 1 3 rfl (fun d c => tokD (F := F) d (12 + c.val)), around 2 2 rfl (fun d c => tokD (F := F) d (12 + c.val)),
    around 3 1 rfl (fun d c => tokD (F := F) d (12 + c.val)), around 2 2 rfl (fun d c => tokD (F := F) d 16)]
  iintro ⟨B1, B2, B3, D8, D9, D10, D11, R1, R2, R3, R16⟩
  isplitl [B3]; · iexact B3
  isplitl [B2]; · iexact B2
  isplitl [B1]; · iexact B1
  isplitl [D8]; · iexact D8
  isplitl [D9]; · iexact D9
  isplitl [D10]; · iexact D10
  isplitl [D11]; · iexact D11
  isplitl [R3]; · iexact R3
  isplitl [R2]; · iexact R2
  isplitl [R1]; · iexact R1
  iexact R16

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (rd X) κ (kcell (c, k))))
          ∗ (bigSep Finset.univ fun k => iprop(fresh (F := F) (kcell (c, k)) ∗ reached ER (kcell (c, k)) 0)) ∗ minted (F := F) c ∗ locals (F := F) c) := by
  unfold G
  iintro ⟨Hos, Hus, Hst, Hat, Htok⟩
  ihave Hv := (sems_split (F := F) c) $$ [Hos Hus]
  · isplitl [Hos]; · iexact Hos
    iexact Hus
  icases Hv with ⟨Hl, Hv⟩
  ihave Hv := (Entails.of_eq (show zeros (F := F) c = bigSep Finset.univ (fun k : Fin 10 => semVal (kcell (c, k)) 0) by
    rw [ten (fun g => semVal g 0)]; rfl)) $$ Hv
  imod (show iprop((bigSep Finset.univ fun k : Fin 10 => semVal (kcell (c, k)) 0) ∗ bigSep Finset.univ fun k : Fin 10 => roundState ER (rd X) (kcell (c, k)) 0)
      ⊢ (|={Set.univ}=> bigSep Finset.univ fun k => iprop(∃ κ : ℕ, cellInv ER (rd X) κ (kcell (c, k))) : sProp 𝕄) from by
        rw [← bigSep_sep']
        exact (bigSep_mono fun k _ => (Rounds.body_intro ER (rd X) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Htok]; · iexact Htok
  iexact Hl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd X) κ (kcell (c, k))))
          ∗ (bigSep Finset.univ fun k => iprop(fresh (F := F) (kcell (c, k)) ∗ reached ER (kcell (c, k)) 0)) ∗ minted (F := F) c ∗ locals (F := F) c) : sProp 𝕄)
      ⊢ bigSep Finset.univ (G' X) := by
  rw [bigSep_sep', bigSep_sep', bigSep_sep', ← bigSep_univ_prod (fun ck : Dev nD × Fin 10 => iprop(∃ κ : ℕ, cellInv ER (rd X) κ (kcell ck))),
    bigSep_congr (s := Finset.univ) (fun (c : Dev nD) _ => bigSep_sep' Finset.univ (fun k : Fin 10 => (fresh (kcell (c, k)) : sProp 𝕄)) (fun k => reached ER (kcell (c, k)) 0)),
    bigSep_sep', ← bigSep_univ_prod (fun ck : Dev nD × Fin 10 => (reached ER (kcell ck) 0 : sProp 𝕄))]
  iintro ⟨HI, ⟨Hat, #HR⟩, Htok, Hl⟩
  ihave HK := (BI.bigSep_exists_pi Finset.univ (fun (ck : Dev nD × Fin 10) (κ : ℕ) => (cellInv ER (rd X) κ (kcell ck) : sProp 𝕄))) $$ HI
  icases HK with ⟨%K, #HI⟩
  ihave Htk := (dealt (F := F)) $$ Htok
  iapply (with_persistent (R := records X K)
    (Φ := fun c : Dev nD => iprop((bigSep Finset.univ fun k : Fin 10 => (fresh (kcell (c, k)) : sProp 𝕄)) ∗ pays (F := F) c ∗ locals (F := F) c)) fun c _ => by
      rw [ten (fun g => fresh (F := F) g)]
      unfold G' opens
      iintro ⟨#HR, Hat, Htk, Hl⟩
      isplitl [Hl]; · iexact Hl
      iexists K
      isplitr; · iexact HR
      isplitl [Hat]; · iexact Hat
      iexact Htk)
  isplitr
  · unfold records
    isplitr; · iexact HI
    iexact HR
  rw [bigSep_sep', bigSep_sep']
  isplitl [Hat]; · iexact Hat
  isplitl [Htk]; · iexact Htk
  iexact Hl

/-- The devices' protocol set up, at once for all. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

end Tokens

/-! ## The credit -/

/-- What every device owes the one `j` places on is credit for what is owed from `k` places on, `j + k` a full turn. -/
theorem credit_turn (j k : ℕ) (h : (j + k) % 4 = 0) (sm : Dev nD → SemLoc sig) (N : Dev nD → ℕ) (c : Dev nD) :
    (Pipeline.launchCred (fun d : Dev nD => tallyAt ((hop j d : Thread nD τ), sm d) () (N d)) c : sProp 𝕄)
      = cred (tallyAt ((c : Thread nD τ), sm (hop k c)) () (N (hop k c))) := by
  have hs : (∑ d : Dev nD, (tallyAt ((hop j d : Thread nD τ), sm d) () (N d) : CellTallies nD τ sig Unit))
      = ∑ c : Dev nD, tallyAt ((c : Thread nD τ), sm (hop k c)) () (N (hop k c)) := by
    rw [← Equiv.sum_comp (turn k j (by omega)) (fun d : Dev nD => (tallyAt ((hop j d : Thread nD τ), sm d) () (N d) : CellTallies nD τ sig Unit))]
    refine Finset.sum_congr rfl fun c _ => ?_
    show tallyAt ((hop j (hop k c) : Thread nD τ), sm (hop k c)) () (N (hop k c)) = _
    rw [hop_hop j k h]
  have ht (d : Dev nD) (g : GSem nD τ sig) (hg : (tallyAt ((d : Thread nD τ), sm (hop k d)) () (N (hop k d)) : CellTallies nD τ sig Unit) g ≠ 0) :
      g.1 = (d : Thread nD τ) := by
    by_contra hn
    exact hg (tallyAt_ne_cell (fun hh => hn (by rw [hh])) _ _)
  exact Pipeline.launchCred_of_sum _ _ hs ht c

theorem gains_intro (c : Dev nD) : (Pipeline.launchCred O₀ c : sProp 𝕄) ⊢ gains (F := F) c := by
  have hsum : (O₀ : Dev nD → CellTallies nD τ sig Unit) = fun c => ((((((0 + tallyAt (dcell (hop 2 c) 16) () Nhalf)
      + tallyAt (dcell (hop 2 c) (12 + c.val)) () Nhalf) + tallyAt (dcell (hop 3 c) (12 + c.val)) () Nfull) + tallyAt (dcell (hop 1 c) (12 + c.val)) () Nfull)
      + tallyAt (bcell (hop 3 c)) () 1) + tallyAt (bcell (hop 2 c)) () 1) + tallyAt (bcell (hop 1 c)) () 1 :=
    funext fun c => by unfold O₀ oweA oweB; rw [owe_0, owe_1, owe_2, owe_3]
  rw [hsum]
  simp only [Pipeline.launchCred_add]
  rw [credit_turn 2 2 rfl (fun _ => .dma (semN 16)) (fun _ => Nhalf), credit_turn 2 2 rfl (fun d => .dma (semN (12 + d.val))) (fun _ => Nhalf),
    credit_turn 3 1 rfl (fun d => .dma (semN (12 + d.val))) (fun _ => Nfull), credit_turn 1 3 rfl (fun d => .dma (semN (12 + d.val))) (fun _ => Nfull),
    credit_turn 3 1 rfl (fun _ => .reg barS) (fun _ => 1), credit_turn 2 2 rfl (fun _ => .reg barS) (fun _ => 1), credit_turn 1 3 rfl (fun _ => .reg barS) (fun _ => 1)]
  iintro ⟨⟨⟨⟨⟨⟨⟨-, H16⟩, H2⟩, H1⟩, H3⟩, HB⟩, HB'⟩, HB''⟩
  unfold gains due
  rw [show (tallyAt (bcell c) () 3 : CellTallies nD τ sig Unit) = tallyAt (bcell c) () 1 + tallyAt (bcell c) () 1 + tallyAt (bcell c) () 1 by
      rw [tallyAt_add, tallyAt_add],
    worth_part c (n := 16) (by decide), worth_half c, worth_full c (hop 1 c).isLt (hop_ne c 1 2 (by decide)),
    worth_full c (hop 3 c).isLt (hop_ne c 3 2 (by decide))]
  isplitl [HB HB' HB'']
  · iapply (cred_add _ _).2
    isplitl [HB HB']
    · iapply (cred_add _ _).2
      isplitl [HB]; · iexact HB
      iexact HB'
    iexact HB''
  isplitl [H1]; · iexact H1
  isplitl [H2]; · iexact H2
  isplitl [H3]; · iexact H3
  iexact H16

end Cert.KernelIdeal.Run

end
-- ==== Proof.IdealLaunch.lean ====
/- The run of the whole program on the four devices: from any memory it ends, with the arguments as they were, the
   result at the contents the body computes, and every semaphore at zero. -/
module

public import proofs.«01_k».proof.Proof.IdealSetup
public import Idealize.ShloMosaic.Lib.Pipeline.CollectiveSegs
public import Idealize.ShloMosaic.Lib.Pipeline.ValueKit

@[expose] public section

noncomputable section

namespace Cert.KernelIdeal.Run

open Cert.KernelIdeal Cert.KernelIdeal.Gen Cert.Copies
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Each device's block of `x`, and its copy of the weights, as launched. -/
def Xof : Dev nD → Vec F S8192x2048 .f32 := fun c => m (xL c)
def Wof (c : Dev nD) : Vec F S8192x4096 .f32 := m (wL c)

/-! ## The region's proof data -/

section Data
variable (c : Dev nD)

/-- What a device starts with, the scratch buffers aside, -/
def start : sProp 𝕄 :=
  iprop(G' (Xof m) c ∗ gains (F := F) c ∗ levAts L lv ∗ (xL c ↦{fullShare} Xof m c) ∗ (wL c ↦{fullShare} Wof m c) ∗ blocks (F := F) c)
/-- and with them; -/
def Φ₀ : sProp 𝕄 := iprop(start m c ∗ scratch (F := F) c)
/-- what it ends with. -/
def Φ₁ : sProp 𝕄 :=
  iprop(scratch (F := F) c ∗ locals (F := F) c ∗ zeros (F := F) c ∗ (xL c ↦{fullShare} Xof m c) ∗ (wL c ↦{fullShare} Wof m c))

/-- The result the body leaves. -/
def outV : S2048x4096.Idx → Elt F .f32 := outC c (Xof m) (Wof m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (w : Fin cfg0.W) : (dats m ρ 0 c).share w = fullShare := by unfold Dat.share; split <;> rfl

abbrev stg (X : Vec F S2048x4096 .f32) : sProp 𝕄 :=
  iprop(∃ f : Buf (Elt F) (oL c), ⌜f = X⌝ ∗ (oL c ↦{fullShare} f))

def bodyPre : sProp 𝕄 :=
  iprop(Φ₀ m c ∗ (dats m ρ 0 c).owesAt () t0_0.castSucc ∗ (∃ d, stg c ((dats m ρ 0 c).before (0 : Fin 1) t0_0 d)))
def bodyPost : sProp 𝕄 :=
  iprop(Φ₁ m c ∗ (dats m ρ 0 c).owesAt () t0_0.succ ∗ stg c (outV m c))

theorem body_sound :
    bodyPre m ρ c ⊢ wpc c (bodyAt0 (F := F) t0_0) (fun _ => bodyPost m ρ c) := by
  unfold bodyPre Φ₀ start G'
  iintro ⟨⟨⟨⟨Hl, ⟨%K, #HR, Hop, Hpay⟩⟩, Hg, #HL, HX, HW, Hblk⟩, Hscr⟩, Ho, ⟨%d, %f, -, Hout⟩⟩
  unfold Dat.owesAt Pipeline.owesWithin
  icases Ho with ⟨%Wt, -, HO⟩
  rw [show (dats m ρ 0 c).owed t0_0.castSucc = O₀ c from rfl]
  ihave Hroom := (room_intro (c := c) (Xof m c) (Wof m c)) $$ [Hscr Hl HX HW]
  · isplitl [Hscr]; · iexact Hscr
    isplitl [Hl]; · iexact Hl
    isplitl [HX]; · iexact HX
    iexact HW
  unfold wpc
  iapply (wp_wand_r _ _ _ (Q := fun _ => iprop(debt c 0 ∗ room c (Xof m c) (Wof m c) ∗ zeros (F := F) c ∗ (oL c ↦[otile 0 2048 0 4096]{fullShare} outC c (Xof m) (Wof m c)))))
  isplitl
  · iapply (body_runs (X := Xof m) (K := K) (c := c) (W := Wof m c))
    isplitr; · iexact HR
    isplitr; · iexact HL
    isplitl [HO]; · iexists Wt; iexact HO
    isplitl [Hpay]; · iexact Hpay
    isplitl [Hop]; · iexact Hop
    isplitl [Hg]; · iexact Hg
    isplitl [Hroom]; · iexact Hroom
    isplitl [Hblk]; · iexact Hblk
    iexists f
    rw [o_all]
    iexact Hout
  iintro %u ⟨⟨%Wt', HO⟩, Hroom, Hz, Hout⟩
  rw [o_all]
  ihave Hroom := (room_elim (c := c) (Xof m c) (Wof m c)) $$ Hroom
  icases Hroom with ⟨Hscr, Hl, HX, HW⟩
  unfold bodyPost Φ₁ Dat.owesAt Pipeline.owesWithin
  rw [show (dats m ρ 0 c).owed t0_0.succ = 0 from rfl]
  isplitl [Hscr Hl Hz HX HW]
  · isplitl [Hscr]; · iexact Hscr
    isplitl [Hl]; · iexact Hl
    isplitl [Hz]; · iexact Hz
    isplitl [HX]; · iexact HX
    iexact HW
  isplitl [HO]
  · iexists Wt'
    isplitr; · ipureintro; exact fun _ _ => Or.inl trivial
    iexact HO
  iexists _
  isplitr; · ipureintro; rfl
  iexact Hout

end Data

set_option maxRecDepth 4000 in
/-- The body at the region's one point, as the pipeline asks. -/
theorem body_obligation (c : Dev nD) : BodyObligation (dats (F := F) m ρ 0 c) (defs₀ (F := F)) 𝒱₀ () Set.univ := fun t => by
  rw [fin_N0 t, bigSep_W0, bigSep_W0]
  simp only [owns_whole_eq]
  exact body_sound m ρ c

/-! ## The launch -/

def u₀ : UU :=
  (initOf (Pipeline.cells cfgs cellOf_inj) (Pipeline.launchToks cfgs cellOf_inj), (initOf cells tokens, 1))

/-- What a device hands back: its arguments, and the barrier's counter at zero. -/
def Y (c : Dev nD) : sProp 𝕄 := iprop(unscopedSems0 c ∗ (xL c ↦{fullShare} Xof m c) ∗ (wL c ↦{fullShare} Wof m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Xof m) c)
      ⊢ |={Set.univ}=> iprop(start m c ∗ emp) := by
  rw [Pipeline.unscopedRestP_none, unscopedRest0_eq]
  iintro ⟨⟨HX, HW, Hxs, Hrv⟩, Hlev, Hcr, -, HG⟩
  ihave Hc := (gains_intro (F := F) c) $$ Hcr
  ihave Hb := (blocks_intro (F := F) (c := c)) $$ [Hxs Hrv]
  · isplitl [Hxs]; · iexists _; iexact Hxs
    iexists _; iexact Hrv
  imodintro
  unfold start
  isplitl
  · isplitl [HG]; · iexact HG
    isplitl [Hc]; · iexact Hc
    isplitl [Hlev]; · iexact Hlev
    isplitl [HX]; · iexact HX
    isplitl [HW]; · iexact HW
    iexact Hb
  iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq]
  unfold Φ₁ scratch Y
  iintro ⟨Hr, Hl, Hz, HX, HW⟩
  ihave Hs := (sems_join (F := F) c) $$ [Hl Hz]
  · isplitl [Hl]; · iexact Hl
    iexact Hz
  icases Hs with ⟨Hu, Ho⟩
  isplitl [Hu HX HW]
  · isplitl [Hu]; · iexact Hu
    isplitl [HX]; · iexact HX
    iexact HW
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    have hlv : lv ((c : Thread nD τ), .dma ((cfg0.win w).sem s)) () ≤ 0 := by
      fin_cases w
      fin_cases s
      clear t
      revert c
      decide
    rcases t with ⟨_ | _, ht⟩
    · exact mayWait_of_above (above_O₀ c) c _ hlv
    · exact mayWait_of_above (above_zero 0) c _ hlv

theorem args_read (c : Dev nD) (s' : Phys nD τ sig (Elt F)) :
    iprop(Y m c ∗ emp ∗ SI s') ⊢ |={Set.univ}=> iprop(⌜(s'.mem.mem (xL c) = m (xL c) ∧ s'.mem.mem (wL c) = m (wL c))
      ∧ ∀ sm : SemLoc sig, sm.isScoped .tc = false → s'.mem.sem ((c.tc : Thread nD τ), sm) = 0⌝ ∗ SI s' : sProp 𝕄) := by
  unfold Y
  iintro ⟨⟨Hu, HX, HW⟩, -, HSI⟩
  ihave %hX := (SI_pointsTo_agree (ℓ := xL c) (I := Finset.univ) (q := fullShare) (f := Xof m c)) $$ [HSI HX]
  · isplitl [HSI]; · iexact HSI
    iexact HX
  ihave %hW := (SI_pointsTo_agree (ℓ := wL c) (I := Finset.univ) (q := fullShare) (f := Wof m c)) $$ [HSI HW]
  · isplitl [HSI]; · iexact HSI
    iexact HW
  imod (Pipeline.unscopedSems0_read (X := unscopedSems0 c) (c := c) fupd_intro s') $$ [Hu HSI] with ⟨%hs, HSI⟩
  · isplitl [Hu]; · iexact Hu
    iexact HSI
  imodintro
  isplitr
  · ipureintro
    exact ⟨⟨funext fun i => hX i (Finset.mem_univ i), funext fun i => hW i (Finset.mem_univ i)⟩, hs⟩
  iexact HSI

/-- The result array at the end. -/
def finalA (c : Dev nD) (w : Fin cfg0.W) : Buf (Elt F) ((cfg0.win w).arr.view.loc (c : Thread nD τ)) := (dats m ρ 0 c).arrAt w cfg0.N

theorem finalA_eq (c : Dev nD) : finalA m ρ c (0 : Fin 1) = outV m c := by
  unfold finalA
  refine (dats m ρ 0 c).arrAt_eq_of_after_last (0 : Fin 1) t0_0 (by decide +kernel) _ fun j => ?_
  blk_simp
  rfl

set_option maxRecDepth 8000 in
/-- From any memory with zero counters every weakly fair execution of the four devices ends, the result arrays at the
    contents named, the arguments unchanged, every counter at zero. -/
theorem run_main : θ_run defs (onTc (τ := τ) (main (F := F))) (s₀ m ρ) (fun r =>
    (∀ c : Dev nD, (∀ w, r.2.mem ((cfg0.win w).arr.view.loc (c : Thread nD τ)) = finalA m ρ c w)
      ∧ r.2.mem (xL c) = m (xL c) ∧ r.2.mem (wL c) = m (wL c)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Xof m)) (G' := G' (Xof m)) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (fund_all (Xof m)) $$ HX with HG
      imodintro
      isplitl [HP] <;> iassumption)
    (hglob := glob (Xof m))
    (hA := fun _ _ => rfl) (hpf := fun _ k => k.elim0)
    (X := start m) (Y := Y m) (Z := fun _ => iprop(emp))
    (hX := start_intro m ρ) (hin := phi0_intro m ρ) (hout := phi1_exit m ρ)
    (QY := fun c s => (s.mem (xL c) = m (xL c) ∧ s.mem (wL c) = m (wL c)) ∧ ∀ sm : SemLoc sig, sm.isScoped .tc = false → s.sem ((c.tc : Thread nD τ), sm) = 0)
    (hY := args_read m)
    (hQ := fun _ h hs => ⟨fun c => ⟨(h c).1, (h c).2.2.1⟩, sem_eq_zero hs fun c => (h c).2.2.2⟩)

end Cert.KernelIdeal.Run

end
-- ==== Proof.IdealValue.lean ====
/- What the run leaves, over the extended reals: each device's result is its block of rows of the product of the whole
   left array with the weights. A block's product is added as a sum over 2048 terms; the four blocks, taken in an order
   that depends on the device, make up the 8192 terms of the whole. -/
module

public import proofs.«01_k».proof.Proof.IdealBody
public import proofs.«01_k».proof.Proof.Gen.ReferenceIdeal.Run
public import Idealize.ShloMosaic.Lib.Layout
public import Idealize.ShloMosaic.Lib.MatmulPlain
public import Idealize.ShloMosaic.Lib.Pipeline.ValueKit.Acc

@[expose] public section

set_option maxRecDepth 16384

noncomputable section

namespace Cert.KernelIdeal.Run

open Cert.KernelIdeal Cert.KernelIdeal.Gen Cert.Copies
open Idealize.ShloMosaic Idealize.ShloMosaic.ValueIdx
open scoped BigOperators

/-! ## One tile -/

/-- A payload adds to the result's tile the product of the left rows with the weights' tile. -/
def Adds (n : ℕ) (pay : Pay Ideal n) : Prop := ∀ (w : Vec Ideal S1x2048x512 .f32) (o : Vec Ideal ⟨2, ![n, 512]⟩ .f32)
  (a : Vec Ideal ⟨2, ![n, 2048]⟩ .bf16) (p : Fin n) (q : Fin 512),
  (pay w o a (ix2 p q) : EReal) = o (ix2 p q) + ∑ k : Fin 2048, (a (ix2 p k) : EReal) * w (ix3 (0 : Fin 1) k q)

/-- The zero the products are accumulated onto drops out, the reshapes only rename indices, and the narrowing is exact. -/
theorem adds_of {n : ℕ} (w : Vec Ideal S1x2048x512 .f32) (o : FVec Ideal ⟨2, ![n, 512]⟩ .f32)
    (a : FVec Ideal ⟨2, ![n, 2048]⟩ .bf16) (p : Fin n) (q : Fin 512) (h : S1x2048x512.ShapeCasts S2048x512)
    (h' : (⟨2, ![n, 512]⟩ : Shape).ShapeCasts ⟨2, ![n, 512]⟩) :
    (addf (shapeCast ⟨2, ![n, 512]⟩ o h') (matmul (DotDims.plain n 2048 512) none a
        (truncf .bf16 (shapeCast S2048x512 w h : FVec Ideal S2048x512 .f32) bitsLt_bf16_f32)
        (constant ⟨2, ![n, 512]⟩ .f32 0x00000000#32)) (ix2 p q) : EReal)
      = o (ix2 p q) + ∑ k : Fin 2048, (a (ix2 p k) : EReal) * w (ix3 (0 : Fin 1) k q) := by
  rw [shapeCast_self]
  show (o (ix2 p q) : EReal) + FloatOps.matmul (DotDims.plain n 2048 512) none a _ _ (ix2 p q) = _
  rw [Ideal.matmul_plain_apply]
  show (o (ix2 p q) : EReal) + (Ideal.ofBits .f32 0x00000000#32 + _) = _
  rw [Ideal.ofBits_zero_f32, zero_add]
  refine congrArg ((o (ix2 p q) : EReal) + ·) (Finset.sum_congr rfl fun k _ => congrArg ((a (ix2 p k) : EReal) * ·) ?_)
  show w (Shape.reshapeEquiv _ (ix2 k q)) = _
  exact congrArg w (unsqueeze_val _ _)

theorem adds6 : Adds 2048 (k0_pay6 (F := Ideal)) := fun w o a p q => adds_of w o a p q _ _
theorem adds7 : Adds 2048 (k0_pay7 (F := Ideal)) := fun w o a p q => adds_of w o a p q _ _
theorem adds8 : Adds 2048 (k0_pay8 (F := Ideal)) := fun w o a p q => adds_of w o a p q _ _
theorem adds9 : Adds 1024 (k0_pay9 (F := Ideal)) := fun w o a p q => adds_of w o a p q _ _
theorem adds10 : Adds 1024 (k0_pay10 (F := Ideal)) := fun w o a p q => adds_of w o a p q _ _

/-! ## One block -/

/-- What 2048 terms add up to: row `a` of the left operand from its first column, column `b` of the weights from row `j`. -/
def part2048 (Y : Vec Ideal S8192x2048 .f32) (W : Vec Ideal S8192x4096 .f32) (a j b : ℕ) : EReal :=
  ∑ k : Fin 2048, (at2 Y a k.val : EReal) * at2 W (j + k.val) b

/-- A block's product, where the block's rows reach, adds its 2048 terms. -/
theorem gemm_at {n : ℕ} [NeZero n] {pay : Pay Ideal n} (hp : Adds n pay) (Y : Vec Ideal S8192x2048 .f32)
    (W : Vec Ideal S8192x4096 .f32) (lo r j a : ℕ) (f : Vec Ideal S2048x4096 .f32) (i : S2048x4096.Idx)
    (hr : r ≤ (i 0).val) (hn : (i 0).val - r < n) (hle : n ≤ 2048) (ha : a = lo + ((i 0).val - r)) :
    (gemmOut n pay W (left Y lo) r j f i : EReal) = f i + part2048 Y W a j (i 1).val := by
  subst ha
  unfold gemmOut
  refine (at2_eq (pay _ _ _) (ix2 (⟨(i 0).val - r, hn⟩ : Fin n) (⟨(i 1).val % 512, Nat.mod_lt _ (by decide)⟩ : Fin 512)) rfl rfl).trans ?_
  refine (hp _ _ _ _ _).trans ?_
  refine congrArg₂ (· + ·) (at2_eq f i ?_ ?_) (Finset.sum_congr rfl fun k _ => congrArg₂ (· * ·) ?_ (at2_congr W rfl ?_))
  · show (i 0).val = r + ((i 0).val - r); omega
  · show (i 1).val = 512 * ((i 1).val / 512) + (i 1).val % 512; omega
  · show (at2 (left Y lo) ((i 0).val - r) k.val : EReal) = _
    exact at2_eq (left Y lo) (ix2 (⟨(i 0).val - r, by omega⟩ : Fin 2048) k) rfl rfl
  · show 512 * ((i 1).val / 512) + (i 1).val % 512 = (i 1).val; omega

/-! ## The four blocks -/

variable (c : Dev nD) (X : Dev nD → Vec Ideal S8192x2048 .f32) (W : Vec Ideal S8192x4096 .f32)

/-- What device `d`'s columns contribute to row `a`, column `b`. -/
def share (a b : ℕ) (d : Dev nD) : EReal := part2048 (X d) W a (2048 * d.val) b

theorem blk_from (j : ℕ) : blk c j = 2048 * (hop j c).val := rfl
theorem blk_own : blk c 0 = 2048 * c.val := by
  have h : c.val < 4 := c.isLt
  show 2048 * ((c.val + 0) % 4) = _
  omega

/-- The device's result, an element: the own block's share, then those of the devices three, one and two on. -/
theorem outC_at (i : S2048x4096.Idx) : (outC c X W i : EReal)
    = share X W (2048 * c.val + (i 0).val) (i 1).val c + share X W (2048 * c.val + (i 0).val) (i 1).val (hop 3 c)
      + share X W (2048 * c.val + (i 0).val) (i 1).val (hop 1 c) + share X W (2048 * c.val + (i 0).val) (i 1).val (hop 2 c) := by
  have hi : (i 0).val < 2048 := (i 0).isLt
  have h1 : (out1 c X W i : EReal) = share X W (2048 * c.val + (i 0).val) (i 1).val c := by
    unfold out1 share
    rw [gemm_at adds6 (X c) W (blk c 0) 0 (blk c 0) (2048 * c.val + (i 0).val) _ i (Nat.zero_le _) (by omega) (le_refl _)
      (by rw [blk_own]; rfl), blk_own]
    show (Ideal.ofBits .f32 0x00000000#32 : EReal) + _ = _
    rw [Ideal.ofBits_zero_f32, zero_add]
  have h2 : (out2 c X W i : EReal) = share X W (2048 * c.val + (i 0).val) (i 1).val c + share X W (2048 * c.val + (i 0).val) (i 1).val (hop 3 c) := by
    unfold out2
    rw [gemm_at adds7 (X (hop 3 c)) W (blk c 0) 0 (blk c 3) (2048 * c.val + (i 0).val) _ i (Nat.zero_le _) (by omega) (le_refl _)
      (by rw [blk_own]; rfl), h1, blk_from]
    rfl
  have h3 : (out3 c X W i : EReal) = share X W (2048 * c.val + (i 0).val) (i 1).val c + share X W (2048 * c.val + (i 0).val) (i 1).val (hop 3 c)
      + share X W (2048 * c.val + (i 0).val) (i 1).val (hop 1 c) := by
    unfold out3
    rw [gemm_at adds8 (X (hop 1 c)) W (blk c 0) 0 (blk c 1) (2048 * c.val + (i 0).val) _ i (Nat.zero_le _) (by omega) (le_refl _)
      (by rw [blk_own]; rfl), h2, blk_from]
    rfl
  unfold outC
  by_cases h : (i 0).val < 1024
  · rw [if_pos h, gemm_at adds9 (X (hop 2 c)) W (blk c 0) 0 (blk c 2) (2048 * c.val + (i 0).val) _ i (Nat.zero_le _) (by omega)
      (by decide) (by rw [blk_own]; rfl), h3, blk_from]
    rfl
  · rw [if_neg h, gemm_at adds10 (X (hop 2 c)) W (blk c 0 + 1024) 1024 (blk c 2) (2048 * c.val + (i 0).val) _ i (by omega) (by omega)
      (by decide) (by rw [blk_own]; omega), h3, blk_from]
    rfl

/-- The four devices in the order of device `c`'s visits, or in order. -/
theorem visits (g : Dev nD → EReal) : g c + g (hop 3 c) + g (hop 1 c) + g (hop 2 c) = ∑ d : Fin 4, g d := by
  rw [Fin.sum_univ_four]
  have h : ∀ (d : Dev nD) (j : ℕ) (e : Dev nD), e.val = (d.val + j) % 4 → hop j d = e := fun d j e he => Fin.ext he.symm
  have hc : c.val < 4 := c.isLt
  obtain h0 | h0 | h0 | h0 : c = (0 : Fin 4) ∨ c = (1 : Fin 4) ∨ c = (2 : Fin 4) ∨ c = (3 : Fin 4) := by
    revert c; decide
  all_goals subst h0
  · rw [h _ 3 (3 : Fin 4) rfl, h _ 1 (1 : Fin 4) rfl, h _ 2 (2 : Fin 4) rfl]; ac_rfl
  · rw [h _ 3 (0 : Fin 4) rfl, h _ 1 (2 : Fin 4) rfl, h _ 2 (3 : Fin 4) rfl]; ac_rfl
  · rw [h _ 3 (1 : Fin 4) rfl, h _ 1 (3 : Fin 4) rfl, h _ 2 (0 : Fin 4) rfl]; ac_rfl
  · rw [h _ 3 (2 : Fin 4) rfl, h _ 1 (0 : Fin 4) rfl, h _ 2 (1 : Fin 4) rfl]; ac_rfl

/-! ## The whole -/

/-- The product of the whole arrays. -/
abbrev whole (x : FVec Ideal ⟨2, ![8192, 8192]⟩ .f32) (w : FVec Ideal ⟨2, ![8192, 4096]⟩ .f32) : FVec Ideal ⟨2, ![8192, 4096]⟩ .f32 :=
  Host.dotGeneral ReferenceIdeal.dot_S8192x8192_S8192x4096_S8192x4096_1_0_0_1_n_n none x w

/-- An element of it. -/
theorem whole_at (x : FVec Ideal ⟨2, ![8192, 8192]⟩ .f32) (w : FVec Ideal ⟨2, ![8192, 4096]⟩ .f32) (p : Fin 8192) (q : Fin 4096) :
    (whole x w (ix2 p q) : EReal) = ∑ l : Fin 8192, (x (ix2 p l) : EReal) * w (ix2 l q) := by
  show (FloatOps.matmul (F := Ideal) (DotDims.plain 8192 8192 4096) none x w (fun _ => (0 : EReal)) (ix2 p q) : EReal) = _
  rw [Ideal.matmul_plain_apply]
  exact zero_add _

/-- With every device at its columns of the left array, device `c` ends with its rows of the product. -/
theorem outC_block (x : FVec Ideal ⟨2, ![8192, 8192]⟩ .f32)
    (hX : ∀ d, X d = Layout.block ⟨2, ![8192, 2048]⟩ ⟨2, ![8192, 8192]⟩ 1 4 d x) :
    outC c X W = Layout.block ⟨2, ![2048, 4096]⟩ ⟨2, ![8192, 4096]⟩ 0 4 c (whole x W) := by
  have hc : c.val < 4 := c.isLt
  funext i
  have h0 : (i 0).val < 2048 := (i 0).isLt
  have h1 : (i 1).val < 4096 := (i 1).isLt
  have hp : 2048 * c.val + (i 0).val < 8192 := by omega
  have hidx : Layout.block ⟨2, ![2048, 4096]⟩ ⟨2, ![8192, 4096]⟩ 0 4 c (whole x W) (by decide) i
      = whole x W (ix2 (⟨2048 * c.val + (i 0).val, hp⟩ : Fin 8192) (⟨(i 1).val, h1⟩ : Fin 4096)) := by
    refine congrArg (whole x W) (funext fun b => Fin.ext ?_)
    match b with
    | ⟨0, _⟩ => show c.val * 2048 + (i 0).val = 2048 * c.val + (i 0).val; omega
    | ⟨1, _⟩ => rfl
  rw [hidx]
  refine (outC_at c X W i).trans ((visits c _).trans (Eq.trans ?_ (whole_at x W _ _).symm))
  unfold share part2048
  refine Fin.sum_mul_add_congr (S := 4) (n := 2048)
    (f := fun l : Fin 8192 => (x (ix2 (⟨2048 * c.val + (i 0).val, hp⟩ : Fin 8192) l) : EReal) * W (ix2 l (⟨(i 1).val, h1⟩ : Fin 4096)))
    fun d k hl => congrArg₂ (· * ·) ?_ ?_
  · rw [hX d, at2_eq (A := 8192) (B := 2048) _ (ix2 (⟨2048 * c.val + (i 0).val, hp⟩ : Fin 8192) k) rfl rfl]
    refine congrArg x (funext fun b => Fin.ext ?_)
    match b with
    | ⟨0, _⟩ => rfl
    | ⟨1, _⟩ => rfl
  · exact at2_eq W (ix2 (⟨d.val * 2048 + k.val, hl⟩ : Fin 8192) (⟨(i 1).val, h1⟩ : Fin 4096))
      (by show d.val * 2048 + k.val = 2048 * d.val + k.val; omega) rfl

end Cert.KernelIdeal.Run

end
-- ==== Proof.lean ====
/-
  The claims about the exchange fused with the product, each from one run.

  The kernel's run is proved once in the modules `Proof/Ideal…` (over the idealized program) and again, word for word, in
  `Proof/Float…` (over the program as printed). Both are generic in the floats. `run_main` says that every weakly fair
  execution ends with the result at a named function of the arguments, the arguments unchanged and every counter at zero.
  The frames forget the value. The equality with the reference keeps it: `Proof/IdealValue` shows that over the extended
  reals the function is the device's block of rows of the whole product.
-/
module

public import proofs.«01_k».proof.Defs
public import proofs.«01_k».proof.Proof.FloatLaunch
public import proofs.«01_k».proof.Proof.IdealLaunch
public import proofs.«01_k».proof.Proof.IdealValue
public import proofs.«01_k».proof.Proof.Gen.ReferenceIdeal.Run

@[expose] public section

noncomputable section

namespace Cert.Proof

open Idealize.ShloMosaic Idealize.SL.Sem

/-- The kernel as printed: its run, the value forgotten. -/
theorem frame_kernel : Cert.quiescent_Kernel := fun m g _ =>
  (θ_run Cert.Kernel.defs _ _).mono (fun _ h => ⟨fun c => (h.1 c).2, h.2⟩) (Cert.Kernel.Run.run_main (F := Bits) m g)

/-- The idealized kernel: its run, the value forgotten. -/
theorem frame_ideal : Cert.quiescent_KernelIdeal := fun m g _ =>
  (θ_run Cert.KernelIdeal.defs _ _).mono (fun _ h => ⟨fun c => (h.1 c).2, h.2⟩) (Cert.KernelIdeal.Run.run_main (F := Ideal) m g)

/-- The reference: one host product, which writes neither argument and uses no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Device by device, the idealized kernel's result is the device's block of the reference's: the shared value is the
    product of the reference's arguments, of which every device holds its columns and all the weights. -/
theorem same_value : Cert.algebraic_KernelIdeal_ReferenceIdeal := by
  intro m g m' g' _ hagree
  refine ⟨KernelIdeal.Run.whole (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg1)), ?_, ?_⟩
  · refine (θ_run Cert.KernelIdeal.defs _ _).mono (fun r h c => ⟨?_, (h.1 c).2⟩) (Cert.KernelIdeal.Run.run_main (F := Ideal) m g)
    refine ((h.1 c).1 (0 : Fin 1)).trans ((KernelIdeal.Run.finalA_eq m g c).trans ?_)
    rw [← (hagree c).2]
    exact KernelIdeal.Run.outC_block c _ _ _ fun d => (hagree d).1
  · exact (θ_run Cert.ReferenceIdeal.defs _ _).mono (fun _ h => h 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, same_value⟩

end Cert.Proof

end
